-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackIdeal_finite_back [hPre_finite_back : Cert.Pre_finite_back.Facts] (m : (ℓ : Loc Cert.BackIdeal.nD Cert.BackIdeal.τ Cert.BackIdeal.sig) → Buf (Elt Ideal) ℓ) : Prop :=
  ∀ c : Dev Cert.BackIdeal.nD,
    (Cert.Pre_finite_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9))).1 = (fun _ => 1#1)
    ∧ (Cert.Pre_finite_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9))).2.1 = (fun _ => 1#1)
    ∧ (Cert.Pre_finite_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9))).2.2.1 = (fun _ => 1#1)
    ∧ (Cert.Pre_finite_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9))).2.2.2.1 = (fun _ => 1#1)
    ∧ (Cert.Pre_finite_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9))).2.2.2.2.1 = (fun _ => 1#1)
    ∧ (Cert.Pre_finite_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9))).2.2.2.2.2.1 = (fun _ => 1#1)
    ∧ (Cert.Pre_finite_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9))).2.2.2.2.2.2.1 = (fun _ => 1#1)
    ∧ (Cert.Pre_finite_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9))).2.2.2.2.2.2.2.1 = (fun _ => 1#1)
    ∧ (Cert.Pre_finite_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9))).2.2.2.2.2.2.2.2 = (fun _ => 1#1)

def Pre_BackReferenceIdeal (m : (ℓ : Loc Cert.BackReferenceIdeal.nD Cert.BackReferenceIdeal.τ Cert.BackReferenceIdeal.sig) → Buf (Elt Ideal) ℓ) : Prop :=
  True

def Pre_BackReferenceIdeal_finite_back [hPre_finite_back : Cert.Pre_finite_back.Facts] (m : (ℓ : Loc Cert.BackReferenceIdeal.nD Cert.BackReferenceIdeal.τ Cert.BackReferenceIdeal.sig) → Buf (Elt Ideal) ℓ) : Prop :=
  ∀ c : Dev Cert.BackReferenceIdeal.nD,
    (Cert.Pre_finite_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4)) (m ((c.tc : Thread Cert.BackReferenceIdeal.nD Cert.BackReferenceIdeal.τ).loc Cert.BackReferenceIdeal.main_arg5)) (m ((c.tc : Thread Cert.BackReferenceIdeal.nD Cert.BackReferenceIdeal.τ).loc Cert.BackReferenceIdeal.main_arg6)) (m ((c.tc : Thread Cert.BackReferenceIdeal.nD Cert.BackReferenceIdeal.τ).loc Cert.BackReferenceIdeal.main_arg7)) (m ((c.tc : Thread Cert.BackReferenceIdeal.nD Cert.BackReferenceIdeal.τ).loc Cert.BackReferenceIdeal.main_arg8)) (m ((c.tc : Thread Cert.BackReferenceIdeal.nD Cert.BackReferenceIdeal.τ).loc Cert.BackReferenceIdeal.main_arg9))).1 = (fun _ => 1#1)
    ∧ (Cert.Pre_finite_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4)) (m ((c.tc : Thread Cert.BackReferenceIdeal.nD Cert.BackReferenceIdeal.τ).loc Cert.BackReferenceIdeal.main_arg5)) (m ((c.tc : Thread Cert.BackReferenceIdeal.nD Cert.BackReferenceIdeal.τ).loc Cert.BackReferenceIdeal.main_arg6)) (m ((c.tc : Thread Cert.BackReferenceIdeal.nD Cert.BackReferenceIdeal.τ).loc Cert.BackReferenceIdeal.main_arg7)) (m ((c.tc : Thread Cert.BackReferenceIdeal.nD Cert.BackReferenceIdeal.τ).loc Cert.BackReferenceIdeal.main_arg8)) (m ((c.tc : Thread Cert.BackReferenceIdeal.nD Cert.BackReferenceIdeal.τ).loc Cert.BackReferenceIdeal.main_arg9))).2.1 = (fun _ => 1#1)
    ∧ (Cert.Pre_finite_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4)) (m ((c.tc : Thread Cert.BackReferenceIdeal.nD Cert.BackReferenceIdeal.τ).loc Cert.BackReferenceIdeal.main_arg5)) (m ((c.tc : Thread Cert.BackReferenceIdeal.nD Cert.BackReferenceIdeal.τ).loc Cert.BackReferenceIdeal.main_arg6)) (m ((c.tc : Thread Cert.BackReferenceIdeal.nD Cert.BackReferenceIdeal.τ).loc Cert.BackReferenceIdeal.main_arg7)) (m ((c.tc : Thread Cert.BackReferenceIdeal.nD Cert.BackReferenceIdeal.τ).loc Cert.BackReferenceIdeal.main_arg8)) (m ((c.tc : Thread Cert.BackReferenceIdeal.nD Cert.BackReferenceIdeal.τ).loc Cert.BackReferenceIdeal.main_arg9))).2.2.1 = (fun _ => 1#1)
    ∧ (Cert.Pre_finite_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4)) (m ((c.tc : Thread Cert.BackReferenceIdeal.nD Cert.BackReferenceIdeal.τ).loc Cert.BackReferenceIdeal.main_arg5)) (m ((c.tc : Thread Cert.BackReferenceIdeal.nD Cert.BackReferenceIdeal.τ).loc Cert.BackReferenceIdeal.main_arg6)) (m ((c.tc : Thread Cert.BackReferenceIdeal.nD Cert.BackReferenceIdeal.τ).loc Cert.BackReferenceIdeal.main_arg7)) (m ((c.tc : Thread Cert.BackReferenceIdeal.nD Cert.BackReferenceIdeal.τ).loc Cert.BackReferenceIdeal.main_arg8)) (m ((c.tc : Thread Cert.BackReferenceIdeal.nD Cert.BackReferenceIdeal.τ).loc Cert.BackReferenceIdeal.main_arg9))).2.2.2.1 = (fun _ => 1#1)
    ∧ (Cert.Pre_finite_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4)) (m ((c.tc : Thread Cert.BackReferenceIdeal.nD Cert.BackReferenceIdeal.τ).loc Cert.BackReferenceIdeal.main_arg5)) (m ((c.tc : Thread Cert.BackReferenceIdeal.nD Cert.BackReferenceIdeal.τ).loc Cert.BackReferenceIdeal.main_arg6)) (m ((c.tc : Thread Cert.BackReferenceIdeal.nD Cert.BackReferenceIdeal.τ).loc Cert.BackReferenceIdeal.main_arg7)) (m ((c.tc : Thread Cert.BackReferenceIdeal.nD Cert.BackReferenceIdeal.τ).loc Cert.BackReferenceIdeal.main_arg8)) (m ((c.tc : Thread Cert.BackReferenceIdeal.nD Cert.BackReferenceIdeal.τ).loc Cert.BackReferenceIdeal.main_arg9))).2.2.2.2.1 = (fun _ => 1#1)
    ∧ (Cert.Pre_finite_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4)) (m ((c.tc : Thread Cert.BackReferenceIdeal.nD Cert.BackReferenceIdeal.τ).loc Cert.BackReferenceIdeal.main_arg5)) (m ((c.tc : Thread Cert.BackReferenceIdeal.nD Cert.BackReferenceIdeal.τ).loc Cert.BackReferenceIdeal.main_arg6)) (m ((c.tc : Thread Cert.BackReferenceIdeal.nD Cert.BackReferenceIdeal.τ).loc Cert.BackReferenceIdeal.main_arg7)) (m ((c.tc : Thread Cert.BackReferenceIdeal.nD Cert.BackReferenceIdeal.τ).loc Cert.BackReferenceIdeal.main_arg8)) (m ((c.tc : Thread Cert.BackReferenceIdeal.nD Cert.BackReferenceIdeal.τ).loc Cert.BackReferenceIdeal.main_arg9))).2.2.2.2.2.1 = (fun _ => 1#1)
    ∧ (Cert.Pre_finite_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4)) (m ((c.tc : Thread Cert.BackReferenceIdeal.nD Cert.BackReferenceIdeal.τ).loc Cert.BackReferenceIdeal.main_arg5)) (m ((c.tc : Thread Cert.BackReferenceIdeal.nD Cert.BackReferenceIdeal.τ).loc Cert.BackReferenceIdeal.main_arg6)) (m ((c.tc : Thread Cert.BackReferenceIdeal.nD Cert.BackReferenceIdeal.τ).loc Cert.BackReferenceIdeal.main_arg7)) (m ((c.tc : Thread Cert.BackReferenceIdeal.nD Cert.BackReferenceIdeal.τ).loc Cert.BackReferenceIdeal.main_arg8)) (m ((c.tc : Thread Cert.BackReferenceIdeal.nD Cert.BackReferenceIdeal.τ).loc Cert.BackReferenceIdeal.main_arg9))).2.2.2.2.2.2.1 = (fun _ => 1#1)
    ∧ (Cert.Pre_finite_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4)) (m ((c.tc : Thread Cert.BackReferenceIdeal.nD Cert.BackReferenceIdeal.τ).loc Cert.BackReferenceIdeal.main_arg5)) (m ((c.tc : Thread Cert.BackReferenceIdeal.nD Cert.BackReferenceIdeal.τ).loc Cert.BackReferenceIdeal.main_arg6)) (m ((c.tc : Thread Cert.BackReferenceIdeal.nD Cert.BackReferenceIdeal.τ).loc Cert.BackReferenceIdeal.main_arg7)) (m ((c.tc : Thread Cert.BackReferenceIdeal.nD Cert.BackReferenceIdeal.τ).loc Cert.BackReferenceIdeal.main_arg8)) (m ((c.tc : Thread Cert.BackReferenceIdeal.nD Cert.BackReferenceIdeal.τ).loc Cert.BackReferenceIdeal.main_arg9))).2.2.2.2.2.2.2.1 = (fun _ => 1#1)
    ∧ (Cert.Pre_finite_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4)) (m ((c.tc : Thread Cert.BackReferenceIdeal.nD Cert.BackReferenceIdeal.τ).loc Cert.BackReferenceIdeal.main_arg5)) (m ((c.tc : Thread Cert.BackReferenceIdeal.nD Cert.BackReferenceIdeal.τ).loc Cert.BackReferenceIdeal.main_arg6)) (m ((c.tc : Thread Cert.BackReferenceIdeal.nD Cert.BackReferenceIdeal.τ).loc Cert.BackReferenceIdeal.main_arg7)) (m ((c.tc : Thread Cert.BackReferenceIdeal.nD Cert.BackReferenceIdeal.τ).loc Cert.BackReferenceIdeal.main_arg8)) (m ((c.tc : Thread Cert.BackReferenceIdeal.nD Cert.BackReferenceIdeal.τ).loc Cert.BackReferenceIdeal.main_arg9))).2.2.2.2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9))
      ∧ r.2.sem = fun _ => 0)

def quiescent_BackIdeal_pre_finite_back [hBackIdeal : Cert.BackIdeal.Facts] [hPre_finite_back : Cert.Pre_finite_back.Facts] : Prop :=
  ∀ (m : (ℓ : Loc Cert.BackIdeal.nD Cert.BackIdeal.τ Cert.BackIdeal.sig) → Buf (Elt Ideal) ℓ) (g : Dev Cert.BackIdeal.nD → PrngReg), Pre_BackIdeal_finite_back m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6)
      ∧ r.2.mem ((c.tc : Thread Cert.BackReferenceIdeal.nD Cert.BackReferenceIdeal.τ).loc Cert.BackReferenceIdeal.main_arg7) = m ((c.tc : Thread Cert.BackReferenceIdeal.nD Cert.BackReferenceIdeal.τ).loc Cert.BackReferenceIdeal.main_arg7)
      ∧ r.2.mem ((c.tc : Thread Cert.BackReferenceIdeal.nD Cert.BackReferenceIdeal.τ).loc Cert.BackReferenceIdeal.main_arg8) = m ((c.tc : Thread Cert.BackReferenceIdeal.nD Cert.BackReferenceIdeal.τ).loc Cert.BackReferenceIdeal.main_arg8)
      ∧ r.2.mem ((c.tc : Thread Cert.BackReferenceIdeal.nD Cert.BackReferenceIdeal.τ).loc Cert.BackReferenceIdeal.main_arg9) = m ((c.tc : Thread Cert.BackReferenceIdeal.nD Cert.BackReferenceIdeal.τ).loc Cert.BackReferenceIdeal.main_arg9))
      ∧ r.2.sem = fun _ => 0)

def quiescent_BackReferenceIdeal_pre_finite_back [hBackReferenceIdeal : Cert.BackReferenceIdeal.Facts] [hPre_finite_back : Cert.Pre_finite_back.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal_finite_back m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6)
      ∧ r.2.mem ((c.tc : Thread Cert.BackReferenceIdeal.nD Cert.BackReferenceIdeal.τ).loc Cert.BackReferenceIdeal.main_arg7) = m ((c.tc : Thread Cert.BackReferenceIdeal.nD Cert.BackReferenceIdeal.τ).loc Cert.BackReferenceIdeal.main_arg7)
      ∧ r.2.mem ((c.tc : Thread Cert.BackReferenceIdeal.nD Cert.BackReferenceIdeal.τ).loc Cert.BackReferenceIdeal.main_arg8) = m ((c.tc : Thread Cert.BackReferenceIdeal.nD Cert.BackReferenceIdeal.τ).loc Cert.BackReferenceIdeal.main_arg8)
      ∧ r.2.mem ((c.tc : Thread Cert.BackReferenceIdeal.nD Cert.BackReferenceIdeal.τ).loc Cert.BackReferenceIdeal.main_arg9) = m ((c.tc : Thread Cert.BackReferenceIdeal.nD Cert.BackReferenceIdeal.τ).loc Cert.BackReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4)
      ∧ r.2.mem ((c.tc : Thread Cert.Mod.nD Cert.Mod.τ).loc Cert.Mod.main_arg5) = m ((c.tc : Thread Cert.Mod.nD Cert.Mod.τ).loc Cert.Mod.main_arg5)
      ∧ r.2.mem ((c.tc : Thread Cert.Mod.nD Cert.Mod.τ).loc Cert.Mod.main_arg6) = m ((c.tc : Thread Cert.Mod.nD Cert.Mod.τ).loc Cert.Mod.main_arg6)
      ∧ r.2.mem ((c.tc : Thread Cert.Mod.nD Cert.Mod.τ).loc Cert.Mod.main_arg7) = m ((c.tc : Thread Cert.Mod.nD Cert.Mod.τ).loc Cert.Mod.main_arg7)
      ∧ r.2.mem ((c.tc : Thread Cert.Mod.nD Cert.Mod.τ).loc Cert.Mod.main_arg8) = m ((c.tc : Thread Cert.Mod.nD Cert.Mod.τ).loc Cert.Mod.main_arg8)
      ∧ r.2.mem ((c.tc : Thread Cert.Mod.nD Cert.Mod.τ).loc Cert.Mod.main_arg9) = m ((c.tc : Thread Cert.Mod.nD Cert.Mod.τ).loc Cert.Mod.main_arg9)
      ∧ r.2.mem ((c.tc : Thread Cert.Mod.nD Cert.Mod.τ).loc Cert.Mod.main_arg10) = m ((c.tc : Thread Cert.Mod.nD Cert.Mod.τ).loc Cert.Mod.main_arg10)
      ∧ r.2.mem ((c.tc : Thread Cert.Mod.nD Cert.Mod.τ).loc Cert.Mod.main_arg11) = m ((c.tc : Thread Cert.Mod.nD Cert.Mod.τ).loc Cert.Mod.main_arg11)
      ∧ r.2.mem ((c.tc : Thread Cert.Mod.nD Cert.Mod.τ).loc Cert.Mod.main_arg12) = m ((c.tc : Thread Cert.Mod.nD Cert.Mod.τ).loc Cert.Mod.main_arg12)
      ∧ r.2.mem ((c.tc : Thread Cert.Mod.nD Cert.Mod.τ).loc Cert.Mod.main_arg13) = m ((c.tc : Thread Cert.Mod.nD Cert.Mod.τ).loc Cert.Mod.main_arg13)
      ∧ r.2.mem ((c.tc : Thread Cert.Mod.nD Cert.Mod.τ).loc Cert.Mod.main_arg14) = m ((c.tc : Thread Cert.Mod.nD Cert.Mod.τ).loc Cert.Mod.main_arg14)
      ∧ r.2.mem ((c.tc : Thread Cert.Mod.nD Cert.Mod.τ).loc Cert.Mod.main_arg15) = m ((c.tc : Thread Cert.Mod.nD Cert.Mod.τ).loc Cert.Mod.main_arg15))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
      ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
      ∧ r.2.mem ((c.tc : Thread Cert.ModIdeal.nD Cert.ModIdeal.τ).loc Cert.ModIdeal.main_arg6) = m ((c.tc : Thread Cert.ModIdeal.nD Cert.ModIdeal.τ).loc Cert.ModIdeal.main_arg6)
      ∧ r.2.mem ((c.tc : Thread Cert.ModIdeal.nD Cert.ModIdeal.τ).loc Cert.ModIdeal.main_arg7) = m ((c.tc : Thread Cert.ModIdeal.nD Cert.ModIdeal.τ).loc Cert.ModIdeal.main_arg7)
      ∧ r.2.mem ((c.tc : Thread Cert.ModIdeal.nD Cert.ModIdeal.τ).loc Cert.ModIdeal.main_arg8) = m ((c.tc : Thread Cert.ModIdeal.nD Cert.ModIdeal.τ).loc Cert.ModIdeal.main_arg8)
      ∧ r.2.mem ((c.tc : Thread Cert.ModIdeal.nD Cert.ModIdeal.τ).loc Cert.ModIdeal.main_arg9) = m ((c.tc : Thread Cert.ModIdeal.nD Cert.ModIdeal.τ).loc Cert.ModIdeal.main_arg9)
      ∧ r.2.mem ((c.tc : Thread Cert.ModIdeal.nD Cert.ModIdeal.τ).loc Cert.ModIdeal.main_arg10) = m ((c.tc : Thread Cert.ModIdeal.nD Cert.ModIdeal.τ).loc Cert.ModIdeal.main_arg10)
      ∧ r.2.mem ((c.tc : Thread Cert.ModIdeal.nD Cert.ModIdeal.τ).loc Cert.ModIdeal.main_arg11) = m ((c.tc : Thread Cert.ModIdeal.nD Cert.ModIdeal.τ).loc Cert.ModIdeal.main_arg11)
      ∧ r.2.mem ((c.tc : Thread Cert.ModIdeal.nD Cert.ModIdeal.τ).loc Cert.ModIdeal.main_arg12) = m ((c.tc : Thread Cert.ModIdeal.nD Cert.ModIdeal.τ).loc Cert.ModIdeal.main_arg12)
      ∧ r.2.mem ((c.tc : Thread Cert.ModIdeal.nD Cert.ModIdeal.τ).loc Cert.ModIdeal.main_arg13) = m ((c.tc : Thread Cert.ModIdeal.nD Cert.ModIdeal.τ).loc Cert.ModIdeal.main_arg13)
      ∧ r.2.mem ((c.tc : Thread Cert.ModIdeal.nD Cert.ModIdeal.τ).loc Cert.ModIdeal.main_arg14) = m ((c.tc : Thread Cert.ModIdeal.nD Cert.ModIdeal.τ).loc Cert.ModIdeal.main_arg14)
      ∧ r.2.mem ((c.tc : Thread Cert.ModIdeal.nD Cert.ModIdeal.τ).loc Cert.ModIdeal.main_arg15) = m ((c.tc : Thread Cert.ModIdeal.nD Cert.ModIdeal.τ).loc Cert.ModIdeal.main_arg15))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3)
      ∧ r.2.mem ((c.tc : Thread Cert.ModReferenceIdeal.nD Cert.ModReferenceIdeal.τ).loc Cert.ModReferenceIdeal.main_arg4) = m ((c.tc : Thread Cert.ModReferenceIdeal.nD Cert.ModReferenceIdeal.τ).loc Cert.ModReferenceIdeal.main_arg4)
      ∧ r.2.mem ((c.tc : Thread Cert.ModReferenceIdeal.nD Cert.ModReferenceIdeal.τ).loc Cert.ModReferenceIdeal.main_arg5) = m ((c.tc : Thread Cert.ModReferenceIdeal.nD Cert.ModReferenceIdeal.τ).loc Cert.ModReferenceIdeal.main_arg5)
      ∧ r.2.mem ((c.tc : Thread Cert.ModReferenceIdeal.nD Cert.ModReferenceIdeal.τ).loc Cert.ModReferenceIdeal.main_arg6) = m ((c.tc : Thread Cert.ModReferenceIdeal.nD Cert.ModReferenceIdeal.τ).loc Cert.ModReferenceIdeal.main_arg6)
      ∧ r.2.mem ((c.tc : Thread Cert.ModReferenceIdeal.nD Cert.ModReferenceIdeal.τ).loc Cert.ModReferenceIdeal.main_arg7) = m ((c.tc : Thread Cert.ModReferenceIdeal.nD Cert.ModReferenceIdeal.τ).loc Cert.ModReferenceIdeal.main_arg7)
      ∧ r.2.mem ((c.tc : Thread Cert.ModReferenceIdeal.nD Cert.ModReferenceIdeal.τ).loc Cert.ModReferenceIdeal.main_arg8) = m ((c.tc : Thread Cert.ModReferenceIdeal.nD Cert.ModReferenceIdeal.τ).loc Cert.ModReferenceIdeal.main_arg8)
      ∧ r.2.mem ((c.tc : Thread Cert.ModReferenceIdeal.nD Cert.ModReferenceIdeal.τ).loc Cert.ModReferenceIdeal.main_arg9) = m ((c.tc : Thread Cert.ModReferenceIdeal.nD Cert.ModReferenceIdeal.τ).loc Cert.ModReferenceIdeal.main_arg9)
      ∧ r.2.mem ((c.tc : Thread Cert.ModReferenceIdeal.nD Cert.ModReferenceIdeal.τ).loc Cert.ModReferenceIdeal.main_arg10) = m ((c.tc : Thread Cert.ModReferenceIdeal.nD Cert.ModReferenceIdeal.τ).loc Cert.ModReferenceIdeal.main_arg10)
      ∧ r.2.mem ((c.tc : Thread Cert.ModReferenceIdeal.nD Cert.ModReferenceIdeal.τ).loc Cert.ModReferenceIdeal.main_arg11) = m ((c.tc : Thread Cert.ModReferenceIdeal.nD Cert.ModReferenceIdeal.τ).loc Cert.ModReferenceIdeal.main_arg11)
      ∧ r.2.mem ((c.tc : Thread Cert.ModReferenceIdeal.nD Cert.ModReferenceIdeal.τ).loc Cert.ModReferenceIdeal.main_arg12) = m ((c.tc : Thread Cert.ModReferenceIdeal.nD Cert.ModReferenceIdeal.τ).loc Cert.ModReferenceIdeal.main_arg12)
      ∧ r.2.mem ((c.tc : Thread Cert.ModReferenceIdeal.nD Cert.ModReferenceIdeal.τ).loc Cert.ModReferenceIdeal.main_arg13) = m ((c.tc : Thread Cert.ModReferenceIdeal.nD Cert.ModReferenceIdeal.τ).loc Cert.ModReferenceIdeal.main_arg13)
      ∧ r.2.mem ((c.tc : Thread Cert.ModReferenceIdeal.nD Cert.ModReferenceIdeal.τ).loc Cert.ModReferenceIdeal.main_arg14) = m ((c.tc : Thread Cert.ModReferenceIdeal.nD Cert.ModReferenceIdeal.τ).loc Cert.ModReferenceIdeal.main_arg14)
      ∧ r.2.mem ((c.tc : Thread Cert.ModReferenceIdeal.nD Cert.ModReferenceIdeal.τ).loc Cert.ModReferenceIdeal.main_arg15) = m ((c.tc : Thread Cert.ModReferenceIdeal.nD Cert.ModReferenceIdeal.τ).loc Cert.ModReferenceIdeal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)) (v11 : (c : Dev Cert.KernelIdeal.nD) → Buf (Elt Ideal) ((c.tc : Thread Cert.KernelIdeal.nD Cert.KernelIdeal.τ).loc Cert.KernelIdeal.main_v0_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_v0_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_v168) = v3 c
          ∧ r.2.mem ((c.tc : Thread Cert.ReferenceIdeal.nD Cert.ReferenceIdeal.τ).loc Cert.ReferenceIdeal.main_v169) = v4 c
          ∧ r.2.mem ((c.tc : Thread Cert.ReferenceIdeal.nD Cert.ReferenceIdeal.τ).loc Cert.ReferenceIdeal.main_v170) = v5 c
          ∧ r.2.mem ((c.tc : Thread Cert.ReferenceIdeal.nD Cert.ReferenceIdeal.τ).loc Cert.ReferenceIdeal.main_v171) = v6 c
          ∧ r.2.mem ((c.tc : Thread Cert.ReferenceIdeal.nD Cert.ReferenceIdeal.τ).loc Cert.ReferenceIdeal.main_v172) = v7 c
          ∧ r.2.mem ((c.tc : Thread Cert.ReferenceIdeal.nD Cert.ReferenceIdeal.τ).loc Cert.ReferenceIdeal.main_v96) = v8 c
          ∧ r.2.mem ((c.tc : Thread Cert.ReferenceIdeal.nD Cert.ReferenceIdeal.τ).loc Cert.ReferenceIdeal.main_v117) = v9 c
          ∧ r.2.mem ((c.tc : Thread Cert.ReferenceIdeal.nD Cert.ReferenceIdeal.τ).loc Cert.ReferenceIdeal.main_v148) = v10 c
          ∧ r.2.mem ((c.tc : Thread Cert.ReferenceIdeal.nD Cert.ReferenceIdeal.τ).loc Cert.ReferenceIdeal.main_v173) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)
      ∧ m' ((c.tc : Thread Cert.InReferenceIdeal.nD Cert.InReferenceIdeal.τ).loc Cert.InReferenceIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v20) = v0 c
          ∧ r.2.mem ((c.tc : Thread Cert.InReferenceIdeal.nD Cert.InReferenceIdeal.τ).loc Cert.InReferenceIdeal.main_v21) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_Back_BackIdeal : Prop :=
  True

def algebraic_BackIdeal_BackReferenceIdeal_pre_finite_back [hBackIdeal : Cert.BackIdeal.Facts] [hBackReferenceIdeal : Cert.BackReferenceIdeal.Facts] [hPre_finite_back : Cert.Pre_finite_back.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal_finite_back m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)
      ∧ m' ((c.tc : Thread Cert.BackReferenceIdeal.nD Cert.BackReferenceIdeal.τ).loc Cert.BackReferenceIdeal.main_arg4) = m ((c.tc : Thread Cert.BackIdeal.nD Cert.BackIdeal.τ).loc Cert.BackIdeal.main_arg4)
      ∧ m' ((c.tc : Thread Cert.BackReferenceIdeal.nD Cert.BackReferenceIdeal.τ).loc Cert.BackReferenceIdeal.main_arg5) = m ((c.tc : Thread Cert.BackIdeal.nD Cert.BackIdeal.τ).loc Cert.BackIdeal.main_arg5)
      ∧ m' ((c.tc : Thread Cert.BackReferenceIdeal.nD Cert.BackReferenceIdeal.τ).loc Cert.BackReferenceIdeal.main_arg6) = m ((c.tc : Thread Cert.BackIdeal.nD Cert.BackIdeal.τ).loc Cert.BackIdeal.main_arg6)
      ∧ m' ((c.tc : Thread Cert.BackReferenceIdeal.nD Cert.BackReferenceIdeal.τ).loc Cert.BackReferenceIdeal.main_arg7) = m ((c.tc : Thread Cert.BackIdeal.nD Cert.BackIdeal.τ).loc Cert.BackIdeal.main_arg7)
      ∧ m' ((c.tc : Thread Cert.BackReferenceIdeal.nD Cert.BackReferenceIdeal.τ).loc Cert.BackReferenceIdeal.main_arg8) = m ((c.tc : Thread Cert.BackIdeal.nD Cert.BackIdeal.τ).loc Cert.BackIdeal.main_arg8)
      ∧ m' ((c.tc : Thread Cert.BackReferenceIdeal.nD Cert.BackReferenceIdeal.τ).loc Cert.BackReferenceIdeal.main_arg9) = m ((c.tc : Thread Cert.BackIdeal.nD Cert.BackIdeal.τ).loc Cert.BackIdeal.main_arg9)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)) (v2 : (c : Dev Cert.BackIdeal.nD) → Buf (Elt Ideal) ((c.tc : Thread Cert.BackIdeal.nD Cert.BackIdeal.τ).loc Cert.BackIdeal.main_v0_2)) (v3 : (c : Dev Cert.BackIdeal.nD) → Buf (Elt Ideal) ((c.tc : Thread Cert.BackIdeal.nD Cert.BackIdeal.τ).loc Cert.BackIdeal.main_v0_3)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_v0_2) = v2 c
          ∧ r.2.mem ((c.tc : Thread Cert.BackIdeal.nD Cert.BackIdeal.τ).loc Cert.BackIdeal.main_v0_3) = v3 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v59) = v0 c
          ∧ r.2.mem ((c.tc : Thread Cert.BackReferenceIdeal.nD Cert.BackReferenceIdeal.τ).loc Cert.BackReferenceIdeal.main_v39) = v1 c
          ∧ r.2.mem ((c.tc : Thread Cert.BackReferenceIdeal.nD Cert.BackReferenceIdeal.τ).loc Cert.BackReferenceIdeal.main_v40) = v2 c
          ∧ r.2.mem ((c.tc : Thread Cert.BackReferenceIdeal.nD Cert.BackReferenceIdeal.τ).loc Cert.BackReferenceIdeal.main_v43) = v3 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4)
          ∧ r.2.mem ((c.tc : Thread Cert.BackReferenceIdeal.nD Cert.BackReferenceIdeal.τ).loc Cert.BackReferenceIdeal.main_arg5) = m' ((c.tc : Thread Cert.BackReferenceIdeal.nD Cert.BackReferenceIdeal.τ).loc Cert.BackReferenceIdeal.main_arg5)
          ∧ r.2.mem ((c.tc : Thread Cert.BackReferenceIdeal.nD Cert.BackReferenceIdeal.τ).loc Cert.BackReferenceIdeal.main_arg6) = m' ((c.tc : Thread Cert.BackReferenceIdeal.nD Cert.BackReferenceIdeal.τ).loc Cert.BackReferenceIdeal.main_arg6)
          ∧ r.2.mem ((c.tc : Thread Cert.BackReferenceIdeal.nD Cert.BackReferenceIdeal.τ).loc Cert.BackReferenceIdeal.main_arg7) = m' ((c.tc : Thread Cert.BackReferenceIdeal.nD Cert.BackReferenceIdeal.τ).loc Cert.BackReferenceIdeal.main_arg7)
          ∧ r.2.mem ((c.tc : Thread Cert.BackReferenceIdeal.nD Cert.BackReferenceIdeal.τ).loc Cert.BackReferenceIdeal.main_arg8) = m' ((c.tc : Thread Cert.BackReferenceIdeal.nD Cert.BackReferenceIdeal.τ).loc Cert.BackReferenceIdeal.main_arg8)
          ∧ r.2.mem ((c.tc : Thread Cert.BackReferenceIdeal.nD Cert.BackReferenceIdeal.τ).loc Cert.BackReferenceIdeal.main_arg9) = m' ((c.tc : Thread Cert.BackReferenceIdeal.nD Cert.BackReferenceIdeal.τ).loc Cert.BackReferenceIdeal.main_arg9))

def preserves_Proj_ProjIdeal : Prop :=
  IdealRules.named_const.Statement Cert.ProjIdeal.κ "c1" .f32 0x3FC48605#32 ((8388608 / 5463681 : ℝ) : EReal)
  ∧ IdealRules.named_const.Statement Cert.ProjIdeal.κ "c2" .f32 0x42C8E6D3#32 ((268435456 / 2672307 : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)) (v5 : (c : Dev Cert.ProjIdeal.nD) → Buf (Elt Ideal) ((c.tc : Thread Cert.ProjIdeal.nD Cert.ProjIdeal.τ).loc Cert.ProjIdeal.main_v0_5)) (v6 : (c : Dev Cert.ProjIdeal.nD) → Buf (Elt Ideal) ((c.tc : Thread Cert.ProjIdeal.nD Cert.ProjIdeal.τ).loc Cert.ProjIdeal.main_v0_6)) (v7 : (c : Dev Cert.ProjIdeal.nD) → Buf (Elt Ideal) ((c.tc : Thread Cert.ProjIdeal.nD Cert.ProjIdeal.τ).loc Cert.ProjIdeal.main_v0_7)) (v8 : (c : Dev Cert.ProjIdeal.nD) → Buf (Elt Ideal) ((c.tc : Thread Cert.ProjIdeal.nD Cert.ProjIdeal.τ).loc Cert.ProjIdeal.main_v0_8)) (v9 : (c : Dev Cert.ProjIdeal.nD) → Buf (Elt Ideal) ((c.tc : Thread Cert.ProjIdeal.nD Cert.ProjIdeal.τ).loc Cert.ProjIdeal.main_v0_9)) (v10 : (c : Dev Cert.ProjIdeal.nD) → Buf (Elt Ideal) ((c.tc : Thread Cert.ProjIdeal.nD Cert.ProjIdeal.τ).loc Cert.ProjIdeal.main_v0_10)) (v11 : (c : Dev Cert.ProjIdeal.nD) → Buf (Elt Ideal) ((c.tc : Thread Cert.ProjIdeal.nD Cert.ProjIdeal.τ).loc Cert.ProjIdeal.main_v0_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_v0_5) = v5 c
          ∧ r.2.mem ((c.tc : Thread Cert.ProjIdeal.nD Cert.ProjIdeal.τ).loc Cert.ProjIdeal.main_v0_6) = v6 c
          ∧ r.2.mem ((c.tc : Thread Cert.ProjIdeal.nD Cert.ProjIdeal.τ).loc Cert.ProjIdeal.main_v0_7) = v7 c
          ∧ r.2.mem ((c.tc : Thread Cert.ProjIdeal.nD Cert.ProjIdeal.τ).loc Cert.ProjIdeal.main_v0_8) = v8 c
          ∧ r.2.mem ((c.tc : Thread Cert.ProjIdeal.nD Cert.ProjIdeal.τ).loc Cert.ProjIdeal.main_v0_9) = v9 c
          ∧ r.2.mem ((c.tc : Thread Cert.ProjIdeal.nD Cert.ProjIdeal.τ).loc Cert.ProjIdeal.main_v0_10) = v10 c
          ∧ r.2.mem ((c.tc : Thread Cert.ProjIdeal.nD Cert.ProjIdeal.τ).loc Cert.ProjIdeal.main_v0_11) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_v5) = v1 c
          ∧ r.2.mem ((c.tc : Thread Cert.ProjReferenceIdeal.nD Cert.ProjReferenceIdeal.τ).loc Cert.ProjReferenceIdeal.main_v8) = v2 c
          ∧ r.2.mem ((c.tc : Thread Cert.ProjReferenceIdeal.nD Cert.ProjReferenceIdeal.τ).loc Cert.ProjReferenceIdeal.main_v32) = v3 c
          ∧ r.2.mem ((c.tc : Thread Cert.ProjReferenceIdeal.nD Cert.ProjReferenceIdeal.τ).loc Cert.ProjReferenceIdeal.main_v56) = v4 c
          ∧ r.2.mem ((c.tc : Thread Cert.ProjReferenceIdeal.nD Cert.ProjReferenceIdeal.τ).loc Cert.ProjReferenceIdeal.main_v80) = v5 c
          ∧ r.2.mem ((c.tc : Thread Cert.ProjReferenceIdeal.nD Cert.ProjReferenceIdeal.τ).loc Cert.ProjReferenceIdeal.main_v13) = v6 c
          ∧ r.2.mem ((c.tc : Thread Cert.ProjReferenceIdeal.nD Cert.ProjReferenceIdeal.τ).loc Cert.ProjReferenceIdeal.main_v37) = v7 c
          ∧ r.2.mem ((c.tc : Thread Cert.ProjReferenceIdeal.nD Cert.ProjReferenceIdeal.τ).loc Cert.ProjReferenceIdeal.main_v61) = v8 c
          ∧ r.2.mem ((c.tc : Thread Cert.ProjReferenceIdeal.nD Cert.ProjReferenceIdeal.τ).loc Cert.ProjReferenceIdeal.main_v19) = v9 c
          ∧ r.2.mem ((c.tc : Thread Cert.ProjReferenceIdeal.nD Cert.ProjReferenceIdeal.τ).loc Cert.ProjReferenceIdeal.main_v43) = v10 c
          ∧ r.2.mem ((c.tc : Thread Cert.ProjReferenceIdeal.nD Cert.ProjReferenceIdeal.τ).loc Cert.ProjReferenceIdeal.main_v67) = v11 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11))

def preserves_Mod_ModIdeal : Prop :=
  IdealRules.named_const.Statement Cert.ModIdeal.κ "c1" .f32 0x3FC48605#32 ((8388608 / 5463681 : ℝ) : EReal)
  ∧ IdealRules.named_const.Statement Cert.ModIdeal.κ "c2" .f32 0x42C8E6D3#32 ((268435456 / 2672307 : ℝ) : EReal)

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)
      ∧ m' ((c.tc : Thread Cert.ModReferenceIdeal.nD Cert.ModReferenceIdeal.τ).loc Cert.ModReferenceIdeal.main_arg4) = m ((c.tc : Thread Cert.ModIdeal.nD Cert.ModIdeal.τ).loc Cert.ModIdeal.main_arg4)
      ∧ m' ((c.tc : Thread Cert.ModReferenceIdeal.nD Cert.ModReferenceIdeal.τ).loc Cert.ModReferenceIdeal.main_arg5) = m ((c.tc : Thread Cert.ModIdeal.nD Cert.ModIdeal.τ).loc Cert.ModIdeal.main_arg5)
      ∧ m' ((c.tc : Thread Cert.ModReferenceIdeal.nD Cert.ModReferenceIdeal.τ).loc Cert.ModReferenceIdeal.main_arg6) = m ((c.tc : Thread Cert.ModIdeal.nD Cert.ModIdeal.τ).loc Cert.ModIdeal.main_arg6)
      ∧ m' ((c.tc : Thread Cert.ModReferenceIdeal.nD Cert.ModReferenceIdeal.τ).loc Cert.ModReferenceIdeal.main_arg7) = m ((c.tc : Thread Cert.ModIdeal.nD Cert.ModIdeal.τ).loc Cert.ModIdeal.main_arg7)
      ∧ m' ((c.tc : Thread Cert.ModReferenceIdeal.nD Cert.ModReferenceIdeal.τ).loc Cert.ModReferenceIdeal.main_arg8) = m ((c.tc : Thread Cert.ModIdeal.nD Cert.ModIdeal.τ).loc Cert.ModIdeal.main_arg8)
      ∧ m' ((c.tc : Thread Cert.ModReferenceIdeal.nD Cert.ModReferenceIdeal.τ).loc Cert.ModReferenceIdeal.main_arg9) = m ((c.tc : Thread Cert.ModIdeal.nD Cert.ModIdeal.τ).loc Cert.ModIdeal.main_arg9)
      ∧ m' ((c.tc : Thread Cert.ModReferenceIdeal.nD Cert.ModReferenceIdeal.τ).loc Cert.ModReferenceIdeal.main_arg10) = m ((c.tc : Thread Cert.ModIdeal.nD Cert.ModIdeal.τ).loc Cert.ModIdeal.main_arg10)
      ∧ m' ((c.tc : Thread Cert.ModReferenceIdeal.nD Cert.ModReferenceIdeal.τ).loc Cert.ModReferenceIdeal.main_arg11) = m ((c.tc : Thread Cert.ModIdeal.nD Cert.ModIdeal.τ).loc Cert.ModIdeal.main_arg11)
      ∧ m' ((c.tc : Thread Cert.ModReferenceIdeal.nD Cert.ModReferenceIdeal.τ).loc Cert.ModReferenceIdeal.main_arg12) = m ((c.tc : Thread Cert.ModIdeal.nD Cert.ModIdeal.τ).loc Cert.ModIdeal.main_arg12)
      ∧ m' ((c.tc : Thread Cert.ModReferenceIdeal.nD Cert.ModReferenceIdeal.τ).loc Cert.ModReferenceIdeal.main_arg13) = m ((c.tc : Thread Cert.ModIdeal.nD Cert.ModIdeal.τ).loc Cert.ModIdeal.main_arg13)
      ∧ m' ((c.tc : Thread Cert.ModReferenceIdeal.nD Cert.ModReferenceIdeal.τ).loc Cert.ModReferenceIdeal.main_arg14) = m ((c.tc : Thread Cert.ModIdeal.nD Cert.ModIdeal.τ).loc Cert.ModIdeal.main_arg14)
      ∧ m' ((c.tc : Thread Cert.ModReferenceIdeal.nD Cert.ModReferenceIdeal.τ).loc Cert.ModReferenceIdeal.main_arg15) = m ((c.tc : Thread Cert.ModIdeal.nD Cert.ModIdeal.τ).loc Cert.ModIdeal.main_arg15)) →
    ∃ (v0 : (c : Dev Cert.ModIdeal.nD) → Buf (Elt Ideal) ((c.tc : Thread Cert.ModIdeal.nD Cert.ModIdeal.τ).loc Cert.ModIdeal.main_v0_4)) (v1 : (c : Dev Cert.ModIdeal.nD) → Buf (Elt Ideal) ((c.tc : Thread Cert.ModIdeal.nD Cert.ModIdeal.τ).loc Cert.ModIdeal.main_v0_5)) (v2 : (c : Dev Cert.ModIdeal.nD) → Buf (Elt Ideal) ((c.tc : Thread Cert.ModIdeal.nD Cert.ModIdeal.τ).loc Cert.ModIdeal.main_v0_6)) (v3 : (c : Dev Cert.ModIdeal.nD) → Buf (Elt Ideal) ((c.tc : Thread Cert.ModIdeal.nD Cert.ModIdeal.τ).loc Cert.ModIdeal.main_v0_7)) (v4 : (c : Dev Cert.ModIdeal.nD) → Buf (Elt Ideal) ((c.tc : Thread Cert.ModIdeal.nD Cert.ModIdeal.τ).loc Cert.ModIdeal.main_v0_8)) (v5 : (c : Dev Cert.ModIdeal.nD) → Buf (Elt Ideal) ((c.tc : Thread Cert.ModIdeal.nD Cert.ModIdeal.τ).loc Cert.ModIdeal.main_v0_9)) (v6 : (c : Dev Cert.ModIdeal.nD) → Buf (Elt Ideal) ((c.tc : Thread Cert.ModIdeal.nD Cert.ModIdeal.τ).loc Cert.ModIdeal.main_v0_10)) (v7 : (c : Dev Cert.ModIdeal.nD) → Buf (Elt Ideal) ((c.tc : Thread Cert.ModIdeal.nD Cert.ModIdeal.τ).loc Cert.ModIdeal.main_v0_11)) (v8 : (c : Dev Cert.ModIdeal.nD) → Buf (Elt Ideal) ((c.tc : Thread Cert.ModIdeal.nD Cert.ModIdeal.τ).loc Cert.ModIdeal.main_v0_12)) (v9 : (c : Dev Cert.ModIdeal.nD) → Buf (Elt Ideal) ((c.tc : Thread Cert.ModIdeal.nD Cert.ModIdeal.τ).loc Cert.ModIdeal.main_v0_13)) (v10 : (c : Dev Cert.ModIdeal.nD) → Buf (Elt Ideal) ((c.tc : Thread Cert.ModIdeal.nD Cert.ModIdeal.τ).loc Cert.ModIdeal.main_v0_14)) (v11 : (c : Dev Cert.ModIdeal.nD) → Buf (Elt Ideal) ((c.tc : Thread Cert.ModIdeal.nD Cert.ModIdeal.τ).loc Cert.ModIdeal.main_v0_15)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0_4) = v0 c
          ∧ r.2.mem ((c.tc : Thread Cert.ModIdeal.nD Cert.ModIdeal.τ).loc Cert.ModIdeal.main_v0_5) = v1 c
          ∧ r.2.mem ((c.tc : Thread Cert.ModIdeal.nD Cert.ModIdeal.τ).loc Cert.ModIdeal.main_v0_6) = v2 c
          ∧ r.2.mem ((c.tc : Thread Cert.ModIdeal.nD Cert.ModIdeal.τ).loc Cert.ModIdeal.main_v0_7) = v3 c
          ∧ r.2.mem ((c.tc : Thread Cert.ModIdeal.nD Cert.ModIdeal.τ).loc Cert.ModIdeal.main_v0_8) = v4 c
          ∧ r.2.mem ((c.tc : Thread Cert.ModIdeal.nD Cert.ModIdeal.τ).loc Cert.ModIdeal.main_v0_9) = v5 c
          ∧ r.2.mem ((c.tc : Thread Cert.ModIdeal.nD Cert.ModIdeal.τ).loc Cert.ModIdeal.main_v0_10) = v6 c
          ∧ r.2.mem ((c.tc : Thread Cert.ModIdeal.nD Cert.ModIdeal.τ).loc Cert.ModIdeal.main_v0_11) = v7 c
          ∧ r.2.mem ((c.tc : Thread Cert.ModIdeal.nD Cert.ModIdeal.τ).loc Cert.ModIdeal.main_v0_12) = v8 c
          ∧ r.2.mem ((c.tc : Thread Cert.ModIdeal.nD Cert.ModIdeal.τ).loc Cert.ModIdeal.main_v0_13) = v9 c
          ∧ r.2.mem ((c.tc : Thread Cert.ModIdeal.nD Cert.ModIdeal.τ).loc Cert.ModIdeal.main_v0_14) = v10 c
          ∧ r.2.mem ((c.tc : Thread Cert.ModIdeal.nD Cert.ModIdeal.τ).loc Cert.ModIdeal.main_v0_15) = v11 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
          ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
          ∧ r.2.mem ((c.tc : Thread Cert.ModIdeal.nD Cert.ModIdeal.τ).loc Cert.ModIdeal.main_arg6) = m ((c.tc : Thread Cert.ModIdeal.nD Cert.ModIdeal.τ).loc Cert.ModIdeal.main_arg6)
          ∧ r.2.mem ((c.tc : Thread Cert.ModIdeal.nD Cert.ModIdeal.τ).loc Cert.ModIdeal.main_arg7) = m ((c.tc : Thread Cert.ModIdeal.nD Cert.ModIdeal.τ).loc Cert.ModIdeal.main_arg7)
          ∧ r.2.mem ((c.tc : Thread Cert.ModIdeal.nD Cert.ModIdeal.τ).loc Cert.ModIdeal.main_arg8) = m ((c.tc : Thread Cert.ModIdeal.nD Cert.ModIdeal.τ).loc Cert.ModIdeal.main_arg8)
          ∧ r.2.mem ((c.tc : Thread Cert.ModIdeal.nD Cert.ModIdeal.τ).loc Cert.ModIdeal.main_arg9) = m ((c.tc : Thread Cert.ModIdeal.nD Cert.ModIdeal.τ).loc Cert.ModIdeal.main_arg9)
          ∧ r.2.mem ((c.tc : Thread Cert.ModIdeal.nD Cert.ModIdeal.τ).loc Cert.ModIdeal.main_arg10) = m ((c.tc : Thread Cert.ModIdeal.nD Cert.ModIdeal.τ).loc Cert.ModIdeal.main_arg10)
          ∧ r.2.mem ((c.tc : Thread Cert.ModIdeal.nD Cert.ModIdeal.τ).loc Cert.ModIdeal.main_arg11) = m ((c.tc : Thread Cert.ModIdeal.nD Cert.ModIdeal.τ).loc Cert.ModIdeal.main_arg11)
          ∧ r.2.mem ((c.tc : Thread Cert.ModIdeal.nD Cert.ModIdeal.τ).loc Cert.ModIdeal.main_arg12) = m ((c.tc : Thread Cert.ModIdeal.nD Cert.ModIdeal.τ).loc Cert.ModIdeal.main_arg12)
          ∧ r.2.mem ((c.tc : Thread Cert.ModIdeal.nD Cert.ModIdeal.τ).loc Cert.ModIdeal.main_arg13) = m ((c.tc : Thread Cert.ModIdeal.nD Cert.ModIdeal.τ).loc Cert.ModIdeal.main_arg13)
          ∧ r.2.mem ((c.tc : Thread Cert.ModIdeal.nD Cert.ModIdeal.τ).loc Cert.ModIdeal.main_arg14) = m ((c.tc : Thread Cert.ModIdeal.nD Cert.ModIdeal.τ).loc Cert.ModIdeal.main_arg14)
          ∧ r.2.mem ((c.tc : Thread Cert.ModIdeal.nD Cert.ModIdeal.τ).loc Cert.ModIdeal.main_arg15) = m ((c.tc : Thread Cert.ModIdeal.nD Cert.ModIdeal.τ).loc Cert.ModIdeal.main_arg15))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v23) = v0 c
          ∧ r.2.mem ((c.tc : Thread Cert.ModReferenceIdeal.nD Cert.ModReferenceIdeal.τ).loc Cert.ModReferenceIdeal.main_v47) = v1 c
          ∧ r.2.mem ((c.tc : Thread Cert.ModReferenceIdeal.nD Cert.ModReferenceIdeal.τ).loc Cert.ModReferenceIdeal.main_v71) = v2 c
          ∧ r.2.mem ((c.tc : Thread Cert.ModReferenceIdeal.nD Cert.ModReferenceIdeal.τ).loc Cert.ModReferenceIdeal.main_v95) = v3 c
          ∧ r.2.mem ((c.tc : Thread Cert.ModReferenceIdeal.nD Cert.ModReferenceIdeal.τ).loc Cert.ModReferenceIdeal.main_v4) = v4 c
          ∧ r.2.mem ((c.tc : Thread Cert.ModReferenceIdeal.nD Cert.ModReferenceIdeal.τ).loc Cert.ModReferenceIdeal.main_v28) = v5 c
          ∧ r.2.mem ((c.tc : Thread Cert.ModReferenceIdeal.nD Cert.ModReferenceIdeal.τ).loc Cert.ModReferenceIdeal.main_v52) = v6 c
          ∧ r.2.mem ((c.tc : Thread Cert.ModReferenceIdeal.nD Cert.ModReferenceIdeal.τ).loc Cert.ModReferenceIdeal.main_v76) = v7 c
          ∧ r.2.mem ((c.tc : Thread Cert.ModReferenceIdeal.nD Cert.ModReferenceIdeal.τ).loc Cert.ModReferenceIdeal.main_v10) = v8 c
          ∧ r.2.mem ((c.tc : Thread Cert.ModReferenceIdeal.nD Cert.ModReferenceIdeal.τ).loc Cert.ModReferenceIdeal.main_v34) = v9 c
          ∧ r.2.mem ((c.tc : Thread Cert.ModReferenceIdeal.nD Cert.ModReferenceIdeal.τ).loc Cert.ModReferenceIdeal.main_v58) = v10 c
          ∧ r.2.mem ((c.tc : Thread Cert.ModReferenceIdeal.nD Cert.ModReferenceIdeal.τ).loc Cert.ModReferenceIdeal.main_v82) = v11 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3)
          ∧ r.2.mem ((c.tc : Thread Cert.ModReferenceIdeal.nD Cert.ModReferenceIdeal.τ).loc Cert.ModReferenceIdeal.main_arg4) = m' ((c.tc : Thread Cert.ModReferenceIdeal.nD Cert.ModReferenceIdeal.τ).loc Cert.ModReferenceIdeal.main_arg4)
          ∧ r.2.mem ((c.tc : Thread Cert.ModReferenceIdeal.nD Cert.ModReferenceIdeal.τ).loc Cert.ModReferenceIdeal.main_arg5) = m' ((c.tc : Thread Cert.ModReferenceIdeal.nD Cert.ModReferenceIdeal.τ).loc Cert.ModReferenceIdeal.main_arg5)
          ∧ r.2.mem ((c.tc : Thread Cert.ModReferenceIdeal.nD Cert.ModReferenceIdeal.τ).loc Cert.ModReferenceIdeal.main_arg6) = m' ((c.tc : Thread Cert.ModReferenceIdeal.nD Cert.ModReferenceIdeal.τ).loc Cert.ModReferenceIdeal.main_arg6)
          ∧ r.2.mem ((c.tc : Thread Cert.ModReferenceIdeal.nD Cert.ModReferenceIdeal.τ).loc Cert.ModReferenceIdeal.main_arg7) = m' ((c.tc : Thread Cert.ModReferenceIdeal.nD Cert.ModReferenceIdeal.τ).loc Cert.ModReferenceIdeal.main_arg7)
          ∧ r.2.mem ((c.tc : Thread Cert.ModReferenceIdeal.nD Cert.ModReferenceIdeal.τ).loc Cert.ModReferenceIdeal.main_arg8) = m' ((c.tc : Thread Cert.ModReferenceIdeal.nD Cert.ModReferenceIdeal.τ).loc Cert.ModReferenceIdeal.main_arg8)
          ∧ r.2.mem ((c.tc : Thread Cert.ModReferenceIdeal.nD Cert.ModReferenceIdeal.τ).loc Cert.ModReferenceIdeal.main_arg9) = m' ((c.tc : Thread Cert.ModReferenceIdeal.nD Cert.ModReferenceIdeal.τ).loc Cert.ModReferenceIdeal.main_arg9)
          ∧ r.2.mem ((c.tc : Thread Cert.ModReferenceIdeal.nD Cert.ModReferenceIdeal.τ).loc Cert.ModReferenceIdeal.main_arg10) = m' ((c.tc : Thread Cert.ModReferenceIdeal.nD Cert.ModReferenceIdeal.τ).loc Cert.ModReferenceIdeal.main_arg10)
          ∧ r.2.mem ((c.tc : Thread Cert.ModReferenceIdeal.nD Cert.ModReferenceIdeal.τ).loc Cert.ModReferenceIdeal.main_arg11) = m' ((c.tc : Thread Cert.ModReferenceIdeal.nD Cert.ModReferenceIdeal.τ).loc Cert.ModReferenceIdeal.main_arg11)
          ∧ r.2.mem ((c.tc : Thread Cert.ModReferenceIdeal.nD Cert.ModReferenceIdeal.τ).loc Cert.ModReferenceIdeal.main_arg12) = m' ((c.tc : Thread Cert.ModReferenceIdeal.nD Cert.ModReferenceIdeal.τ).loc Cert.ModReferenceIdeal.main_arg12)
          ∧ r.2.mem ((c.tc : Thread Cert.ModReferenceIdeal.nD Cert.ModReferenceIdeal.τ).loc Cert.ModReferenceIdeal.main_arg13) = m' ((c.tc : Thread Cert.ModReferenceIdeal.nD Cert.ModReferenceIdeal.τ).loc Cert.ModReferenceIdeal.main_arg13)
          ∧ r.2.mem ((c.tc : Thread Cert.ModReferenceIdeal.nD Cert.ModReferenceIdeal.τ).loc Cert.ModReferenceIdeal.main_arg14) = m' ((c.tc : Thread Cert.ModReferenceIdeal.nD Cert.ModReferenceIdeal.τ).loc Cert.ModReferenceIdeal.main_arg14)
          ∧ r.2.mem ((c.tc : Thread Cert.ModReferenceIdeal.nD Cert.ModReferenceIdeal.τ).loc Cert.ModReferenceIdeal.main_arg15) = m' ((c.tc : Thread Cert.ModReferenceIdeal.nD Cert.ModReferenceIdeal.τ).loc Cert.ModReferenceIdeal.main_arg15))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInReferenceIdeal : Cert.InReferenceIdeal.Facts) (hBack : Cert.Back.Facts) (hBackIdeal : Cert.BackIdeal.Facts) (hBackReferenceIdeal : Cert.BackReferenceIdeal.Facts) (hProj : Cert.Proj.Facts) (hProjIdeal : Cert.ProjIdeal.Facts) (hProjReferenceIdeal : Cert.ProjReferenceIdeal.Facts) (hMod : Cert.Mod.Facts) (hModIdeal : Cert.ModIdeal.Facts) (hModReferenceIdeal : Cert.ModReferenceIdeal.Facts) (hPre_finite : Cert.Pre_finite.Facts) (hPre_finite_back : Cert.Pre_finite_back.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_In (hIn := hIn)
    ∧ quiescent_InIdeal (hInIdeal := hInIdeal)
    ∧ quiescent_InReferenceIdeal (hInReferenceIdeal := hInReferenceIdeal)
    ∧ quiescent_Back (hBack := hBack)
    ∧ quiescent_BackIdeal (hBackIdeal := hBackIdeal)
    ∧ quiescent_BackIdeal_pre_finite_back (hBackIdeal := hBackIdeal) (hPre_finite_back := hPre_finite_back)
    ∧ quiescent_BackReferenceIdeal (hBackReferenceIdeal := hBackReferenceIdeal)
    ∧ quiescent_BackReferenceIdeal_pre_finite_back (hBackReferenceIdeal := hBackReferenceIdeal) (hPre_finite_back := hPre_finite_back)
    ∧ quiescent_Proj (hProj := hProj)
    ∧ quiescent_ProjIdeal (hProjIdeal := hProjIdeal)
    ∧ quiescent_ProjReferenceIdeal (hProjReferenceIdeal := hProjReferenceIdeal)
    ∧ quiescent_Mod (hMod := hMod)
    ∧ quiescent_ModIdeal (hModIdeal := hModIdeal)
    ∧ quiescent_ModReferenceIdeal (hModReferenceIdeal := hModReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_In_InIdeal
    ∧ algebraic_InIdeal_InReferenceIdeal (hInIdeal := hInIdeal) (hInReferenceIdeal := hInReferenceIdeal)
    ∧ preserves_Back_BackIdeal
    ∧ algebraic_BackIdeal_BackReferenceIdeal_pre_finite_back (hBackIdeal := hBackIdeal) (hBackReferenceIdeal := hBackReferenceIdeal) (hPre_finite_back := hPre_finite_back)
    ∧ preserves_Proj_ProjIdeal
    ∧ algebraic_ProjIdeal_ProjReferenceIdeal (hProjIdeal := hProjIdeal) (hProjReferenceIdeal := hProjReferenceIdeal)
    ∧ preserves_Mod_ModIdeal
    ∧ algebraic_ModIdeal_ModReferenceIdeal (hModIdeal := hModIdeal) (hModReferenceIdeal := hModReferenceIdeal)
-- ==== Pre_finite.lean ====
abbrev S8192x1024 : Shape := ⟨2, ![8192, 1024]⟩
abbrev S8192x5248 : Shape := ⟨2, ![8192, 5248]⟩
abbrev S8192x512 : Shape := ⟨2, ![8192, 512]⟩
abbrev S1x1024 : Shape := ⟨2, ![1, 1024]⟩
abbrev S1x512 : Shape := ⟨2, ![1, 512]⟩
abbrev S512x1024 : Shape := ⟨2, ![512, 1024]⟩
abbrev S1024x1024 : Shape := ⟨2, ![1024, 1024]⟩
abbrev S8192x2560 : Shape := ⟨2, ![8192, 2560]⟩
abbrev S_ : Shape := ⟨0, ![]⟩

class Facts : Prop where
  bitsLt_bf16_f32 : FTy.bits .bf16 < FTy.bits .f32
  slices_S8192x5248_S8192x1024_0_1024 : S8192x5248.Slices ![0, 1024] S8192x1024
  slices_S8192x5248_S8192x2560_0_2560 : S8192x5248.Slices ![0, 2560] S8192x2560
  bcast_S_S8192x1024 : S_.BroadcastsInDim S8192x1024 (![] : Fin 0 → Fin S8192x1024.rank)
  bcast_S_S8192x2560 : S_.BroadcastsInDim S8192x2560 (![] : Fin 0 → Fin S8192x2560.rank)
  bcast_S_S8192x512 : S_.BroadcastsInDim S8192x512 (![] : Fin 0 → Fin S8192x512.rank)
  bcast_S_S1x1024 : S_.BroadcastsInDim S1x1024 (![] : Fin 0 → Fin S1x1024.rank)
  bcast_S_S1x512 : S_.BroadcastsInDim S1x512 (![] : Fin 0 → Fin S1x512.rank)
  bcast_S_S512x1024 : S_.BroadcastsInDim S512x1024 (![] : Fin 0 → Fin S512x1024.rank)
  bcast_S_S1024x1024 : S_.BroadcastsInDim S1024x1024 (![] : Fin 0 → Fin S1024x1024.rank)

variable [Facts]

def fn_part2 {F : FTy → Type} [FloatOps F] (main_arg10 : FVec F S512x1024 .bf16) (main_arg11 : FVec F S1024x1024 .bf16) (main_v5 : IVec S8192x1024 1) (main_v8 : IVec S8192x1024 1) (main_v11 : IVec S8192x1024 1) (main_v14 : IVec S8192x2560 1) (main_v18 : IVec S8192x512 1) (main_v22 : IVec S8192x512 1) (main_v26 : IVec S8192x512 1) (main_v29 : IVec S1x1024 1) (main_v32 : IVec S1x1024 1) (main_v35 : IVec S1x512 1) (main_v37 : FVec F S512x1024 .f32) : IVec S8192x1024 1 × IVec S8192x1024 1 × IVec S8192x1024 1 × IVec S8192x2560 1 × IVec S8192x512 1 × IVec S8192x512 1 × IVec S8192x512 1 × IVec S1x1024 1 × IVec S1x1024 1 × IVec S1x512 1 × IVec S512x1024 1 × IVec S512x1024 1 × IVec S1024x1024 1 :=
  let main_cst_9 : FVec F S_ .f32 := constant S_ .f32 0x7F800000#32
  let main_v38 : FVec F S512x1024 .f32 := broadcastInDim S512x1024 ![] bcast_S_S512x1024 main_cst_9
  let main_v39 : IVec S512x1024 1 := cmpf .olt main_v37 main_v38
  let main_v40 : FVec F S512x1024 .f32 := (extf .f32 · bitsLt_bf16_f32) main_arg10
  let main_v41 : FVec F S512x1024 .f32 := Host.absf main_v40
  let main_cst_10 : FVec F S_ .f32 := constant S_ .f32 0x7F800000#32
  let main_v42 : FVec F S512x1024 .f32 := broadcastInDim S512x1024 ![] bcast_S_S512x1024 main_cst_10
  let main_v43 : IVec S512x1024 1 := cmpf .olt main_v41 main_v42
  let main_v44 : FVec F S1024x1024 .f32 := (extf .f32 · bitsLt_bf16_f32) main_arg11
  let main_v45 : FVec F S1024x1024 .f32 := Host.absf main_v44
  let main_cst_11 : FVec F S_ .f32 := constant S_ .f32 0x7F800000#32
  let main_v46 : FVec F S1024x1024 .f32 := broadcastInDim S1024x1024 ![] bcast_S_S1024x1024 main_cst_11
  let main_v47 : IVec S1024x1024 1 := cmpf .olt main_v45 main_v46
  (main_v5, main_v8, main_v11, main_v14, main_v18, main_v22, main_v26, main_v29, main_v32, main_v35, main_v39, main_v43, main_v47)

def fn_part1 {F : FTy → Type} [FloatOps F] (main_arg4 : FVec F S8192x512 .bf16) (main_arg5 : FVec F S8192x512 .bf16) (main_arg6 : FVec F S1x1024 .f32) (main_arg7 : FVec F S1x1024 .f32) (main_arg8 : FVec F S1x512 .f32) (main_arg9 : FVec F S512x1024 .bf16) (main_arg10 : FVec F S512x1024 .bf16) (main_arg11 : FVec F S1024x1024 .bf16) (main_v5 : IVec S8192x1024 1) (main_v8 : IVec S8192x1024 1) (main_v11 : IVec S8192x1024 1) (main_v14 : IVec S8192x2560 1) (main_v18 : IVec S8192x512 1) : IVec S8192x1024 1 × IVec S8192x1024 1 × IVec S8192x1024 1 × IVec S8192x2560 1 × IVec S8192x512 1 × IVec S8192x512 1 × IVec S8192x512 1 × IVec S1x1024 1 × IVec S1x1024 1 × IVec S1x512 1 × IVec S512x1024 1 × IVec S512x1024 1 × IVec S1024x1024 1 :=
  let main_v19 : FVec F S8192x512 .f32 := (extf .f32 · bitsLt_bf16_f32) main_arg4
  let main_v20 : FVec F S8192x512 .f32 := Host.absf main_v19
  let main_cst_4 : FVec F S_ .f32 := constant S_ .f32 0x7F800000#32
  let main_v21 : FVec F S8192x512 .f32 := broadcastInDim S8192x512 ![] bcast_S_S8192x512 main_cst_4
  let main_v22 : IVec S8192x512 1 := cmpf .olt main_v20 main_v21
  let main_v23 : FVec F S8192x512 .f32 := (extf .f32 · bitsLt_bf16_f32) main_arg5
  let main_v24 : FVec F S8192x512 .f32 := Host.absf main_v23
  let main_cst_5 : FVec F S_ .f32 := constant S_ .f32 0x7F800000#32
  let main_v25 : FVec F S8192x512 .f32 := broadcastInDim S8192x512 ![] bcast_S_S8192x512 main_cst_5
  let main_v26 : IVec S8192x512 1 := cmpf .olt main_v24 main_v25
  let main_v27 : FVec F S1x1024 .f32 := Host.absf main_arg6
  let main_cst_6 : FVec F S_ .f32 := constant S_ .f32 0x7F800000#32
  let main_v28 : FVec F S1x1024 .f32 := broadcastInDim S1x1024 ![] bcast_S_S1x1024 main_cst_6
  let main_v29 : IVec S1x1024 1 := cmpf .olt main_v27 main_v28
  let main_v30 : FVec F S1x1024 .f32 := Host.absf main_arg7
  let main_cst_7 : FVec F S_ .f32 := constant S_ .f32 0x7F800000#32
  let main_v31 : FVec F S1x1024 .f32 := broadcastInDim S1x1024 ![] bcast_S_S1x1024 main_cst_7
  let main_v32 : IVec S1x1024 1 := cmpf .olt main_v30 main_v31
  let main_v33 : FVec F S1x512 .f32 := Host.absf main_arg8
  let main_cst_8 : FVec F S_ .f32 := constant S_ .f32 0x7F800000#32
  let main_v34 : FVec F S1x512 .f32 := broadcastInDim S1x512 ![] bcast_S_S1x512 main_cst_8
  let main_v35 : IVec S1x512 1 := cmpf .olt main_v33 main_v34
  let main_v36 : FVec F S512x1024 .f32 := (extf .f32 · bitsLt_bf16_f32) main_arg9
  let main_v37 : FVec F S512x1024 .f32 := Host.absf main_v36
  fn_part2 (F := F) main_arg10 main_arg11 main_v5 main_v8 main_v11 main_v14 main_v18 main_v22 main_v26 main_v29 main_v32 main_v35 main_v37

def fn {F : FTy → Type} [FloatOps F] (main_arg0 : FVec F S8192x1024 .f32) (main_arg1 : FVec F S8192x1024 .f32) (main_arg2 : FVec F S8192x5248 .bf16) (main_arg3 : FVec F S8192x512 .bf16) (main_arg4 : FVec F S8192x512 .bf16) (main_arg5 : FVec F S8192x512 .bf16) (main_arg6 : FVec F S1x1024 .f32) (main_arg7 : FVec F S1x1024 .f32) (main_arg8 : FVec F S1x512 .f32) (main_arg9 : FVec F S512x1024 .bf16) (main_arg10 : FVec F S512x1024 .bf16) (main_arg11 : FVec F S1024x1024 .bf16) : IVec S8192x1024 1 × IVec S8192x1024 1 × IVec S8192x1024 1 × IVec S8192x2560 1 × IVec S8192x512 1 × IVec S8192x512 1 × IVec S8192x512 1 × IVec S1x1024 1 × IVec S1x1024 1 × IVec S1x512 1 × IVec S512x1024 1 × IVec S512x1024 1 × IVec S1024x1024 1 :=
  let main_v0 : FVec F S8192x5248 .f32 := (extf .f32 · bitsLt_bf16_f32) main_arg2
  let main_v1 : FVec F S8192x1024 .f32 := (extractStridedSlice S8192x1024 ![0, 1024] · slices_S8192x5248_S8192x1024_0_1024) main_v0
  let main_v2 : FVec F S8192x2560 .f32 := (extractStridedSlice S8192x2560 ![0, 2560] · slices_S8192x5248_S8192x2560_0_2560) main_v0
  let main_v3 : FVec F S8192x1024 .f32 := Host.absf main_arg0
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  let main_v6 : FVec F S8192x1024 .f32 := Host.absf main_arg1
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_v9 : FVec F S8192x1024 .f32 := Host.absf main_v1
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x2560 .f32 := Host.absf main_v2
  let main_cst_2 : FVec F S_ .f32 := constant S_ .f32 0x7F800000#32
  let main_v13 : FVec F S8192x2560 .f32 := broadcastInDim S8192x2560 ![] bcast_S_S8192x2560 main_cst_2
  let main_v14 : IVec S8192x2560 1 := cmpf .olt main_v12 main_v13
  let main_v15 : FVec F S8192x512 .f32 := (extf .f32 · bitsLt_bf16_f32) main_arg3
  let main_v16 : FVec F S8192x512 .f32 := Host.absf main_v15
  let main_cst_3 : FVec F S_ .f32 := constant S_ .f32 0x7F800000#32
  let main_v17 : FVec F S8192x512 .f32 := broadcastInDim S8192x512 ![] bcast_S_S8192x512 main_cst_3
  let main_v18 : IVec S8192x512 1 := cmpf .olt main_v16 main_v17
  fn_part1 (F := F) main_arg4 main_arg5 main_arg6 main_arg7 main_arg8 main_arg9 main_arg10 main_arg11 main_v5 main_v8 main_v11 main_v14 main_v18
-- ==== Pre_finite_back.lean ====
abbrev S8192x1024 : Shape := ⟨2, ![8192, 1024]⟩
abbrev S8192x512 : Shape := ⟨2, ![8192, 512]⟩
abbrev S8192x2560 : Shape := ⟨2, ![8192, 2560]⟩
abbrev S8192x128 : Shape := ⟨2, ![8192, 128]⟩
abbrev S1024x5248 : Shape := ⟨2, ![1024, 5248]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x512 : S_.BroadcastsInDim S8192x512 (![] : Fin 0 → Fin S8192x512.rank)
  bcast_S_S8192x2560 : S_.BroadcastsInDim S8192x2560 (![] : Fin 0 → Fin S8192x2560.rank)
  bcast_S_S8192x128 : S_.BroadcastsInDim S8192x128 (![] : Fin 0 → Fin S8192x128.rank)
  bcast_S_S1024x5248 : S_.BroadcastsInDim S1024x5248 (![] : Fin 0 → Fin S1024x5248.rank)
  bcast_S_S1x1024 : S_.BroadcastsInDim S1x1024 (![] : Fin 0 → Fin S1x1024.rank)

variable [Facts]

def fn_part1 {F : FTy → Type} [FloatOps F] (main_arg6 : FVec F S8192x128 .bf16) (main_arg7 : FVec F S1024x5248 .bf16) (main_arg8 : FVec F S1x1024 .f32) (main_arg9 : FVec F S1x1024 .f32) (main_v2 : IVec S8192x1024 1) (main_v6 : IVec S8192x1024 1) (main_v10 : IVec S8192x1024 1) (main_v14 : IVec S8192x512 1) (main_v18 : IVec S8192x2560 1) : IVec S8192x1024 1 × IVec S8192x1024 1 × IVec S8192x1024 1 × IVec S8192x512 1 × IVec S8192x2560 1 × IVec S8192x128 1 × IVec S1024x5248 1 × IVec S1x1024 1 × IVec S1x1024 1 :=
  let main_v19 : FVec F S8192x128 .f32 := (extf .f32 · bitsLt_bf16_f32) main_arg6
  let main_v20 : FVec F S8192x128 .f32 := Host.absf main_v19
  let main_cst_4 : FVec F S_ .f32 := constant S_ .f32 0x7F800000#32
  let main_v21 : FVec F S8192x128 .f32 := broadcastInDim S8192x128 ![] bcast_S_S8192x128 main_cst_4
  let main_v22 : IVec S8192x128 1 := cmpf .olt main_v20 main_v21
  let main_v23 : FVec F S1024x5248 .f32 := (extf .f32 · bitsLt_bf16_f32) main_arg7
  let main_v24 : FVec F S1024x5248 .f32 := Host.absf main_v23
  let main_cst_5 : FVec F S_ .f32 := constant S_ .f32 0x7F800000#32
  let main_v25 : FVec F S1024x5248 .f32 := broadcastInDim S1024x5248 ![] bcast_S_S1024x5248 main_cst_5
  let main_v26 : IVec S1024x5248 1 := cmpf .olt main_v24 main_v25
  let main_v27 : FVec F S1x1024 .f32 := Host.absf main_arg8
  let main_cst_6 : FVec F S_ .f32 := constant S_ .f32 0x7F800000#32
  let main_v28 : FVec F S1x1024 .f32 := broadcastInDim S1x1024 ![] bcast_S_S1x1024 main_cst_6
  let main_v29 : IVec S1x1024 1 := cmpf .olt main_v27 main_v28
  let main_v30 : FVec F S1x1024 .f32 := Host.absf main_arg9
  let main_cst_7 : FVec F S_ .f32 := constant S_ .f32 0x7F800000#32
  let main_v31 : FVec F S1x1024 .f32 := broadcastInDim S1x1024 ![] bcast_S_S1x1024 main_cst_7
  let main_v32 : IVec S1x1024 1 := cmpf .olt main_v30 main_v31
  (main_v2, main_v6, main_v10, main_v14, main_v18, main_v22, main_v26, main_v29, main_v32)

def fn {F : FTy → Type} [FloatOps F] (main_arg0 : FVec F S8192x1024 .f32) (main_arg1 : FVec F S8192x1024 .f32) (main_arg2 : FVec F S8192x1024 .bf16) (main_arg3 : FVec F S8192x1024 .bf16) (main_arg4 : FVec F S8192x512 .bf16) (main_arg5 : FVec F S8192x2560 .bf16) (main_arg6 : FVec F S8192x128 .bf16) (main_arg7 : FVec F S1024x5248 .bf16) (main_arg8 : FVec F S1x1024 .f32) (main_arg9 : FVec F S1x1024 .f32) : IVec S8192x1024 1 × IVec S8192x1024 1 × IVec S8192x1024 1 × IVec S8192x512 1 × IVec S8192x2560 1 × IVec S8192x128 1 × IVec S1024x5248 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extf .f32 · bitsLt_bf16_f32) main_arg2
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x1024 .f32 := (extf .f32 · bitsLt_bf16_f32) main_arg3
  let main_v8 : FVec F S8192x1024 .f32 := Host.absf main_v7
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x512 .f32 := (extf .f32 · bitsLt_bf16_f32) main_arg4
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_v15 : FVec F S8192x2560 .f32 := (extf .f32 · bitsLt_bf16_f32) main_arg5
  let main_v16 : FVec F S8192x2560 .f32 := Host.absf main_v15
  let main_cst_3 : FVec F S_ .f32 := constant S_ .f32 0x7F800000#32
  let main_v17 : FVec F S8192x2560 .f32 := broadcastInDim S8192x2560 ![] bcast_S_S8192x2560 main_cst_3
  let main_v18 : IVec S8192x2560 1 := cmpf .olt main_v16 main_v17
  fn_part1 (F := F) main_arg6 main_arg7 main_arg8 main_arg9 main_v2 main_v6 main_v10 main_v14 main_v18
-- ==== Kernel.lean ====
abbrev S8192x1024 : Shape := ⟨2, ![8192, 1024]⟩
abbrev S8192x5248 : Shape := ⟨2, ![8192, 5248]⟩
abbrev S8192x512 : Shape := ⟨2, ![8192, 512]⟩
abbrev S1x1024 : Shape := ⟨2, ![1, 1024]⟩
abbrev S1x512 : Shape := ⟨2, ![1, 512]⟩
abbrev S512x1024 : Shape := ⟨2, ![512, 1024]⟩
abbrev S1024x1024 : Shape := ⟨2, ![1024, 1024]⟩
abbrev S8192x2560 : Shape := ⟨2, ![8192, 2560]⟩
abbrev S1x1 : Shape := ⟨2, ![1, 1]⟩
abbrev S256x1024 : Shape := ⟨2, ![256, 1024]⟩
abbrev S256x512 : Shape := ⟨2, ![256, 512]⟩
abbrev S256x2560 : Shape := ⟨2, ![256, 2560]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1024 : Shape := ⟨1, ![1024]⟩
abbrev S512 : Shape := ⟨1, ![512]⟩

abbrev nBuf : Space → Nat
  | .hbm => 24
  | .vmem => 46
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5248, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S1x1024, .f32⟩
  | .hbm, ⟨7, _⟩ => ⟨S1x1024, .f32⟩
  | .hbm, ⟨8, _⟩ => ⟨S1x512, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S8192x1024, .f32⟩
  | .hbm, ⟨13, _⟩ => ⟨S8192x1024, .bf16⟩
  | .hbm, ⟨14, _⟩ => ⟨S8192x2560, .bf16⟩
  | .hbm, ⟨15, _⟩ => ⟨S8192x512, .bf16⟩
  | .hbm, ⟨16, _⟩ => ⟨S8192x512, .bf16⟩
  | .hbm, ⟨17, _⟩ => ⟨S1024x1024, .bf16⟩
  | .hbm, ⟨18, _⟩ => ⟨S512x1024, .bf16⟩
  | .hbm, ⟨19, _⟩ => ⟨S512x1024, .bf16⟩
  | .hbm, ⟨20, _⟩ => ⟨S1x1024, .f32⟩
  | .hbm, ⟨21, _⟩ => ⟨S1x1024, .f32⟩
  | .hbm, ⟨22, _⟩ => ⟨S1x512, .f32⟩
  | .hbm, ⟨23, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S1x1024, .f32⟩
  | .local _ .vmem, ⟨21, _⟩ => ⟨S1x1024, .f32⟩
  | .local _ .vmem, ⟨22, _⟩ => ⟨S1x512, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | .local _ .vmem, ⟨30, _⟩ => ⟨S256x2560, .bf16⟩
  | .local _ .vmem, ⟨31, _⟩ => ⟨S256x2560, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S1024x1024, .bf16⟩
  | .local _ .vmem, ⟨37, _⟩ => ⟨S512x1024, .bf16⟩
  | .local _ .vmem, ⟨38, _⟩ => ⟨S512x1024, .bf16⟩
  | .local _ .vmem, ⟨39, _⟩ => ⟨S1x1024, .f32⟩
  | .local _ .vmem, ⟨40, _⟩ => ⟨S1x1024, .f32⟩
  | .local _ .vmem, ⟨41, _⟩ => ⟨S1x512, .f32⟩
  | .local _ .vmem, ⟨42, _⟩ => ⟨S1x1, .f32⟩
  | .local _ .vmem, ⟨43, _⟩ => ⟨S1024x1024, .f32⟩
  | .local _ .vmem, ⟨44, _⟩ => ⟨S512x1024, .f32⟩
  | .local _ .vmem, ⟨45, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_stg25_0 : Ref sig .tc := ⟨.vmem, 40, rfl⟩
abbrev cc0_stg26_0 : Ref sig .tc := ⟨.vmem, 41, rfl⟩
abbrev cc0_stg27_0 : Ref sig .tc := ⟨.vmem, 42, rfl⟩
abbrev cc0_scratch0 : Ref sig .tc := ⟨.vmem, 43, rfl⟩
abbrev cc0_scratch1 : Ref sig .tc := ⟨.vmem, 44, rfl⟩
abbrev cc0_scratch2 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem22_0 : DmaSem sig := 37
abbrev cc0_sem23_0 : DmaSem sig := 38
abbrev cc0_sem24_0 : DmaSem sig := 39
abbrev cc0_sem25_0 : DmaSem sig := 40
abbrev cc0_sem26_0 : DmaSem sig := 41
abbrev cc0_sem27_0 : DmaSem sig := 42

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v302 : BitVec 1 := Scalar.cmpi .eq arg0 c31_i32
  let v303 : BitVec 32 := Scalar.extui v302
  let c0_i32_144 : BitVec 32 := 0#32
  let v304 : BitVec 1 := Scalar.cmpi .ne v303 c0_i32_144
  v304

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2560 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== ReferenceIdeal.lean ====
abbrev S8192x1024 : Shape := ⟨2, ![8192, 1024]⟩
abbrev S8192x5248 : Shape := ⟨2, ![8192, 5248]⟩
abbrev S8192x512 : Shape := ⟨2, ![8192, 512]⟩
abbrev S1x1024 : Shape := ⟨2, ![1, 1024]⟩
abbrev S1x512 : Shape := ⟨2, ![1, 512]⟩
abbrev S512x1024 : Shape := ⟨2, ![512, 1024]⟩
abbrev S1024x1024 : Shape := ⟨2, ![1024, 1024]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S4x128 : Shape := ⟨2, ![4, 128]⟩
abbrev S1x4x128 : Shape := ⟨3, ![1, 4, 128]⟩
abbrev S8192 : Shape := ⟨1, ![8192]⟩
abbrev S8192x1 : Shape := ⟨2, ![8192, 1]⟩
abbrev S1024 : Shape := ⟨1, ![1024]⟩
abbrev S1024x512 : Shape := ⟨2, ![1024, 512]⟩
abbrev S8192x2560 : Shape := ⟨2, ![8192, 2560]⟩
abbrev S1x1 : Shape := ⟨2, ![1, 1]⟩

abbrev nBuf : Space → Nat
  | .hbm => 248
  | .vmem => 0
  | .smem => 0
  | _ => 0

abbrev hbmTy0_0 (i : Nat) : BufTy := match i % 128 with
  | 0 => ⟨S8192x1024, .f32⟩
  | 1 => ⟨S8192x1024, .f32⟩
  | 2 => ⟨S8192x5248, .bf16⟩
  | 3 => ⟨S8192x512, .bf16⟩
  | 4 => ⟨S8192x512, .bf16⟩
  | 5 => ⟨S8192x512, .bf16⟩
  | 6 => ⟨S1x1024, .f32⟩
  | 7 => ⟨S1x1024, .f32⟩
  | 8 => ⟨S1x512, .f32⟩
  | 9 => ⟨S512x1024, .bf16⟩
  | 10 => ⟨S512x1024, .bf16⟩
  | 11 => ⟨S1024x1024, .bf16⟩
  | 12 => ⟨S8192x5248, .f32⟩
  | 13 => ⟨S8192x512, .f32⟩
  | 14 => ⟨S8192x512, .f32⟩
  | 15 => ⟨S8192x512, .f32⟩
  | 16 => ⟨S512x1024, .f32⟩
  | 17 => ⟨S512x1024, .f32⟩
  | 18 => ⟨S1024x1024, .f32⟩
  | 19 => ⟨S8192x512, .f32⟩
  | 20 => ⟨S8192x512, .f32⟩
  | 21 => ⟨S8192x512, .f32⟩
  | 22 => ⟨S8192x1024, .f32⟩
  | 23 => ⟨S8192x1024, .f32⟩
  | 24 => ⟨S8192x512, .f32⟩
  | 25 => ⟨S8192x4x128, .f32⟩
  | 26 => ⟨S8192x4x128, .f32⟩
  | 27 => ⟨S_, .f32⟩
  | 28 => ⟨S8192x4, .f32⟩
  | 29 => ⟨S8192x4x1, .f32⟩
  | 30 => ⟨S_, .f32⟩
  | 31 => ⟨S8192x4x1, .f32⟩
  | 32 => ⟨S8192x4x1, .f32⟩
  | 33 => ⟨S_, .f32⟩
  | 34 => ⟨S8192x4x1, .f32⟩
  | 35 => ⟨S8192x4x1, .f32⟩
  | 36 => ⟨S8192x4x1, .f32⟩
  | 37 => ⟨S8192x4x1, .f32⟩
  | 38 => ⟨S_, .f32⟩
  | 39 => ⟨S8192x4x1, .f32⟩
  | 40 => ⟨S8192x4x1, .f32⟩
  | 41 => ⟨S8192x4x128, .f32⟩
  | 42 => ⟨S8192x4x128, .f32⟩
  | 43 => ⟨S4x128, .f32⟩
  | 44 => ⟨S1x4x128, .f32⟩
  | 45 => ⟨S8192x4x128, .f32⟩
  | 46 => ⟨S8192x4x128, .f32⟩
  | 47 => ⟨S8192x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x1024, .f32⟩
  | 63 => ⟨S8192x512, .f32⟩
  | 64 => ⟨S8192x512, .f32⟩
  | 65 => ⟨S8192x512, .f32⟩
  | 66 => ⟨S_, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S_, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S8192x1024, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S_, .f32⟩
  | 118 => ⟨S8192x1, .f32⟩
  | 119 => ⟨S8192x1, .f32⟩
  | 120 => ⟨S8192x1, .f32⟩
  | 121 => ⟨S8192x1, .f32⟩
  | 122 => ⟨S_, .f32⟩
  | 123 => ⟨S8192x1, .f32⟩
  | 124 => ⟨S8192x1, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192x1024, .f32⟩
  | 5 => ⟨S8192x1024, .f32⟩
  | 6 => ⟨S_, .f32⟩
  | 7 => ⟨S8192, .f32⟩
  | 8 => ⟨S_, .f32⟩
  | 9 => ⟨S8192, .f32⟩
  | 10 => ⟨S8192, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S8192, .f32⟩
  | 19 => ⟨S_, .f32⟩
  | 20 => ⟨S8192, .f32⟩
  | 21 => ⟨S8192, .f32⟩
  | 22 => ⟨S8192x1024, .f32⟩
  | 23 => ⟨S8192x1024, .f32⟩
  | 24 => ⟨S8192x1024, .f32⟩
  | 25 => ⟨S_, .f32⟩
  | 26 => ⟨S1024, .f32⟩
  | 27 => ⟨S1x1024, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S8192x1024, .f32⟩
  | 35 => ⟨S8192x1024, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S_, .f32⟩
  | 51 => ⟨S1024, .f32⟩
  | 52 => ⟨S1x1024, .f32⟩
  | 53 => ⟨S1024x1024, .f32⟩
  | 54 => ⟨S1024x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S1024x512, .f32⟩
  | 63 => ⟨S512x1024, .f32⟩
  | 64 => ⟨S8192x512, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S1024x512, .f32⟩
  | 74 => ⟨S512x1024, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S8192x4x128, .f32⟩
  | 83 => ⟨S8192x4x128, .f32⟩
  | 84 => ⟨S_, .f32⟩
  | 85 => ⟨S4x128, .f32⟩
  | 86 => ⟨S1x4x128, .f32⟩
  | 87 => ⟨S8192x4x128, .f32⟩
  | 88 => ⟨S8192x4x128, .f32⟩
  | 89 => ⟨S_, .f32⟩
  | 90 => ⟨S4x128, .f32⟩
  | 91 => ⟨S1x512, .f32⟩
  | 92 => ⟨S8192x4x128, .f32⟩
  | 93 => ⟨S_, .f32⟩
  | 94 => ⟨S8192x4, .f32⟩
  | 95 => ⟨S8192x4x1, .f32⟩
  | 96 => ⟨S8192x4x128, .f32⟩
  | 97 => ⟨S8192x4x128, .f32⟩
  | 98 => ⟨S8192x4x1, .f32⟩
  | 99 => ⟨S_, .f32⟩
  | 100 => ⟨S8192x4x1, .f32⟩
  | 101 => ⟨S8192x4x1, .f32⟩
  | 102 => ⟨S_, .f32⟩
  | 103 => ⟨S8192x4, .f32⟩
  | 104 => ⟨S8192x4x128, .f32⟩
  | 105 => ⟨S8192x4x128, .f32⟩
  | 106 => ⟨S8192x4x128, .f32⟩
  | 107 => ⟨S8192x4x128, .f32⟩
  | 108 => ⟨S8192x4x128, .f32⟩
  | 109 => ⟨S8192x512, .f32⟩
  | 110 => ⟨S8192x1024, .f32⟩
  | 111 => ⟨S8192x1024, .bf16⟩
  | 112 => ⟨S8192x2560, .f32⟩
  | 113 => ⟨S8192x2560, .bf16⟩
  | 114 => ⟨S8192x512, .bf16⟩
  | 115 => ⟨S8192x512, .bf16⟩
  | 116 => ⟨S1024x1024, .bf16⟩
  | 117 => ⟨S512x1024, .bf16⟩
  | 118 => ⟨S512x1024, .bf16⟩
  | 119 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v32_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v32_1 : Ref sig .tc := ⟨.hbm, 59, rfl⟩
abbrev main_v32_0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_v36_2 : Ref sig .tc := ⟨.hbm, 71, rfl⟩
abbrev main_call1_cst_1 : Ref sig .tc := ⟨.hbm, 72, rfl⟩
abbrev main_call1_v6 : Ref sig .tc := ⟨.hbm, 73, rfl⟩
abbrev main_call1_v7 : Ref sig .tc := ⟨.hbm, 74, rfl⟩
abbrev main_v36_1 : Ref sig .tc := ⟨.hbm, 75, rfl⟩
abbrev main_v36_0 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_3 : Ref sig .tc := ⟨.hbm, 81, rfl⟩
abbrev main_v41 : Ref sig .tc := ⟨.hbm, 82, rfl⟩
abbrev main_v42 : Ref sig .tc := ⟨.hbm, 83, rfl⟩
abbrev main_cst_4 : Ref sig .tc := ⟨.hbm, 84, rfl⟩
abbrev main_v43 : Ref sig .tc := ⟨.hbm, 85, rfl⟩
abbrev main_v44 : Ref sig .tc := ⟨.hbm, 86, rfl⟩
abbrev main_cst_5 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_6 : Ref sig .tc := ⟨.hbm, 94, rfl⟩
abbrev main_v51 : Ref sig .tc := ⟨.hbm, 95, rfl⟩
abbrev main_v52 : Ref sig .tc := ⟨.hbm, 96, rfl⟩
abbrev main_cst_7 : Ref sig .tc := ⟨.hbm, 97, rfl⟩
abbrev main_v53 : Ref sig .tc := ⟨.hbm, 98, rfl⟩
abbrev main_v54 : Ref sig .tc := ⟨.hbm, 99, rfl⟩
abbrev main_cst_8 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_9 : Ref sig .tc := ⟨.hbm, 111, rfl⟩
abbrev main_v65 : Ref sig .tc := ⟨.hbm, 112, rfl⟩
abbrev main_v66 : Ref sig .tc := ⟨.hbm, 113, rfl⟩
abbrev main_cst_10 : Ref sig .tc := ⟨.hbm, 114, rfl⟩
abbrev main_v67 : Ref sig .tc := ⟨.hbm, 115, rfl⟩
abbrev main_v68 : Ref sig .tc := ⟨.hbm, 116, rfl⟩
abbrev main_cst_11 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_12 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_13 : Ref sig .tc := ⟨.hbm, 131, rfl⟩
abbrev main_v81 : Ref sig .tc := ⟨.hbm, 132, rfl⟩
abbrev main_v82 : Ref sig .tc := ⟨.hbm, 133, rfl⟩
abbrev main_cst_14 : Ref sig .tc := ⟨.hbm, 134, rfl⟩
abbrev main_v83 : Ref sig .tc := ⟨.hbm, 135, rfl⟩
abbrev main_cst_15 : Ref sig .tc := ⟨.hbm, 136, rfl⟩
abbrev main_v84 : Ref sig .tc := ⟨.hbm, 137, rfl⟩
abbrev main_v85 : Ref sig .tc := ⟨.hbm, 138, rfl⟩
abbrev main_cst_16 : Ref sig .tc := ⟨.hbm, 139, rfl⟩
abbrev main_v86 : Ref sig .tc := ⟨.hbm, 140, rfl⟩
abbrev main_cst_17 : Ref sig .tc := ⟨.hbm, 141, rfl⟩
abbrev main_v87 : Ref sig .tc := ⟨.hbm, 142, rfl⟩
abbrev main_cst_18 : Ref sig .tc := ⟨.hbm, 143, rfl⟩
abbrev main_cst_19 : Ref sig .tc := ⟨.hbm, 144, rfl⟩
abbrev main_v88 : Ref sig .tc := ⟨.hbm, 145, rfl⟩
abbrev main_v89 : Ref sig .tc := ⟨.hbm, 146, rfl⟩
abbrev main_cst_20 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_21 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_22 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_23 : Ref sig .tc := ⟨.hbm, 165, rfl⟩
abbrev main_v105 : Ref sig .tc := ⟨.hbm, 166, rfl⟩
abbrev main_v106 : Ref sig .tc := ⟨.hbm, 167, rfl⟩
abbrev main_cst_24 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_25 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_call2_v0 : Ref sig .tc := ⟨.hbm, 195, rfl⟩
abbrev main_call2_v1 : Ref sig .tc := ⟨.hbm, 196, rfl⟩
abbrev main_call2_v2 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_call3_v0 : Ref sig .tc := ⟨.hbm, 206, rfl⟩
abbrev main_call3_v1 : Ref sig .tc := ⟨.hbm, 207, rfl⟩
abbrev main_call3_v2 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_cst_26 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_cst_27 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_cst_28 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_cst_29 : Ref sig .tc := ⟨.hbm, 227, rfl⟩
abbrev main_v155 : Ref sig .tc := ⟨.hbm, 228, rfl⟩
abbrev main_v156 : Ref sig .tc := ⟨.hbm, 229, rfl⟩
abbrev main_cst_30 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩

abbrev nD : Nat := 1
abbrev τ : Topo := Topo.v7x

variable {F : FTy → Type} [FloatOps F]
-- ==== In.lean ====
abbrev S8192x1024 : Shape := ⟨2, ![8192, 1024]⟩
abbrev S1x1024 : Shape := ⟨2, ![1, 1024]⟩
abbrev S1024x5248 : Shape := ⟨2, ![1024, 5248]⟩
abbrev S8192x5248 : Shape := ⟨2, ![8192, 5248]⟩
abbrev S512x1024 : Shape := ⟨2, ![512, 1024]⟩
abbrev S512x5248 : Shape := ⟨2, ![512, 5248]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5248, .bf16⟩
  | .hbm, ⟨5, _⟩ => ⟨S8192x5248, .bf16⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x5248, .bf16⟩
  | .local _ .vmem, ⟨7, _⟩ => ⟨S512x5248, .bf16⟩
  | .local _ .vmem, ⟨8, _⟩ => ⟨S512x5248, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5248 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x5248 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InReferenceIdeal.lean ====
abbrev S8192x1024 : Shape := ⟨2, ![8192, 1024]⟩
abbrev S1x1024 : Shape := ⟨2, ![1, 1024]⟩
abbrev S1024x5248 : Shape := ⟨2, ![1024, 5248]⟩
abbrev S_ : Shape := ⟨0, ![]⟩
abbrev S8192 : Shape := ⟨1, ![8192]⟩
abbrev S8192x1 : Shape := ⟨2, ![8192, 1]⟩
abbrev S8192x5248 : Shape := ⟨2, ![8192, 5248]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5248, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x5248, .f32⟩
  | .hbm, ⟨28, _⟩ => ⟨S8192x5248, .f32⟩
  | .hbm, ⟨29, _⟩ => ⟨S8192x5248, .bf16⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Back.lean ====
abbrev S8192x1024 : Shape := ⟨2, ![8192, 1024]⟩
abbrev S8192x512 : Shape := ⟨2, ![8192, 512]⟩
abbrev S8192x2560 : Shape := ⟨2, ![8192, 2560]⟩
abbrev S8192x128 : Shape := ⟨2, ![8192, 128]⟩
abbrev S1024x5248 : Shape := ⟨2, ![1024, 5248]⟩
abbrev S1x1024 : Shape := ⟨2, ![1, 1024]⟩
abbrev S512x1024 : Shape := ⟨2, ![512, 1024]⟩
abbrev S512x512 : Shape := ⟨2, ![512, 512]⟩
abbrev S512x2560 : Shape := ⟨2, ![512, 2560]⟩
abbrev S512x128 : Shape := ⟨2, ![512, 128]⟩
abbrev S1024x1024 : Shape := ⟨2, ![1024, 1024]⟩
abbrev S1024x512 : Shape := ⟨2, ![1024, 512]⟩
abbrev S1024x2560 : Shape := ⟨2, ![1024, 2560]⟩
abbrev S1024x128 : Shape := ⟨2, ![1024, 128]⟩
abbrev S512 : Shape := ⟨1, ![512]⟩
abbrev S512x1 : Shape := ⟨2, ![512, 1]⟩
abbrev S1024 : Shape := ⟨1, ![1024]⟩

abbrev nBuf : Space → Nat
  | .hbm => 14
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S8192x2560, .bf16⟩
  | .hbm, ⟨6, _⟩ => ⟨S8192x128, .bf16⟩
  | .hbm, ⟨7, _⟩ => ⟨S1024x5248, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x2560, .bf16⟩
  | .local _ .vmem, ⟨11, _⟩ => ⟨S512x2560, .bf16⟩
  | .local _ .vmem, ⟨12, _⟩ => ⟨S512x128, .bf16⟩
  | .local _ .vmem, ⟨13, _⟩ => ⟨S512x128, .bf16⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x2560, .bf16⟩
  | .local _ .vmem, ⟨18, _⟩ => ⟨S1024x128, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_10 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_11 (i : grid0.Coords) : Fin 2 → Nat :=
  let arg0 : BitVec 32 := BitVec.ofNat 32 (i 0).val
  let c0_i32 : BitVec 32 := 0#32
  let c40_i32 : BitVec 32 := 40#32
  let c0_i32_0 : BitVec 32 := 0#32
  ![c0_i32.toNat, c40_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== BackReferenceIdeal.lean ====
abbrev S8192x1024 : Shape := ⟨2, ![8192, 1024]⟩
abbrev S8192x512 : Shape := ⟨2, ![8192, 512]⟩
abbrev S8192x2560 : Shape := ⟨2, ![8192, 2560]⟩
abbrev S8192x128 : Shape := ⟨2, ![8192, 128]⟩
abbrev S1024x5248 : Shape := ⟨2, ![1024, 5248]⟩
abbrev S1x1024 : Shape := ⟨2, ![1, 1024]⟩
abbrev S1024x1024 : Shape := ⟨2, ![1024, 1024]⟩
abbrev S1024x512 : Shape := ⟨2, ![1024, 512]⟩
abbrev S1024x2560 : Shape := ⟨2, ![1024, 2560]⟩
abbrev S1024x128 : Shape := ⟨2, ![1024, 128]⟩
abbrev S512x1024 : Shape := ⟨2, ![512, 1024]⟩
abbrev S2560x1024 : Shape := ⟨2, ![2560, 1024]⟩
abbrev S128x1024 : Shape := ⟨2, ![128, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S8192x2560, .bf16⟩
  | .hbm, ⟨6, _⟩ => ⟨S8192x128, .bf16⟩
  | .hbm, ⟨7, _⟩ => ⟨S1024x5248, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x512, .f32⟩
  | .hbm, ⟨13, _⟩ => ⟨S8192x2560, .f32⟩
  | .hbm, ⟨14, _⟩ => ⟨S8192x128, .f32⟩
  | .hbm, ⟨15, _⟩ => ⟨S1024x5248, .f32⟩
  | .hbm, ⟨16, _⟩ => ⟨S1024x1024, .f32⟩
  | .hbm, ⟨17, _⟩ => ⟨S1024x1024, .f32⟩
  | .hbm, ⟨18, _⟩ => ⟨S1024x512, .f32⟩
  | .hbm, ⟨19, _⟩ => ⟨S1024x2560, .f32⟩
  | .hbm, ⟨20, _⟩ => ⟨S1024x128, .f32⟩
  | .hbm, ⟨21, _⟩ => ⟨S1024x1024, .f32⟩
  | .hbm, ⟨22, _⟩ => ⟨S8192x1024, .f32⟩
  | .hbm, ⟨23, _⟩ => ⟨S1024x1024, .f32⟩
  | .hbm, ⟨24, _⟩ => ⟨S8192x1024, .f32⟩
  | .hbm, ⟨25, _⟩ => ⟨S8192x1024, .f32⟩
  | .hbm, ⟨26, _⟩ => ⟨S512x1024, .f32⟩
  | .hbm, ⟨27, _⟩ => ⟨S8192x1024, .f32⟩
  | .hbm, ⟨28, _⟩ => ⟨S8192x1024, .f32⟩
  | .hbm, ⟨29, _⟩ => ⟨S2560x1024, .f32⟩
  | .hbm, ⟨30, _⟩ => ⟨S8192x1024, .f32⟩
  | .hbm, ⟨31, _⟩ => ⟨S8192x1024, .f32⟩
  | .hbm, ⟨32, _⟩ => ⟨S128x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Proj.lean ====
abbrev S8x512x128 : Shape := ⟨3, ![8, 512, 128]⟩
abbrev S8x128x1024 : Shape := ⟨3, ![8, 128, 1024]⟩
abbrev S1x512x128 : Shape := ⟨3, ![1, 512, 128]⟩
abbrev S1x128x1024 : Shape := ⟨3, ![1, 128, 1024]⟩
abbrev S512x128 : Shape := ⟨2, ![512, 128]⟩
abbrev S128x1024 : Shape := ⟨2, ![128, 1024]⟩

abbrev nBuf : Space → Nat
  | .hbm => 24
  | .vmem => 24
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S8x128x1024, .bf16⟩
  | .hbm, ⟨3, _⟩ => ⟨S1x512x128, .f32⟩
  | .hbm, ⟨4, _⟩ => ⟨S1x512x128, .f32⟩
  | .hbm, ⟨5, _⟩ => ⟨S1x128x1024, .f32⟩
  | .hbm, ⟨6, _⟩ => ⟨S1x512x128, .f32⟩
  | .hbm, ⟨7, _⟩ => ⟨S1x512x128, .f32⟩
  | .hbm, ⟨8, _⟩ => ⟨S1x128x1024, .f32⟩
  | .hbm, ⟨9, _⟩ => ⟨S1x512x128, .f32⟩
  | .hbm, ⟨10, _⟩ => ⟨S1x512x128, .f32⟩
  | .hbm, ⟨11, _⟩ => ⟨S1x128x1024, .f32⟩
  | .hbm, ⟨12, _⟩ => ⟨S1x512x128, .f32⟩
  | .hbm, ⟨13, _⟩ => ⟨S1x512x128, .f32⟩
  | .hbm, ⟨14, _⟩ => ⟨S1x128x1024, .f32⟩
  | .hbm, ⟨15, _⟩ => ⟨S1x512x128, .f32⟩
  | .hbm, ⟨16, _⟩ => ⟨S1x512x128, .f32⟩
  | .hbm, ⟨17, _⟩ => ⟨S1x128x1024, .f32⟩
  | .hbm, ⟨18, _⟩ => ⟨S1x512x128, .f32⟩
  | .hbm, ⟨19, _⟩ => ⟨S1x512x128, .f32⟩
  | .hbm, ⟨20, _⟩ => ⟨S1x128x1024, .f32⟩
  | .hbm, ⟨21, _⟩ => ⟨S1x512x128, .f32⟩
  | .hbm, ⟨22, _⟩ => ⟨S1x512x128, .f32⟩
  | .hbm, ⟨23, _⟩ => ⟨S1x128x1024, .f32⟩
  | .local _ .vmem, ⟨0, _⟩ => ⟨S8x512x128, .bf16⟩
  | .local _ .vmem, ⟨1, _⟩ => ⟨S8x512x128, .bf16⟩
  | .local _ .vmem, ⟨2, _⟩ => ⟨S8x128x1024, .bf16⟩
  | .local _ .vmem, ⟨3, _⟩ => ⟨S1x512x128, .f32⟩
  | .local _ .vmem, ⟨4, _⟩ => ⟨S1x512x128, .f32⟩
  | .local _ .vmem, ⟨5, _⟩ => ⟨S1x128x1024, .f32⟩
  | .local _ .vmem, ⟨6, _⟩ => ⟨S1x512x128, .f32⟩
  | .local _ .vmem, ⟨7, _⟩ => ⟨S1x512x128, .f32⟩
  | .local _ .vmem, ⟨8, _⟩ => ⟨S1x128x1024, .f32⟩
  | .local _ .vmem, ⟨9, _⟩ => ⟨S1x512x128, .f32⟩
  | .local _ .vmem, ⟨10, _⟩ => ⟨S1x512x128, .f32⟩
  | .local _ .vmem, ⟨11, _⟩ => ⟨S1x128x1024, .f32⟩
  | .local _ .vmem, ⟨12, _⟩ => ⟨S1x512x128, .f32⟩
  | .local _ .vmem, ⟨13, _⟩ => ⟨S1x512x128, .f32⟩
  | .local _ .vmem, ⟨14, _⟩ => ⟨S1x128x1024, .f32⟩
  | .local _ .vmem, ⟨15, _⟩ => ⟨S1x512x128, .f32⟩
  | .local _ .vmem, ⟨16, _⟩ => ⟨S1x512x128, .f32⟩
  | .local _ .vmem, ⟨17, _⟩ => ⟨S1x128x1024, .f32⟩
  | .local _ .vmem, ⟨18, _⟩ => ⟨S1x512x128, .f32⟩
  | .local _ .vmem, ⟨19, _⟩ => ⟨S1x512x128, .f32⟩
  | .local _ .vmem, ⟨20, _⟩ => ⟨S1x128x1024, .f32⟩
  | .local _ .vmem, ⟨21, _⟩ => ⟨S1x512x128, .f32⟩
  | .local _ .vmem, ⟨22, _⟩ => ⟨S1x512x128, .f32⟩
  | .local _ .vmem, ⟨23, _⟩ => ⟨S1x128x1024, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ProjIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ProjReferenceIdeal.lean ====
abbrev S8x512x128 : Shape := ⟨3, ![8, 512, 128]⟩
abbrev S8x128x1024 : Shape := ⟨3, ![8, 128, 1024]⟩
abbrev S1x512x128 : Shape := ⟨3, ![1, 512, 128]⟩
abbrev S1x128x1024 : Shape := ⟨3, ![1, 128, 1024]⟩
abbrev S_ : Shape := ⟨0, ![]⟩
abbrev S512x128 : Shape := ⟨2, ![512, 128]⟩
abbrev S128x1024 : Shape := ⟨2, ![128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S8x128x1024, .bf16⟩
  | .hbm, ⟨3, _⟩ => ⟨S1x512x128, .f32⟩
  | .hbm, ⟨4, _⟩ => ⟨S1x512x128, .f32⟩
  | .hbm, ⟨5, _⟩ => ⟨S1x128x1024, .f32⟩
  | .hbm, ⟨6, _⟩ => ⟨S1x512x128, .f32⟩
  | .hbm, ⟨7, _⟩ => ⟨S1x512x128, .f32⟩
  | .hbm, ⟨8, _⟩ => ⟨S1x128x1024, .f32⟩
  | .hbm, ⟨9, _⟩ => ⟨S1x512x128, .f32⟩
  | .hbm, ⟨10, _⟩ => ⟨S1x512x128, .f32⟩
  | .hbm, ⟨11, _⟩ => ⟨S1x128x1024, .f32⟩
  | .hbm, ⟨12, _⟩ => ⟨S8x512x128, .f32⟩
  | .hbm, ⟨13, _⟩ => ⟨S_, .f32⟩
  | .hbm, ⟨14, _⟩ => ⟨S512x128, .f32⟩
  | .hbm, ⟨15, _⟩ => ⟨S1x512x128, .f32⟩
  | .hbm, ⟨16, _⟩ => ⟨S8x512x128, .f32⟩
  | .hbm, ⟨17, _⟩ => ⟨S_, .f32⟩
  | .hbm, ⟨18, _⟩ => ⟨S512x128, .f32⟩
  | .hbm, ⟨19, _⟩ => ⟨S1x512x128, .f32⟩
  | .hbm, ⟨20, _⟩ => ⟨S8x128x1024, .f32⟩
  | .hbm, ⟨21, _⟩ => ⟨S_, .f32⟩
  | .hbm, ⟨22, _⟩ => ⟨S128x1024, .f32⟩
  | .hbm, ⟨23, _⟩ => ⟨S1x128x1024, .f32⟩
  | .hbm, ⟨24, _⟩ => ⟨S_, .f32⟩
  | .hbm, ⟨25, _⟩ => ⟨S1x512x128, .f32⟩
  | .hbm, ⟨26, _⟩ => ⟨S1x512x128, .f32⟩
  | .hbm, ⟨27, _⟩ => ⟨S_, .f32⟩
  | .hbm, ⟨28, _⟩ => ⟨S1x512x128, .f32⟩
  | .hbm, ⟨29, _⟩ => ⟨S1x512x128, .f32⟩
  | .hbm, ⟨30, _⟩ => ⟨S1x512x128, .f32⟩
  | .hbm, ⟨31, _⟩ => ⟨S_, .f32⟩
  | .hbm, ⟨32, _⟩ => ⟨S1x512x128, .f32⟩
  | .hbm, ⟨33, _⟩ => ⟨S1x512x128, .f32⟩
  | .hbm, ⟨34, _⟩ => ⟨S1x512x128, .f32⟩
  | .hbm, ⟨35, _⟩ => ⟨S_, .f32⟩
  | .hbm, ⟨36, _⟩ => ⟨S1x512x128, .f32⟩
  | .hbm, ⟨37, _⟩ => ⟨S1x512x128, .f32⟩
  | .hbm, ⟨38, _⟩ => ⟨S1x512x128, .f32⟩
  | .hbm, ⟨39, _⟩ => ⟨S_, .f32⟩
  | .hbm, ⟨40, _⟩ => ⟨S1x512x128, .f32⟩
  | .hbm, ⟨41, _⟩ => ⟨S1x512x128, .f32⟩
  | .hbm, ⟨42, _⟩ => ⟨S_, .f32⟩
  | .hbm, ⟨43, _⟩ => ⟨S1x512x128, .f32⟩
  | .hbm, ⟨44, _⟩ => ⟨S1x512x128, .f32⟩
  | .hbm, ⟨45, _⟩ => ⟨S1x512x128, .f32⟩
  | .hbm, ⟨46, _⟩ => ⟨S_, .f32⟩
  | .hbm, ⟨47, _⟩ => ⟨S1x512x128, .f32⟩
  | .hbm, ⟨48, _⟩ => ⟨S1x512x128, .f32⟩
  | .hbm, ⟨49, _⟩ => ⟨S1x512x128, .f32⟩
  | .hbm, ⟨50, _⟩ => ⟨S_, .f32⟩
  | .hbm, ⟨51, _⟩ => ⟨S1x512x128, .f32⟩
  | .hbm, ⟨52, _⟩ => ⟨S1x512x128, .f32⟩
  | .hbm, ⟨53, _⟩ => ⟨S1x512x128, .f32⟩
  | .hbm, ⟨54, _⟩ => ⟨S_, .f32⟩
  | .hbm, ⟨55, _⟩ => ⟨S1x512x128, .f32⟩
  | .hbm, ⟨56, _⟩ => ⟨S1x512x128, .f32⟩
  | .hbm, ⟨57, _⟩ => ⟨S_, .f32⟩
  | .hbm, ⟨58, _⟩ => ⟨S1x512x128, .f32⟩
  | .hbm, ⟨59, _⟩ => ⟨S1x512x128, .f32⟩
  | .hbm, ⟨60, _⟩ => ⟨S_, .f32⟩
  | .hbm, ⟨61, _⟩ => ⟨S1x512x128, .f32⟩
  | .hbm, ⟨62, _⟩ => ⟨S1x512x128, .f32⟩
  | .hbm, ⟨63, _⟩ => ⟨S1x512x128, .f32⟩
  | .hbm, ⟨64, _⟩ => ⟨S_, .f32⟩
  | .hbm, ⟨65, _⟩ => ⟨S1x512x128, .f32⟩
  | .hbm, ⟨66, _⟩ => ⟨S1x512x128, .f32⟩
  | .hbm, ⟨67, _⟩ => ⟨S1x512x128, .f32⟩
  | .hbm, ⟨68, _⟩ => ⟨S_, .f32⟩
  | .hbm, ⟨69, _⟩ => ⟨S1x512x128, .f32⟩
  | .hbm, ⟨70, _⟩ => ⟨S1x512x128, .f32⟩
  | .hbm, ⟨71, _⟩ => ⟨S1x512x128, .f32⟩
  | .hbm, ⟨72, _⟩ => ⟨S_, .f32⟩
  | .hbm, ⟨73, _⟩ => ⟨S1x512x128, .f32⟩
  | .hbm, ⟨74, _⟩ => ⟨S1x512x128, .f32⟩
  | .hbm, ⟨75, _⟩ => ⟨S_, .f32⟩
  | .hbm, ⟨76, _⟩ => ⟨S1x512x128, .f32⟩
  | .hbm, ⟨77, _⟩ => ⟨S1x512x128, .f32⟩
  | .hbm, ⟨78, _⟩ => ⟨S1x512x128, .f32⟩
  | .hbm, ⟨79, _⟩ => ⟨S_, .f32⟩
  | .hbm, ⟨80, _⟩ => ⟨S1x512x128, .f32⟩
  | .hbm, ⟨81, _⟩ => ⟨S1x512x128, .f32⟩
  | .hbm, ⟨82, _⟩ => ⟨S1x512x128, .f32⟩
  | .hbm, ⟨83, _⟩ => ⟨S_, .f32⟩
  | .hbm, ⟨84, _⟩ => ⟨S1x512x128, .f32⟩
  | .hbm, ⟨85, _⟩ => ⟨S1x512x128, .f32⟩
  | .hbm, ⟨86, _⟩ => ⟨S1x512x128, .f32⟩
  | .hbm, ⟨87, _⟩ => ⟨S_, .f32⟩
  | .hbm, ⟨88, _⟩ => ⟨S1x512x128, .f32⟩
  | .hbm, ⟨89, _⟩ => ⟨S1x512x128, .f32⟩
  | .hbm, ⟨90, _⟩ => ⟨S_, .f32⟩
  | .hbm, ⟨91, _⟩ => ⟨S1x128x1024, .f32⟩
  | .hbm, ⟨92, _⟩ => ⟨S1x128x1024, .f32⟩
  | .hbm, ⟨93, _⟩ => ⟨S_, .f32⟩
  | .hbm, ⟨94, _⟩ => ⟨S1x128x1024, .f32⟩
  | .hbm, ⟨95, _⟩ => ⟨S1x128x1024, .f32⟩
  | .hbm, ⟨96, _⟩ => ⟨S1x128x1024, .f32⟩
  | .hbm, ⟨97, _⟩ => ⟨S_, .f32⟩
  | .hbm, ⟨98, _⟩ => ⟨S1x128x1024, .f32⟩
  | .hbm, ⟨99, _⟩ => ⟨S1x128x1024, .f32⟩
  | .hbm, ⟨100, _⟩ => ⟨S1x128x1024, .f32⟩
  | .hbm, ⟨101, _⟩ => ⟨S_, .f32⟩
  | .hbm, ⟨102, _⟩ => ⟨S1x128x1024, .f32⟩
  | .hbm, ⟨103, _⟩ => ⟨S1x128x1024, .f32⟩
  | .hbm, ⟨104, _⟩ => ⟨S1x128x1024, .f32⟩
  | .hbm, ⟨105, _⟩ => ⟨S_, .f32⟩
  | .hbm, ⟨106, _⟩ => ⟨S1x128x1024, .f32⟩
  | .hbm, ⟨107, _⟩ => ⟨S1x128x1024, .f32⟩
  | .hbm, ⟨108, _⟩ => ⟨S_, .f32⟩
  | .hbm, ⟨109, _⟩ => ⟨S1x128x1024, .f32⟩
  | .hbm, ⟨110, _⟩ => ⟨S1x128x1024, .f32⟩
  | .hbm, ⟨111, _⟩ => ⟨S1x128x1024, .f32⟩
  | .hbm, ⟨112, _⟩ => ⟨S_, .f32⟩
  | .hbm, ⟨113, _⟩ => ⟨S1x128x1024, .f32⟩
  | .hbm, ⟨114, _⟩ => ⟨S1x128x1024, .f32⟩
  | .hbm, ⟨115, _⟩ => ⟨S1x128x1024, .f32⟩
  | .hbm, ⟨116, _⟩ => ⟨S_, .f32⟩
  | .hbm, ⟨117, _⟩ => ⟨S1x128x1024, .f32⟩
  | .hbm, ⟨118, _⟩ => ⟨S1x128x1024, .f32⟩
  | .hbm, ⟨119, _⟩ => ⟨S1x128x1024, .f32⟩
  | .hbm, ⟨120, _⟩ => ⟨S_, .f32⟩
  | .hbm, ⟨121, _⟩ => ⟨S1x128x1024, .f32⟩
  | .hbm, ⟨122, _⟩ => ⟨S1x128x1024, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_v32 : Ref sig .tc := ⟨.hbm, 56, rfl⟩
abbrev main_cst_11 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_13 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_14 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_15 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_17 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_18 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_19 : Ref sig .tc := ⟨.hbm, 87, rfl⟩
abbrev main_v55 : Ref sig .tc := ⟨.hbm, 88, rfl⟩
abbrev main_v56 : Ref sig .tc := ⟨.hbm, 89, rfl⟩
abbrev main_cst_20 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_22 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_23 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_24 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_26 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_27 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_28 : Ref sig .tc := ⟨.hbm, 120, rfl⟩
abbrev main_v79 : Ref sig .tc := ⟨.hbm, 121, rfl⟩
abbrev main_v80 : Ref sig .tc := ⟨.hbm, 122, rfl⟩

abbrev nD : Nat := 1
abbrev τ : Topo := Topo.v7x

variable {F : FTy → Type} [FloatOps F]
-- ==== Mod.lean ====
abbrev S1x1024x384 : Shape := ⟨3, ![1, 1024, 384]⟩
abbrev S1x1024 : Shape := ⟨2, ![1, 1024]⟩
abbrev S1x3072 : Shape := ⟨2, ![1, 3072]⟩

abbrev nBuf : Space → Nat
  | .hbm => 32
  | .vmem => 32
  | .smem => 0
  | _ => 0

abbrev bufTy : (tb : Table) → Fin (tcTables nBuf tb) → BufTy
  | .hbm, ⟨0, _⟩ => ⟨S1x1024x384, .f32⟩
  | .hbm, ⟨1, _⟩ => ⟨S1x1024, .f32⟩
  | .hbm, ⟨2, _⟩ => ⟨S1x3072, .f32⟩
  | .hbm, ⟨3, _⟩ => ⟨S1x1024, .f32⟩
  | .hbm, ⟨4, _⟩ => ⟨S1x1024x384, .f32⟩
  | .hbm, ⟨5, _⟩ => ⟨S1x1024, .f32⟩
  | .hbm, ⟨6, _⟩ => ⟨S1x3072, .f32⟩
  | .hbm, ⟨7, _⟩ => ⟨S1x1024, .f32⟩
  | .hbm, ⟨8, _⟩ => ⟨S1x1024x384, .f32⟩
  | .hbm, ⟨9, _⟩ => ⟨S1x1024, .f32⟩
  | .hbm, ⟨10, _⟩ => ⟨S1x3072, .f32⟩
  | .hbm, ⟨11, _⟩ => ⟨S1x1024, .f32⟩
  | .hbm, ⟨12, _⟩ => ⟨S1x1024x384, .f32⟩
  | .hbm, ⟨13, _⟩ => ⟨S1x1024, .f32⟩
  | .hbm, ⟨14, _⟩ => ⟨S1x3072, .f32⟩
  | .hbm, ⟨15, _⟩ => ⟨S1x1024, .f32⟩
  | .hbm, ⟨16, _⟩ => ⟨S1x1024x384, .f32⟩
  | .hbm, ⟨17, _⟩ => ⟨S1x1024, .f32⟩
  | .hbm, ⟨18, _⟩ => ⟨S1x3072, .f32⟩
  | .hbm, ⟨19, _⟩ => ⟨S1x1024, .f32⟩
  | .hbm, ⟨20, _⟩ => ⟨S1x1024x384, .f32⟩
  | .hbm, ⟨21, _⟩ => ⟨S1x1024, .f32⟩
  | .hbm, ⟨22, _⟩ => ⟨S1x3072, .f32⟩
  | .hbm, ⟨23, _⟩ => ⟨S1x1024, .f32⟩
  | .hbm, ⟨24, _⟩ => ⟨S1x1024x384, .f32⟩
  | .hbm, ⟨25, _⟩ => ⟨S1x1024, .f32⟩
  | .hbm, ⟨26, _⟩ => ⟨S1x3072, .f32⟩
  | .hbm, ⟨27, _⟩ => ⟨S1x1024, .f32⟩
  | .hbm, ⟨28, _⟩ => ⟨S1x1024x384, .f32⟩
  | .hbm, ⟨29, _⟩ => ⟨S1x1024, .f32⟩
  | .hbm, ⟨30, _⟩ => ⟨S1x3072, .f32⟩
  | .hbm, ⟨31, _⟩ => ⟨S1x1024, .f32⟩
  | .local _ .vmem, ⟨0, _⟩ => ⟨S1x1024x384, .f32⟩
  | .local _ .vmem, ⟨1, _⟩ => ⟨S1x1024, .f32⟩
  | .local _ .vmem, ⟨2, _⟩ => ⟨S1x3072, .f32⟩
  | .local _ .vmem, ⟨3, _⟩ => ⟨S1x1024, .f32⟩
  | .local _ .vmem, ⟨4, _⟩ => ⟨S1x1024x384, .f32⟩
  | .local _ .vmem, ⟨5, _⟩ => ⟨S1x1024, .f32⟩
  | .local _ .vmem, ⟨6, _⟩ => ⟨S1x3072, .f32⟩
  | .local _ .vmem, ⟨7, _⟩ => ⟨S1x1024, .f32⟩
  | .local _ .vmem, ⟨8, _⟩ => ⟨S1x1024x384, .f32⟩
  | .local _ .vmem, ⟨9, _⟩ => ⟨S1x1024, .f32⟩
  | .local _ .vmem, ⟨10, _⟩ => ⟨S1x3072, .f32⟩
  | .local _ .vmem, ⟨11, _⟩ => ⟨S1x1024, .f32⟩
  | .local _ .vmem, ⟨12, _⟩ => ⟨S1x1024x384, .f32⟩
  | .local _ .vmem, ⟨13, _⟩ => ⟨S1x1024, .f32⟩
  | .local _ .vmem, ⟨14, _⟩ => ⟨S1x3072, .f32⟩
  | .local _ .vmem, ⟨15, _⟩ => ⟨S1x1024, .f32⟩
  | .local _ .vmem, ⟨16, _⟩ => ⟨S1x1024x384, .f32⟩
  | .local _ .vmem, ⟨17, _⟩ => ⟨S1x1024, .f32⟩
  | .local _ .vmem, ⟨18, _⟩ => ⟨S1x3072, .f32⟩
  | .local _ .vmem, ⟨19, _⟩ => ⟨S1x1024, .f32⟩
  | .local _ .vmem, ⟨20, _⟩ => ⟨S1x1024x384, .f32⟩
  | .local _ .vmem, ⟨21, _⟩ => ⟨S1x1024, .f32⟩
  | .local _ .vmem, ⟨22, _⟩ => ⟨S1x3072, .f32⟩
  | .local _ .vmem, ⟨23, _⟩ => ⟨S1x1024, .f32⟩
  | .local _ .vmem, ⟨24, _⟩ => ⟨S1x1024x384, .f32⟩
  | .local _ .vmem, ⟨25, _⟩ => ⟨S1x1024, .f32⟩
  | .local _ .vmem, ⟨26, _⟩ => ⟨S1x3072, .f32⟩
  | .local _ .vmem, ⟨27, _⟩ => ⟨S1x1024, .f32⟩
  | .local _ .vmem, ⟨28, _⟩ => ⟨S1x1024x384, .f32⟩
  | .local _ .vmem, ⟨29, _⟩ => ⟨S1x1024, .f32⟩
  | .local _ .vmem, ⟨30, _⟩ => ⟨S1x3072, .f32⟩
  | .local _ .vmem, ⟨31, _⟩ => ⟨S1x1024, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev main_v0_12 : Ref sig .tc := ⟨.hbm, 28, rfl⟩
abbrev main_v0_13 : Ref sig .tc := ⟨.hbm, 29, rfl⟩
abbrev main_v0_14 : Ref sig .tc := ⟨.hbm, 30, rfl⟩
abbrev main_v0_15 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31

abbrev nD : Nat := 1
abbrev τ : Topo := Topo.v7x

variable {F : FTy → Type} [FloatOps F]

abbrev grid0 : Pipeline.Grid := .none

abbrev stage0_0 : Fin 1 → Memref sig .tc .vmem S1x1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x3072 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x3072 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024x384 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x3072 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024x384 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x3072 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
-- ==== ModIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ModReferenceIdeal.lean ====
abbrev S1x1024x384 : Shape := ⟨3, ![1, 1024, 384]⟩
abbrev S1x1024 : Shape := ⟨2, ![1, 1024]⟩
abbrev S1x3072 : Shape := ⟨2, ![1, 3072]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024x384, .f32⟩
  | 1 => ⟨S1x1024, .f32⟩
  | 2 => ⟨S1x3072, .f32⟩
  | 3 => ⟨S1x1024, .f32⟩
  | 4 => ⟨S1x1024x384, .f32⟩
  | 5 => ⟨S1x1024, .f32⟩
  | 6 => ⟨S1x3072, .f32⟩
  | 7 => ⟨S1x1024, .f32⟩
  | 8 => ⟨S1x1024x384, .f32⟩
  | 9 => ⟨S1x1024, .f32⟩
  | 10 => ⟨S1x3072, .f32⟩
  | 11 => ⟨S1x1024, .f32⟩
  | 12 => ⟨S1x1024x384, .f32⟩
  | 13 => ⟨S1x1024, .f32⟩
  | 14 => ⟨S1x3072, .f32⟩
  | 15 => ⟨S1x1024, .f32⟩
  | 16 => ⟨S_, .f32⟩
  | 17 => ⟨S1x1024x384, .f32⟩
  | 18 => ⟨S1x1024x384, .f32⟩
  | 19 => ⟨S_, .f32⟩
  | 20 => ⟨S1x1024x384, .f32⟩
  | 21 => ⟨S1x1024x384, .f32⟩
  | 22 => ⟨S1x1024x384, .f32⟩
  | 23 => ⟨S_, .f32⟩
  | 24 => ⟨S1x1024x384, .f32⟩
  | 25 => ⟨S1x1024x384, .f32⟩
  | 26 => ⟨S1x1024x384, .f32⟩
  | 27 => ⟨S_, .f32⟩
  | 28 => ⟨S1x1024x384, .f32⟩
  | 29 => ⟨S1x1024x384, .f32⟩
  | 30 => ⟨S1x1024x384, .f32⟩
  | 31 => ⟨S_, .f32⟩
  | 32 => ⟨S1x1024x384, .f32⟩
  | 33 => ⟨S1x1024x384, .f32⟩
  | 34 => ⟨S_, .f32⟩
  | 35 => ⟨S1x1024x384, .f32⟩
  | 36 => ⟨S1x1024x384, .f32⟩
  | 37 => ⟨S1x1024x384, .f32⟩
  | 38 => ⟨S_, .f32⟩
  | 39 => ⟨S1x1024x384, .f32⟩
  | 40 => ⟨S1x1024x384, .f32⟩
  | 41 => ⟨S1x1024x384, .f32⟩
  | 42 => ⟨S_, .f32⟩
  | 43 => ⟨S1x1024x384, .f32⟩
  | 44 => ⟨S1x1024x384, .f32⟩
  | 45 => ⟨S1x1024x384, .f32⟩
  | 46 => ⟨S_, .f32⟩
  | 47 => ⟨S1x1024x384, .f32⟩
  | 48 => ⟨S1x1024x384, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x3072, .f32⟩
  | 84 => ⟨S1x3072, .f32⟩
  | 85 => ⟨S_, .f32⟩
  | 86 => ⟨S1x3072, .f32⟩
  | 87 => ⟨S1x3072, .f32⟩
  | 88 => ⟨S1x3072, .f32⟩
  | 89 => ⟨S_, .f32⟩
  | 90 => ⟨S1x3072, .f32⟩
  | 91 => ⟨S1x3072, .f32⟩
  | 92 => ⟨S1x3072, .f32⟩
  | 93 => ⟨S_, .f32⟩
  | 94 => ⟨S1x3072, .f32⟩
  | 95 => ⟨S1x3072, .f32⟩
  | 96 => ⟨S1x3072, .f32⟩
  | 97 => ⟨S_, .f32⟩
  | 98 => ⟨S1x3072, .f32⟩
  | 99 => ⟨S1x3072, .f32⟩
  | 100 => ⟨S_, .f32⟩
  | 101 => ⟨S1x3072, .f32⟩
  | 102 => ⟨S1x3072, .f32⟩
  | 103 => ⟨S1x3072, .f32⟩
  | 104 => ⟨S_, .f32⟩
  | 105 => ⟨S1x3072, .f32⟩
  | 106 => ⟨S1x3072, .f32⟩
  | 107 => ⟨S1x3072, .f32⟩
  | 108 => ⟨S_, .f32⟩
  | 109 => ⟨S1x3072, .f32⟩
  | 110 => ⟨S1x3072, .f32⟩
  | 111 => ⟨S1x3072, .f32⟩
  | 112 => ⟨S_, .f32⟩
  | 113 => ⟨S1x3072, .f32⟩
  | 114 => ⟨S1x3072, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S1x1024x384, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S1x1024x384, .f32⟩

abbrev hbmTy (i : Nat) : BufTy := match i / 128 with
  | 0 => hbmTy0_0 i
  | 1 => hbmTy0_1 i
  | _ => ⟨S1x1024x384, .f32⟩

abbrev bufTy : (tb : Table) → Fin (tcTables nBuf tb) → BufTy
  | .hbm, ⟨i, _⟩ => hbmTy i
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Proof.Spec.lean ====
/-
  The block of the training step that this certificate speaks about, over the real numbers, one row at a time:
  the forward pass from the saved activations to the loss, and the gradients that go back from it. Both the kernel
  and the reference are read against these functions; what sums over the rows is stated at the end.
-/
module

public import Idealize.ShloMosaic.PureOps.Ideal

@[expose] public section

noncomputable section

namespace Cert.Proof.Spec

/-- Column `d` of head `h` among the 512 columns. -/
def col (h : Fin 4) (d : Fin 128) : Fin 512 := ⟨128 * h.val + d.val, by omega⟩

/-- The head of a column. -/
def head (c : Fin 512) : Fin 4 := ⟨c.val / 128, by omega⟩

/-- The place of a column within its head. -/
def lane (c : Fin 512) : Fin 128 := ⟨c.val % 128, by omega⟩

theorem col_head_lane (c : Fin 512) : col (head c) (lane c) = c := by
  apply Fin.ext
  show 128 * (c.val / 128) + c.val % 128 = c.val
  omega

theorem head_col (h : Fin 4) (d : Fin 128) : head (col h d) = h := by
  apply Fin.ext
  show (128 * h.val + d.val) / 128 = h.val
  omega

/-- The weights, all real. -/
structure Par where
  gate : Fin 1024 → ℝ
  gf : Fin 1024 → ℝ
  gbn : Fin 512 → ℝ
  wpa : Fin 512 → Fin 1024 → ℝ
  wpb : Fin 512 → Fin 1024 → ℝ
  wout : Fin 1024 → Fin 1024 → ℝ

/-- One row (one token) of the saved activations, all real. -/
structure Row where
  x : Fin 1024 → ℝ
  t : Fin 1024 → ℝ
  zb : Fin 512 → ℝ
  ua : Fin 512 → ℝ
  za : Fin 512 → ℝ
  g1 : Fin 1024 → ℝ
  g2 : Fin 1024 → ℝ
  oF : Fin 512 → ℝ
  oB : Fin 512 → ℝ
  sv : Fin 512 → ℝ

/-- The small constant of the norms: the rational number that the float word of `1e-6` denotes. -/
def eps : ℝ := 8796093 / 8796093022208

theorem eps_pos : 0 < eps := by unfold eps; norm_num

/-- The logistic function. -/
def sg (z : ℝ) : ℝ := 1 / (1 + Real.exp (-z))

/-- `z · sg z`. -/
def silu (z : ℝ) : ℝ := z * sg z

/-- The derivative of `silu`. -/
def dsilu (z : ℝ) : ℝ := sg z * (1 + z * (1 - sg z))

/-- One over the root of `v + eps`. -/
def rs (v : ℝ) : ℝ := (Real.sqrt (v + eps))⁻¹

namespace Row

variable (P : Par) (r : Row)

/-- The recurrence's output: the forward scan's and the backward scan's together. -/
def o (c : Fin 512) : ℝ := r.oF c + r.oB c

/-- Mean square of head `h`. -/
def ms (h : Fin 4) : ℝ := (∑ d : Fin 128, r.o (col h d) * r.o (col h d)) * (1 / 128)

def rr (h : Fin 4) : ℝ := rs (r.ms h)

/-- The normed columns. -/
def oh (c : Fin 512) : ℝ := r.o c * r.rr (head c)

def on (c : Fin 512) : ℝ := r.oh c * P.gbn c

def tb (c : Fin 512) : ℝ := r.on P c * silu (r.zb c)

def ta (c : Fin 512) : ℝ := r.ua c * r.sv c * silu (r.za c)

def ya (j : Fin 1024) : ℝ := ∑ k : Fin 512, r.ta k * P.wpa k j

def yb (j : Fin 1024) : ℝ := ∑ k : Fin 512, r.tb P k * P.wpb k j

/-- The two branches, mixed by the gates. -/
def mm (j : Fin 1024) : ℝ := sg (r.g1 j) * r.ya P j + sg (r.g2 j) * r.yb P j

def y2 (j : Fin 1024) : ℝ := ∑ k : Fin 1024, r.mm P k * P.wout k j

def x1 (j : Fin 1024) : ℝ := r.x j + P.gate j * r.y2 P j

def ms1 : ℝ := (∑ j : Fin 1024, r.x1 P j * r.x1 P j) * (1 / 1024)

def r1 : ℝ := rs (r.ms1 P)

def xn (j : Fin 1024) : ℝ := r.x1 P j * r.r1 P

/-- The error against the target. -/
def err (j : Fin 1024) : ℝ := r.xn P j * P.gf j - r.t j

/-- The row's part of the loss. -/
def loss : ℝ := ∑ j : Fin 1024, r.err P j * r.err P j

def dout (j : Fin 1024) : ℝ := r.err P j * (1 / 1024)

def dxn (j : Fin 1024) : ℝ := r.dout P j * P.gf j

/-- The gradient of the residual stream. -/
def dx (j : Fin 1024) : ℝ :=
  r.r1 P * (r.dxn P j - r.xn P j * ((∑ k : Fin 1024, r.dxn P k * r.xn P k) * (1 / 1024)))

def dy (j : Fin 1024) : ℝ := r.dx P j * P.gate j

def dm (j : Fin 1024) : ℝ := ∑ k : Fin 1024, r.dy P k * P.wout j k

def dya (j : Fin 1024) : ℝ := r.dm P j * sg (r.g1 j)

def dyb (j : Fin 1024) : ℝ := r.dm P j * sg (r.g2 j)

def dg1 (j : Fin 1024) : ℝ := r.dm P j * r.ya P j * sg (r.g1 j) * (1 - sg (r.g1 j))

def dg2 (j : Fin 1024) : ℝ := r.dm P j * r.yb P j * sg (r.g2 j) * (1 - sg (r.g2 j))

def dta (c : Fin 512) : ℝ := ∑ j : Fin 1024, r.dya P j * P.wpa c j

def dua (c : Fin 512) : ℝ := r.dta P c * r.sv c * silu (r.za c)

def dsv (c : Fin 512) : ℝ := r.dta P c * r.ua c * silu (r.za c)

def dza (c : Fin 512) : ℝ := r.dta P c * r.ua c * r.sv c * dsilu (r.za c)

def dtb (c : Fin 512) : ℝ := ∑ j : Fin 1024, r.dyb P j * P.wpb c j

def don (c : Fin 512) : ℝ := r.dtb P c * silu (r.zb c)

def dzb (c : Fin 512) : ℝ := r.dtb P c * r.on P c * dsilu (r.zb c)

def doh (c : Fin 512) : ℝ := r.don P c * P.gbn c

/-- Mean of `doh · oh` over head `h`. -/
def mh (h : Fin 4) : ℝ := (∑ d : Fin 128, r.doh P (col h d) * r.oh (col h d)) * (1 / 128)

/-- The gradient of the recurrence's output. -/
def dO (c : Fin 512) : ℝ := r.rr (head c) * (r.doh P c - r.oh c * r.mh P (head c))

/-- The gradients of the two recurrence-side columns, side by side. -/
def zu (j : Fin 1024) : ℝ :=
  if h : j.val < 512 then r.dzb P ⟨j.val, h⟩ else r.dua P ⟨j.val - 512, by omega⟩

/-- The gradients of the attention-side gate and of the two mixing gates, side by side. -/
def zg (j : Fin 2560) : ℝ :=
  if h : j.val < 512 then r.dza P ⟨j.val, h⟩
  else if h : j.val - 512 < 1024 then r.dg1 P ⟨j.val - 512, h⟩ else r.dg2 P ⟨j.val - 512 - 1024, by omega⟩

end Row

end Cert.Proof.Spec

end
-- ==== Proof.Reals.lean ====
/-
  Extended reals that are real: the scalar operations of the two programs on them, and the constants that occur.
-/
module

public import Idealize.ShloMosaic.PureOps.Ideal.Laws
public import Idealize.ShloMosaic.Lib.IdealHost
public import proofs.«01_k».proof.Proof.Spec

@[expose] public section

noncomputable section

namespace Cert.Proof.Reals

open Idealize.ShloMosaic Cert.Proof.Spec

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem lit_128 : Ideal.ofBits .f32 0x43000000#32 = ((128 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_eps : Ideal.ofBits .f32 0x358637BD#32 = ((eps : ℝ) : EReal) := by
  unfold eps
  simp [Ideal.ofBits, Ideal.ieee, -EReal.coe_mul]; norm_num

theorem lit_inv1024 : Ideal.ofBits .f32 0x3A800000#32 = ((1 / 1024 : ℝ) : EReal) := by
  simp [Ideal.ofBits, Ideal.ieee, -EReal.coe_mul]; norm_num

theorem lit_inv2048 : Ideal.ofBits .f32 0x3A000000#32 = ((1 / 2048 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; try norm_num

theorem lit_zero : Ideal.ofBits .f32 0x00000000#32 = ((0 : ℝ) : EReal) := by
  simp [Ideal.ofBits, Ideal.ieee, -EReal.coe_mul]; try norm_num

/-- A quotient of reals whose denominator is not zero. -/
theorem div_real {y : ℝ} (h : y ≠ 0) (x : ℝ) : Ideal.div (x : EReal) (y : EReal) = ((x / y : ℝ) : EReal) := by
  rw [Ideal.div_coe h, ← EReal.coe_mul, one_div, div_eq_mul_inv]

theorem div_128 (x : ℝ) : Ideal.div (x : EReal) ((128 : ℝ) : EReal) = ((x * (1 / 128) : ℝ) : EReal) := by
  rw [Ideal.div_coe (by norm_num), ← EReal.coe_mul]

theorem div_1024 (x : ℝ) : Ideal.div (x : EReal) ((1024 : ℝ) : EReal) = ((x * (1 / 1024) : ℝ) : EReal) := by
  rw [Ideal.div_coe (by norm_num), ← EReal.coe_mul]

theorem exp_real (x : ℝ) : Ideal.exp (x : EReal) = ((Real.exp x : ℝ) : EReal) := rfl

theorem rsqrt_real {v : ℝ} (h : 0 < v) : Ideal.rsqrt (v : EReal) = (((Real.sqrt v)⁻¹ : ℝ) : EReal) := by
  have h0 : ¬ v < 0 := not_lt.mpr h.le
  show (if v < 0 then (⊥ : EReal) else if v = 0 then ⊤ else (((Real.sqrt v)⁻¹ : ℝ) : EReal)) = _
  rw [if_neg h0, if_neg h.ne']

/-- The root of a mean square and the small constant is of a positive number. -/
theorem rs_real {v : ℝ} (h : 0 ≤ v) : Ideal.rsqrt ((v : EReal) + (eps : EReal)) = ((rs v : ℝ) : EReal) := by
  rw [← EReal.coe_add, rsqrt_real (add_pos_of_nonneg_of_pos h eps_pos)]; rfl

theorem one_add_exp_pos (z : ℝ) : 0 < 1 + Real.exp (-z) := add_pos one_pos (Real.exp_pos _)

/-- The logistic function, its argument negated by a subtraction from zero. -/
theorem sg_sub (z : ℝ) :
    Ideal.div 1 (1 + Ideal.exp (0 - (z : EReal))) = ((sg z : ℝ) : EReal) := by
  rw [← EReal.coe_zero, ← EReal.coe_one, ← EReal.coe_sub, exp_real, ← EReal.coe_add, zero_sub, div_real (one_add_exp_pos z).ne']; rfl

/-- The logistic function, its argument negated by a sign change. -/
theorem sg_neg (z : ℝ) :
    Ideal.div 1 (1 + Ideal.exp (-(z : EReal))) = ((sg z : ℝ) : EReal) := by
  rw [← EReal.coe_one, ← EReal.coe_neg, exp_real, ← EReal.coe_add, div_real (one_add_exp_pos z).ne']; rfl

/-- An extended real whose absolute value is below infinity is a real. -/
theorem real_of_abs_lt {x : EReal} (h : max x (-x) < ⊤) : ((x.toReal : ℝ) : EReal) = x := by
  refine EReal.coe_toReal (fun h1 => ?_) (fun h1 => ?_)
  · rw [h1] at h; simp at h
  · rw [h1] at h; simp at h

theorem ms_nonneg (r : Row) (h : Fin 4) : 0 ≤ r.ms h :=
  mul_nonneg (Finset.sum_nonneg fun d _ => mul_self_nonneg _) (by norm_num)

theorem ms1_nonneg (P : Par) (r : Row) : 0 ≤ r.ms1 P :=
  mul_nonneg (Finset.sum_nonneg fun d _ => mul_self_nonneg _) (by norm_num)

/-- One over the root, divided by what stands under it, is its cube. -/
theorem rs_cube {v : ℝ} (h : 0 ≤ v) : rs v / (v + eps) = rs v * rs v * rs v := by
  have hp : 0 < v + eps := add_pos_of_nonneg_of_pos h eps_pos
  have hs : (v + eps)⁻¹ = rs v * rs v := by
    unfold rs
    rw [← mul_inv, Real.mul_self_sqrt hp.le]
  rw [div_eq_mul_inv, hs]; ring

theorem add_eps_ne {v : ℝ} (h : 0 ≤ v) : v + eps ≠ 0 := (add_pos_of_nonneg_of_pos h eps_pos).ne'

end Cert.Proof.Reals

end
-- ==== Proof.Ref.lean ====
/-
  The reference: each stage of it, read at an index, is the real function of the row that Spec.lean names, or a sum
  of such functions over the rows. Where the reference's derivative is written otherwise than the kernel's, the two
  real expressions are shown equal here.
-/
module

public import proofs.«01_k».proof.Proof.Reals
public import proofs.«01_k».proof.Proof.Gen.ReferenceIdeal.Read
public import Idealize.ShloMosaic.Lib.Pointwise

@[expose] public section

noncomputable section

namespace Cert.Proof.Ref

open Idealize.ShloMosaic Cert.ReferenceIdeal Cert.ReferenceIdeal.Read Cert.Proof.Spec Cert.Proof.Reals

set_option maxRecDepth 16384

variable [Cert.ReferenceIdeal.Facts]

/-- The matrix holds these reals. -/
abbrev Is {n m : ℕ} (v : (⟨2, ![n, m]⟩ : Shape).Idx → EReal) (f : Fin n → Fin m → ℝ) : Prop :=
  ∀ (i : Fin n) (j : Fin m), v (ix2 i j) = ((f i j : ℝ) : EReal)

/-- The array of three axes holds these reals. -/
abbrev Is3 {n m k : ℕ} (v : (⟨3, ![n, m, k]⟩ : Shape).Idx → EReal) (f : Fin n → Fin m → Fin k → ℝ) : Prop :=
  ∀ (i : Fin n) (j : Fin m) (l : Fin k), v (ix3 i j l) = ((f i j l : ℝ) : EReal)

variable {x0 x1 : (⟨S8192x1024, .f32⟩ : BufTy).Contents (Elt Ideal)} {x2 : (⟨S8192x5248, .bf16⟩ : BufTy).Contents (Elt Ideal)}
  {x3 x4 x5 : (⟨S8192x512, .bf16⟩ : BufTy).Contents (Elt Ideal)} {x6 x7 : (⟨S1x1024, .f32⟩ : BufTy).Contents (Elt Ideal)}
  {x8 : (⟨S1x512, .f32⟩ : BufTy).Contents (Elt Ideal)} {x9 x10 : (⟨S512x1024, .bf16⟩ : BufTy).Contents (Elt Ideal)}
  {x11 : (⟨S1024x1024, .bf16⟩ : BufTy).Contents (Elt Ideal)} {P : Par} {R : Fin 8192 → Row}

/-- The arguments hold the weights `P` and the rows `R`. -/
structure In (x0 x1 : (⟨S8192x1024, .f32⟩ : BufTy).Contents (Elt Ideal)) (x2 : (⟨S8192x5248, .bf16⟩ : BufTy).Contents (Elt Ideal))
    (x3 x4 x5 : (⟨S8192x512, .bf16⟩ : BufTy).Contents (Elt Ideal)) (x6 x7 : (⟨S1x1024, .f32⟩ : BufTy).Contents (Elt Ideal))
    (x8 : (⟨S1x512, .f32⟩ : BufTy).Contents (Elt Ideal)) (x9 x10 : (⟨S512x1024, .bf16⟩ : BufTy).Contents (Elt Ideal))
    (x11 : (⟨S1024x1024, .bf16⟩ : BufTy).Contents (Elt Ideal)) (P : Par) (R : Fin 8192 → Row) : Prop where
  hx : Is x0 fun i => (R i).x
  ht : Is x1 fun i => (R i).t
  hzb : ∀ (i : Fin 8192) (j : Fin 512), x2 (ix2 i ⟨1024 + j.val, by omega⟩) = (((R i).zb j : ℝ) : EReal)
  hua : ∀ (i : Fin 8192) (j : Fin 512), x2 (ix2 i ⟨1536 + j.val, by omega⟩) = (((R i).ua j : ℝ) : EReal)
  hza : ∀ (i : Fin 8192) (j : Fin 512), x2 (ix2 i ⟨2560 + j.val, by omega⟩) = (((R i).za j : ℝ) : EReal)
  hg1 : ∀ (i : Fin 8192) (j : Fin 1024), x2 (ix2 i ⟨3072 + j.val, by omega⟩) = (((R i).g1 j : ℝ) : EReal)
  hg2 : ∀ (i : Fin 8192) (j : Fin 1024), x2 (ix2 i ⟨4096 + j.val, by omega⟩) = (((R i).g2 j : ℝ) : EReal)
  hoF : Is x3 fun i => (R i).oF
  hoB : Is x4 fun i => (R i).oB
  hsv : Is x5 fun i => (R i).sv
  hgate : Is x6 fun _ => P.gate
  hgf : Is x7 fun _ => P.gf
  hgbn : Is x8 fun _ => P.gbn
  hwpa : Is x9 P.wpa
  hwpb : Is x10 P.wpb
  hwout : Is x11 P.wout

variable (H : In x0 x1 x2 x3 x4 x5 x6 x7 x8 x9 x10 x11 P R)

include H

theorem r7 : Is (val_main_v7 (F := Ideal) x2) (fun i => (R i).zb) := by
  intro i j
  pointwise [val_main_v7, val_main_v0]
  exact H.hzb i j

theorem r8 : Is (val_main_v8 (F := Ideal) x2) (fun i => (R i).ua) := by
  intro i j
  pointwise [val_main_v8, val_main_v0]
  exact H.hua i j

theorem r9 : Is (val_main_v9 (F := Ideal) x2) (fun i => (R i).za) := by
  intro i j
  pointwise [val_main_v9, val_main_v0]
  exact H.hza i j

theorem r10 : Is (val_main_v10 (F := Ideal) x2) (fun i => (R i).g1) := by
  intro i j
  pointwise [val_main_v10, val_main_v0]
  exact H.hg1 i j

theorem r11 : Is (val_main_v11 (F := Ideal) x2) (fun i => (R i).g2) := by
  intro i j
  pointwise [val_main_v11, val_main_v0]
  exact H.hg2 i j

theorem r12 : Is (val_main_v12 (F := Ideal) x3 x4) (fun i => (R i).o) := by
  intro i j
  pointwise [val_main_v12, val_main_v1, val_main_v2]
  rw [H.hoF i j, H.hoB i j, ← EReal.coe_add]; rfl

theorem r13 : Is3 (val_main_v13 (F := Ideal) x3 x4) (fun i h d => (R i).o (col h d)) := by
  intro i h d
  pointwise [val_main_v13]
  rw [r12 H i _]
  exact congrArg (fun c => (((R i).o c : ℝ) : EReal)) (Fin.ext (by simp only [col]; omega))

theorem r20 : Is3 (val_main_v20 (F := Ideal) x3 x4) (fun i h _ => (R i).ms h + eps) := by
  intro i h d
  pointwise [val_main_v20, val_main_v18, val_main_v16, val_main_v15, val_main_v14, val_main_cst, val_main_v17, val_main_cst_0,
    val_main_v19, val_main_cst_1]
  simp only [r13 H _ _ _, ← EReal.coe_mul, coe_sum]
  rw [lit_128, div_128, lit_eps, ← EReal.coe_add]; rfl

theorem r21 : Is3 (val_main_v21 (F := Ideal) x3 x4) (fun i h _ => (R i).rr h) := by
  intro i h d
  pointwise [val_main_v21]
  rw [r20 H i h d, EReal.coe_add]
  exact rs_real (ms_nonneg (R i) h)

theorem r24 : Is3 (val_main_v24 (F := Ideal) x3 x4) (fun i h _ => -(1 / 2) * ((R i).rr h * (R i).rr h * (R i).rr h)) := by
  intro i h d
  pointwise [val_main_v24, val_main_v23, val_main_cst_2, val_main_v22]
  rw [r20 H i h d, r21 H i h d, lit_neg_half, div_real (add_eps_ne (ms_nonneg (R i) h)), ← EReal.coe_mul]
  exact congrArg (fun a : ℝ => ((-(1 / 2) * a : ℝ) : EReal)) (rs_cube (ms_nonneg (R i) h))

theorem r26 : Is3 (val_main_v26 (F := Ideal) x3 x4) (fun i h d => (R i).oh (col h d)) := by
  intro i h d
  pointwise [val_main_v26, val_main_v25]
  rw [r13 H i h d, r21 H i h 0, ← EReal.coe_mul]
  show (((R i).o (col h d) * (R i).rr h : ℝ) : EReal) = (((R i).o (col h d) * (R i).rr (head (col h d)) : ℝ) : EReal)
  rw [head_col]

theorem r31 : Is (val_main_v31 (F := Ideal) x3 x4 x8) (fun i => (R i).on P) := by
  intro i j
  pointwise [val_main_v31, val_main_v30, val_main_v29, val_main_v28, val_main_v27]
  have h : (val_main_v26 (F := Ideal) x3 x4) (ix3 i (head j) (lane j)) = (((R i).oh j : ℝ) : EReal) :=
    (r26 H i (head j) (lane j)).trans (congrArg (fun c => (((R i).oh c : ℝ) : EReal)) (col_head_lane j))
  show (val_main_v26 (F := Ideal) x3 x4) (ix3 i (head j) (lane j)) * x8 (ix2 0 j) = _
  rw [h, H.hgbn 0 j, ← EReal.coe_mul]; rfl

theorem r32 : Is (val_main_v32_2 (F := Ideal) x2) (fun i j => sg ((R i).zb j)) := by
  intro i j
  pointwise [val_main_v32_2, val_main_call0_v4, val_main_call0_v3, val_main_call0_v2, val_main_call0_v1, val_main_call0_v0,
    val_main_call0_cst, val_main_call0_cst_0]
  rw [r7 H i j]
  exact sg_neg _

theorem r32s : Is (val_main_v32_0 (F := Ideal) x2) (fun i j => silu ((R i).zb j)) := by
  intro i j
  pointwise [val_main_v32_0]
  rw [r7 H i j, r32 H i j, ← EReal.coe_mul]; rfl

theorem r32d : Is (val_main_v32_1 (F := Ideal) x2) (fun i j => sg ((R i).zb j) * (1 - sg ((R i).zb j))) := by
  intro i j
  pointwise [val_main_v32_1, val_main_call0_v7, val_main_call0_v6, val_main_call0_cst_1]
  rw [r32 H i j, ← EReal.coe_one]
  simp only [← EReal.coe_mul, ← EReal.coe_sub]

theorem r33 : Is (val_main_v33 (F := Ideal) x2 x3 x4 x8) (fun i => (R i).tb P) := by
  intro i j
  pointwise [val_main_v33]
  rw [r31 H i j, r32s H i j, ← EReal.coe_mul]; rfl

theorem r34 : Is (val_main_v34 (F := Ideal) x2 x3 x4 x8 x10) (fun i => (R i).yb P) := by
  intro i j
  pointwise [val_main_v34, val_main_v5]
  simp only [r33 H _ _, H.hwpb _ _, ← EReal.coe_mul]
  rw [coe_sum]; rfl

theorem r35 : Is (val_main_v35 (F := Ideal) x2 x5) (fun i j => (R i).ua j * (R i).sv j) := by
  intro i j
  pointwise [val_main_v35, val_main_v3]
  rw [r8 H i j, H.hsv i j, ← EReal.coe_mul]

theorem r36 : Is (val_main_v36_2 (F := Ideal) x2) (fun i j => sg ((R i).za j)) := by
  intro i j
  pointwise [val_main_v36_2, val_main_call1_v4, val_main_call1_v3, val_main_call1_v2, val_main_call1_v1, val_main_call1_v0,
    val_main_call1_cst, val_main_call1_cst_0]
  rw [r9 H i j]
  exact sg_neg _

theorem r36s : Is (val_main_v36_0 (F := Ideal) x2) (fun i j => silu ((R i).za j)) := by
  intro i j
  pointwise [val_main_v36_0]
  rw [r9 H i j, r36 H i j, ← EReal.coe_mul]; rfl

theorem r36d : Is (val_main_v36_1 (F := Ideal) x2) (fun i j => sg ((R i).za j) * (1 - sg ((R i).za j))) := by
  intro i j
  pointwise [val_main_v36_1, val_main_call1_v7, val_main_call1_v6, val_main_call1_cst_1]
  rw [r36 H i j, ← EReal.coe_one]
  simp only [← EReal.coe_mul, ← EReal.coe_sub]

theorem r37 : Is (val_main_v37 (F := Ideal) x2 x5) (fun i => (R i).ta) := by
  intro i j
  pointwise [val_main_v37]
  rw [r35 H i j, r36s H i j, ← EReal.coe_mul]; rfl

theorem r38 : Is (val_main_v38 (F := Ideal) x2 x5 x9) (fun i => (R i).ya P) := by
  intro i j
  pointwise [val_main_v38, val_main_v4]
  simp only [r37 H _ _, H.hwpa _ _, ← EReal.coe_mul]
  rw [coe_sum]; rfl

theorem r44 : Is (val_main_v44 (F := Ideal) x2) (fun i j => sg ((R i).g1 j)) := by
  intro i j
  pointwise [val_main_v44, val_main_v43, val_main_v42, val_main_v41, val_main_v40, val_main_v39, val_main_cst_3, val_main_cst_4]
  rw [r10 H i j]
  exact sg_neg _

theorem r47 : Is (val_main_v47 (F := Ideal) x2) (fun i j => sg ((R i).g1 j) * (1 - sg ((R i).g1 j))) := by
  intro i j
  pointwise [val_main_v47, val_main_v46, val_main_v45, val_main_cst_5]
  rw [r44 H i j, ← EReal.coe_one]
  simp only [← EReal.coe_mul, ← EReal.coe_sub]

theorem r54 : Is (val_main_v54 (F := Ideal) x2) (fun i j => sg ((R i).g2 j)) := by
  intro i j
  pointwise [val_main_v54, val_main_v53, val_main_v52, val_main_v51, val_main_v50, val_main_v49, val_main_cst_6, val_main_cst_7]
  rw [r11 H i j]
  exact sg_neg _

theorem r57 : Is (val_main_v57 (F := Ideal) x2) (fun i j => sg ((R i).g2 j) * (1 - sg ((R i).g2 j))) := by
  intro i j
  pointwise [val_main_v57, val_main_v56, val_main_v55, val_main_cst_8]
  rw [r54 H i j, ← EReal.coe_one]
  simp only [← EReal.coe_mul, ← EReal.coe_sub]

theorem r59 : Is (val_main_v59 (F := Ideal) x2 x3 x4 x5 x8 x9 x10) (fun i => (R i).mm P) := by
  intro i j
  pointwise [val_main_v59, val_main_v58, val_main_v48]
  rw [r44 H i j, r54 H i j, r38 H i j, r34 H i j]
  simp only [← EReal.coe_mul, ← EReal.coe_add]; rfl

theorem r60 : Is (val_main_v60 (F := Ideal) x2 x3 x4 x5 x8 x9 x10 x11) (fun i => (R i).y2 P) := by
  intro i j
  pointwise [val_main_v60, val_main_v6]
  simp only [r59 H _ _, H.hwout _ _, ← EReal.coe_mul]
  rw [coe_sum]; rfl

theorem r63 : Is (val_main_v63 (F := Ideal) x0 x2 x3 x4 x5 x6 x8 x9 x10 x11) (fun i => (R i).x1 P) := by
  intro i j
  pointwise [val_main_v63, val_main_v62, val_main_v61]
  rw [r60 H i j, H.hx i j, H.hgate 0 j, ← EReal.coe_mul, ← EReal.coe_add]; rfl

theorem r70 : Is (val_main_v70 (F := Ideal) x0 x2 x3 x4 x5 x6 x8 x9 x10 x11) (fun i _ => (R i).ms1 P + eps) := by
  intro i j
  pointwise [val_main_v70, val_main_v69, val_main_cst_11, val_main_v68, val_main_v67, val_main_cst_10, val_main_v66, val_main_v65,
    val_main_v64, val_main_cst_9]
  simp only [r63 H _ _, ← EReal.coe_mul, coe_sum]
  rw [lit_1024, div_1024, lit_eps, ← EReal.coe_add]; rfl

theorem r71 : Is (val_main_v71 (F := Ideal) x0 x2 x3 x4 x5 x6 x8 x9 x10 x11) (fun i _ => (R i).r1 P) := by
  intro i j
  pointwise [val_main_v71]
  rw [r70 H i j, EReal.coe_add]
  exact rs_real (ms1_nonneg P (R i))

theorem r74 : Is (val_main_v74 (F := Ideal) x0 x2 x3 x4 x5 x6 x8 x9 x10 x11) (fun i _ => -(1 / 2) * ((R i).r1 P * (R i).r1 P * (R i).r1 P)) := by
  intro i j
  pointwise [val_main_v74, val_main_v73, val_main_cst_12, val_main_v72]
  rw [r70 H i j, r71 H i j, lit_neg_half, div_real (add_eps_ne (ms1_nonneg P (R i))), ← EReal.coe_mul]
  exact congrArg (fun a : ℝ => ((-(1 / 2) * a : ℝ) : EReal)) (rs_cube (ms1_nonneg P (R i)))

theorem r76 : Is (val_main_v76 (F := Ideal) x0 x2 x3 x4 x5 x6 x8 x9 x10 x11) (fun i => (R i).xn P) := by
  intro i j
  pointwise [val_main_v76, val_main_v75]
  rw [r63 H i j, r71 H i 0, ← EReal.coe_mul]; rfl

theorem r79 : Is (val_main_v79 (F := Ideal) x0 x1 x2 x3 x4 x5 x6 x7 x8 x9 x10 x11) (fun i => (R i).err P) := by
  intro i j
  pointwise [val_main_v79, val_main_v78, val_main_v77]
  rw [r76 H i j, H.hgf 0 j, H.ht i j, ← EReal.coe_mul, ← EReal.coe_sub]; rfl

/-- The loss: half the mean over the columns, summed over the rows. -/
theorem r173 : Is (val_main_v173 (F := Ideal) x0 x1 x2 x3 x4 x5 x6 x7 x8 x9 x10 x11) (fun _ _ => (∑ s, (R s).loss P) * (1 / 2048)) := by
  intro i j
  pointwise [val_main_v173, val_main_v87, val_main_cst_17, val_main_v86, val_main_cst_16, val_main_v85, val_main_v84,
    val_main_cst_15, val_main_v83, val_main_cst_14, val_main_v80]
  simp only [r79 H _ _, ← EReal.coe_mul, coe_sum]
  rw [lit_1024, lit_half]
  simp only [div_1024]
  rw [coe_sum, ← EReal.coe_mul, ← Finset.sum_mul]
  refine congrArg (fun a : ℝ => (a : EReal)) ?_
  show 1 / 2 * ((∑ s, (R s).loss P) * (1 / 1024)) = _
  ring

theorem r93 : Is (val_main_v93 (F := Ideal) x0 x1 x2 x3 x4 x5 x6 x7 x8 x9 x10 x11) (fun i => (R i).dout P) := by
  intro i j
  pointwise [val_main_v93, val_main_v92, val_main_v91, val_main_v90, val_main_v89, val_main_v88, val_main_cst_18, val_main_cst_19,
    val_main_cst_20, val_main_v82, val_main_v81, val_main_cst_13]
  rw [r79 H i j, lit_half, lit_1024, lit_two, div_1024, ← EReal.coe_mul, ← EReal.coe_mul]
  refine congrArg (fun a : ℝ => (a : EReal)) ?_
  show _ = (R i).err P j * (1 / 1024)
  ring

theorem r96 : Is (val_main_v96 (F := Ideal) x0 x1 x2 x3 x4 x5 x6 x7 x8 x9 x10 x11) (fun _ j => ∑ s, (R s).dout P j * (R s).xn P j) := by
  intro i j
  pointwise [val_main_v96, val_main_v95, val_main_v94, val_main_cst_21]
  simp only [r76 H _ _, r93 H _ _, ← EReal.coe_mul, coe_sum]
  simp only [mul_comm]

theorem r98 : Is (val_main_v98 (F := Ideal) x0 x1 x2 x3 x4 x5 x6 x7 x8 x9 x10 x11) (fun i => (R i).dxn P) := by
  intro i j
  pointwise [val_main_v98, val_main_v97]
  rw [r93 H i j, H.hgf 0 j, ← EReal.coe_mul]; rfl

theorem r112 : Is (val_main_v112 (F := Ideal) x0 x1 x2 x3 x4 x5 x6 x7 x8 x9 x10 x11) (fun i => (R i).dx P) := by
  intro i j
  pointwise [val_main_v112, val_main_v110, val_main_v111, val_main_v108, val_main_v109, val_main_v107, val_main_v106,
    val_main_v105, val_main_cst_23, val_main_v104, val_main_v103, val_main_v102, val_main_v101, val_main_v100, val_main_v99,
    val_main_cst_24, val_main_cst_22]
  simp only [r98 H _ _, r63 H _ _, r71 H _ _, r74 H _ _, ← EReal.coe_mul, coe_sum]
  rw [lit_1024]
  simp only [div_1024, coe_sum, ← EReal.coe_mul, ← EReal.coe_add]
  refine congrArg (fun a : ℝ => (a : EReal)) ?_
  have hs : (∑ k : Fin 1024, (R i).dxn P k * (R i).xn P k) = (∑ k : Fin 1024, (R i).x1 P k * (R i).dxn P k) * (R i).r1 P := by
    rw [Finset.sum_mul]
    refine Finset.sum_congr rfl fun k _ => ?_
    show (R i).dxn P k * ((R i).x1 P k * (R i).r1 P) = _
    ring
  show _ = (R i).r1 P * ((R i).dxn P j - ((R i).x1 P j * (R i).r1 P) * ((∑ k : Fin 1024, (R i).dxn P k * (R i).xn P k) * (1 / 1024)))
  rw [hs]
  simp only [Finset.sum_const, Finset.card_univ, Fintype.card_fin, one_smul]
  ring

theorem r114 : Is (val_main_v114 (F := Ideal) x0 x1 x2 x3 x4 x5 x6 x7 x8 x9 x10 x11) (fun i => (R i).dy P) := by
  intro i j
  pointwise [val_main_v114, val_main_v113]
  rw [r112 H i j, H.hgate 0 j, ← EReal.coe_mul, mul_comm]; rfl

theorem r117 : Is (val_main_v117 (F := Ideal) x0 x1 x2 x3 x4 x5 x6 x7 x8 x9 x10 x11) (fun _ j => ∑ s, (R s).dx P j * (R s).y2 P j) := by
  intro i j
  pointwise [val_main_v117, val_main_v116, val_main_v115, val_main_cst_25]
  simp only [r112 H _ _, r60 H _ _, ← EReal.coe_mul, coe_sum]

theorem r170 : Is (val_main_v170 (F := Ideal) x0 x1 x2 x3 x4 x5 x6 x7 x8 x9 x10 x11) (fun i j => ∑ s, (R s).mm P i * (R s).dy P j) := by
  intro i j
  pointwise [val_main_v170, val_main_v119, val_main_v118]
  simp only [r114 H _ _, r59 H _ _, ← EReal.coe_mul, coe_sum]
  simp only [mul_comm]

theorem r120 : Is (val_main_v120 (F := Ideal) x0 x1 x2 x3 x4 x5 x6 x7 x8 x9 x10 x11) (fun i => (R i).dm P) := by
  intro i j
  pointwise [val_main_v120, val_main_v6]
  simp only [r114 H _ _, H.hwout _ _, ← EReal.coe_mul]
  rw [coe_sum]; rfl

theorem r121 : Is (val_main_v121 (F := Ideal) x0 x1 x2 x3 x4 x5 x6 x7 x8 x9 x10 x11) (fun i => (R i).dyb P) := by
  intro i j
  pointwise [val_main_v121]
  rw [r54 H i j, r120 H i j, ← EReal.coe_mul, mul_comm]; rfl

theorem r123 : Is (val_main_v123 (F := Ideal) x0 x1 x2 x3 x4 x5 x6 x7 x8 x9 x10 x11) (fun i => (R i).dg2 P) := by
  intro i j
  pointwise [val_main_v123, val_main_v122]
  rw [r120 H i j, r34 H i j, r57 H i j, ← EReal.coe_mul, ← EReal.coe_mul, ← mul_assoc]; rfl

theorem r124 : Is (val_main_v124 (F := Ideal) x0 x1 x2 x3 x4 x5 x6 x7 x8 x9 x10 x11) (fun i => (R i).dya P) := by
  intro i j
  pointwise [val_main_v124]
  rw [r44 H i j, r120 H i j, ← EReal.coe_mul, mul_comm]; rfl

theorem r126 : Is (val_main_v126 (F := Ideal) x0 x1 x2 x3 x4 x5 x6 x7 x8 x9 x10 x11) (fun i => (R i).dg1 P) := by
  intro i j
  pointwise [val_main_v126, val_main_v125]
  rw [r120 H i j, r38 H i j, r47 H i j, ← EReal.coe_mul, ← EReal.coe_mul, ← mul_assoc]; rfl

theorem r171 : Is (val_main_v171 (F := Ideal) x0 x1 x2 x3 x4 x5 x6 x7 x8 x9 x10 x11) (fun i j => ∑ s, (R s).ta i * (R s).dya P j) := by
  intro i j
  pointwise [val_main_v171, val_main_v128, val_main_v127]
  simp only [r124 H _ _, r37 H _ _, ← EReal.coe_mul, coe_sum]
  simp only [mul_comm]

theorem r129 : Is (val_main_v129 (F := Ideal) x0 x1 x2 x3 x4 x5 x6 x7 x8 x9 x10 x11) (fun i => (R i).dta P) := by
  intro i j
  pointwise [val_main_v129, val_main_v4]
  simp only [r124 H _ _, H.hwpa _ _, ← EReal.coe_mul]
  rw [coe_sum]; rfl

theorem r132 : Is (val_main_v132 (F := Ideal) x0 x1 x2 x3 x4 x5 x6 x7 x8 x9 x10 x11) (fun i => (R i).dza P) := by
  intro i j
  pointwise [val_main_v132, val_main_call2_v2, val_main_call2_v1, val_main_call2_v0, val_main_v130]
  rw [r35 H i j, r129 H i j, r36 H i j, r36d H i j, r9 H i j]
  simp only [← EReal.coe_mul, ← EReal.coe_add]
  refine congrArg (fun a : ℝ => (a : EReal)) ?_
  show _ = (R i).dta P j * (R i).ua j * (R i).sv j * (sg ((R i).za j) * (1 + (R i).za j * (1 - sg ((R i).za j))))
  ring

theorem r133 : Is (val_main_v133 (F := Ideal) x0 x1 x2 x3 x4 x5 x6 x7 x8 x9 x10 x11) (fun i => (R i).dsv P) := by
  intro i j
  pointwise [val_main_v133, val_main_v131]
  rw [r8 H i j, r129 H i j, r36s H i j, ← EReal.coe_mul, ← EReal.coe_mul]
  refine congrArg (fun a : ℝ => (a : EReal)) ?_
  show _ = (R i).dta P j * (R i).ua j * silu ((R i).za j)
  ring

theorem r134 : Is (val_main_v134 (F := Ideal) x0 x1 x2 x3 x4 x5 x6 x7 x8 x9 x10 x11) (fun i => (R i).dua P) := by
  intro i j
  pointwise [val_main_v134, val_main_v131, val_main_v3]
  rw [H.hsv i j, r129 H i j, r36s H i j, ← EReal.coe_mul, ← EReal.coe_mul]
  refine congrArg (fun a : ℝ => (a : EReal)) ?_
  show _ = (R i).dta P j * (R i).sv j * silu ((R i).za j)
  ring

theorem r172 : Is (val_main_v172 (F := Ideal) x0 x1 x2 x3 x4 x5 x6 x7 x8 x9 x10 x11) (fun i j => ∑ s, (R s).tb P i * (R s).dyb P j) := by
  intro i j
  pointwise [val_main_v172, val_main_v136, val_main_v135]
  simp only [r121 H _ _, r33 H _ _, ← EReal.coe_mul, coe_sum]
  simp only [mul_comm]

theorem r137 : Is (val_main_v137 (F := Ideal) x0 x1 x2 x3 x4 x5 x6 x7 x8 x9 x10 x11) (fun i => (R i).dtb P) := by
  intro i j
  pointwise [val_main_v137, val_main_v5]
  simp only [r121 H _ _, H.hwpb _ _, ← EReal.coe_mul]
  rw [coe_sum]; rfl

theorem r139 : Is (val_main_v139 (F := Ideal) x0 x1 x2 x3 x4 x5 x6 x7 x8 x9 x10 x11) (fun i => (R i).don P) := by
  intro i j
  pointwise [val_main_v139]
  rw [r137 H i j, r32s H i j, ← EReal.coe_mul]; rfl

theorem r140 : Is (val_main_v140 (F := Ideal) x0 x1 x2 x3 x4 x5 x6 x7 x8 x9 x10 x11) (fun i => (R i).dzb P) := by
  intro i j
  pointwise [val_main_v140, val_main_call3_v2, val_main_call3_v1, val_main_call3_v0, val_main_v138]
  rw [r31 H i j, r137 H i j, r32 H i j, r32d H i j, r7 H i j]
  simp only [← EReal.coe_mul, ← EReal.coe_add]
  refine congrArg (fun a : ℝ => (a : EReal)) ?_
  show _ = (R i).dtb P j * (R i).on P j * (sg ((R i).zb j) * (1 + (R i).zb j * (1 - sg ((R i).zb j))))
  ring

theorem r148 : Is (val_main_v148 (F := Ideal) x0 x1 x2 x3 x4 x5 x6 x7 x8 x9 x10 x11) (fun _ j => ∑ s, (R s).don P j * (R s).oh j) := by
  intro i j
  pointwise [val_main_v148, val_main_v147, val_main_v144, val_main_v143, val_main_v142, val_main_cst_26, val_main_cst_27,
    val_main_v141]
  have h (s : Fin 8192) : (val_main_v26 (F := Ideal) x3 x4) (ix3 s (head j) (lane j)) = (((R s).oh j : ℝ) : EReal) :=
    (r26 H s (head j) (lane j)).trans (congrArg (fun c => (((R s).oh c : ℝ) : EReal)) (col_head_lane j))
  show (∑ x : Fin 1, ∑ s : Fin 8192, (val_main_v26 (F := Ideal) x3 x4) (ix3 s (head j) (lane j)) * (val_main_v139 (F := Ideal) x0 x1 x2 x3 x4 x5 x6 x7 x8 x9 x10 x11) (ix2 s j)) = _
  simp only [h, r139 H _ _, ← EReal.coe_mul, coe_sum]
  simp only [Finset.sum_const, Finset.card_univ, Fintype.card_fin, one_smul, mul_comm]

theorem r141 : Is3 (val_main_v141 (F := Ideal) x0 x1 x2 x3 x4 x5 x6 x7 x8 x9 x10 x11) (fun i h d => (R i).don P (col h d)) := by
  intro i h d
  pointwise [val_main_v141]
  rw [r139 H i _]
  exact congrArg (fun c => (((R i).don P c : ℝ) : EReal)) (Fin.ext (by simp only [col]; omega))

theorem r146 : Is3 (val_main_v146 (F := Ideal) x0 x1 x2 x3 x4 x5 x6 x7 x8 x9 x10 x11) (fun i h d => (R i).doh P (col h d)) := by
  intro i h d
  pointwise [val_main_v146, val_main_v145, val_main_v28, val_main_v27]
  rw [r141 H i h d, H.hgbn 0 _, ← EReal.coe_mul]
  show _ = (((R i).don P (col h d) * P.gbn (col h d) : ℝ) : EReal)
  exact congrArg (fun c => (((R i).don P (col h d) * P.gbn c : ℝ) : EReal)) (Fin.ext (by simp only [col]; omega))

theorem r162 : Is3 (val_main_v162 (F := Ideal) x0 x1 x2 x3 x4 x5 x6 x7 x8 x9 x10 x11) (fun i h d => (R i).dO P (col h d)) := by
  intro i h d
  pointwise [val_main_v162, val_main_v161, val_main_v160, val_main_v159, val_main_v158, val_main_v157, val_main_v156, val_main_v155,
    val_main_cst_29, val_main_cst_30, val_main_v154, val_main_v153, val_main_v152, val_main_v151, val_main_v150, val_main_v149,
    val_main_cst_28]
  simp only [r146 H _ _ _, r13 H _ _ _, r21 H _ _ _, r24 H _ _ _, ← EReal.coe_mul, coe_sum]
  rw [lit_128]
  simp only [div_128, coe_sum, ← EReal.coe_mul, ← EReal.coe_add]
  refine congrArg (fun a : ℝ => (a : EReal)) ?_
  have hs : (∑ k : Fin 128, (R i).doh P (col h k) * (R i).oh (col h k))
      = (∑ k : Fin 128, (R i).o (col h k) * (R i).doh P (col h k)) * (R i).rr h := by
    rw [Finset.sum_mul]
    refine Finset.sum_congr rfl fun k _ => ?_
    show (R i).doh P (col h k) * ((R i).o (col h k) * (R i).rr (head (col h k))) = _
    rw [head_col]; ring
  show _ = (R i).rr (head (col h d)) * ((R i).doh P (col h d) - ((R i).o (col h d) * (R i).rr (head (col h d)))
    * ((∑ k : Fin 128, (R i).doh P (col (head (col h d)) k) * (R i).oh (col (head (col h d)) k)) * (1 / 128)))
  rw [head_col, hs]
  simp only [Finset.sum_const, Finset.card_univ, Fintype.card_fin, one_smul]
  ring

theorem r169 : Is (val_main_v169 (F := Ideal) x0 x1 x2 x3 x4 x5 x6 x7 x8 x9 x10 x11) (fun i => (R i).dO P) := by
  intro i j
  pointwise [val_main_v169, val_main_v163]
  exact (r162 H i (head j) (lane j)).trans (congrArg (fun c => (((R i).dO P c : ℝ) : EReal)) (col_head_lane j))

theorem r168 : Is (val_main_v168 (F := Ideal) x0 x1 x2 x3 x4 x5 x6 x7 x8 x9 x10 x11) (fun i => (R i).dsv P) := by
  intro i j
  pointwise [val_main_v168]
  exact r133 H i j

theorem r165 : Is (val_main_v165 (F := Ideal) x0 x1 x2 x3 x4 x5 x6 x7 x8 x9 x10 x11) (fun i => (R i).zu P) := by
  intro i j
  pointwise [val_main_v165, val_main_v164]
  simp only [r140 H _ _, r134 H _ _]
  unfold Row.zu
  split <;> rfl

theorem r167 : Is (val_main_v167 (F := Ideal) x0 x1 x2 x3 x4 x5 x6 x7 x8 x9 x10 x11) (fun i => (R i).zg P) := by
  intro i j
  pointwise [val_main_v167, val_main_v166]
  simp only [r132 H _ _, r126 H _ _, r123 H _ _]
  unfold Row.zg
  split
  · rfl
  · split <;> rfl

end Cert.Proof.Ref

end
-- ==== Proof.Pre.lean ====
/-
  The precondition says that every entry of every argument that the kernel reads is a real number.
-/
module

public import proofs.«01_k».proof.Proof.Ref
public import proofs.«01_k».proof.Proof.Gen.Pre_finite
public import proofs.«01_k».proof.Defs

@[expose] public section

noncomputable section

namespace Cert.Proof.Pre

open Idealize.ShloMosaic Cert.Pre_finite Cert.Pre_finite.Facts Cert.Proof.Spec

/-- An entry whose magnitude compares below infinity is real. -/
theorem real_of_cmp {s : Shape} {v : FVec Ideal s .f32} {hb : S_.BroadcastsInDim s ![]}
    (h : cmpf .olt (Host.absf v) (broadcastInDim s ![] hb (constant (F := Ideal) S_ .f32 0x7F800000#32)) = fun _ => 1#1) (i : s.Idx) :
    v i = (((v i).toReal : ℝ) : EReal) := by
  have h1 : Ideal.cmp .olt (max (v i) (-(v i)) : EReal) (Ideal.ofBits .f32 0x7F800000#32) = 1#1 := congrFun h i
  have h2 : Ideal.ofBits .f32 0x7F800000#32 = (⊤ : EReal) := by simp [Ideal.ofBits, Ideal.ieee]
  rw [h2] at h1
  have h3 : (max (v i) (-(v i)) : EReal) < ⊤ := by
    by_contra hn
    simp [Ideal.cmp, hn] at h1
  generalize (v i : EReal) = e at h3 ⊢
  refine (EReal.coe_toReal (fun he => ?_) (fun he => ?_)).symm <;> subst he <;> simp at h3

variable (x0 x1 : FVec Ideal S8192x1024 .f32) (x2 : FVec Ideal S8192x5248 .bf16) (x3 x4 x5 : FVec Ideal S8192x512 .bf16)
  (x6 x7 : FVec Ideal S1x1024 .f32) (x8 : FVec Ideal S1x512 .f32) (x9 x10 : FVec Ideal S512x1024 .bf16) (x11 : FVec Ideal S1024x1024 .bf16)

/-- The arguments that the kernel reads are finite: the precondition's thirteen tests. -/
structure Fin' : Prop where
  f0 : (fn (F := Ideal) x0 x1 x2 x3 x4 x5 x6 x7 x8 x9 x10 x11).1 = fun _ => 1#1
  f1 : (fn (F := Ideal) x0 x1 x2 x3 x4 x5 x6 x7 x8 x9 x10 x11).2.1 = fun _ => 1#1
  f2 : (fn (F := Ideal) x0 x1 x2 x3 x4 x5 x6 x7 x8 x9 x10 x11).2.2.1 = fun _ => 1#1
  f3 : (fn (F := Ideal) x0 x1 x2 x3 x4 x5 x6 x7 x8 x9 x10 x11).2.2.2.1 = fun _ => 1#1
  f4 : (fn (F := Ideal) x0 x1 x2 x3 x4 x5 x6 x7 x8 x9 x10 x11).2.2.2.2.1 = fun _ => 1#1
  f5 : (fn (F := Ideal) x0 x1 x2 x3 x4 x5 x6 x7 x8 x9 x10 x11).2.2.2.2.2.1 = fun _ => 1#1
  f6 : (fn (F := Ideal) x0 x1 x2 x3 x4 x5 x6 x7 x8 x9 x10 x11).2.2.2.2.2.2.1 = fun _ => 1#1
  f7 : (fn (F := Ideal) x0 x1 x2 x3 x4 x5 x6 x7 x8 x9 x10 x11).2.2.2.2.2.2.2.1 = fun _ => 1#1
  f8 : (fn (F := Ideal) x0 x1 x2 x3 x4 x5 x6 x7 x8 x9 x10 x11).2.2.2.2.2.2.2.2.1 = fun _ => 1#1
  f9 : (fn (F := Ideal) x0 x1 x2 x3 x4 x5 x6 x7 x8 x9 x10 x11).2.2.2.2.2.2.2.2.2.1 = fun _ => 1#1
  f10 : (fn (F := Ideal) x0 x1 x2 x3 x4 x5 x6 x7 x8 x9 x10 x11).2.2.2.2.2.2.2.2.2.2.1 = fun _ => 1#1
  f11 : (fn (F := Ideal) x0 x1 x2 x3 x4 x5 x6 x7 x8 x9 x10 x11).2.2.2.2.2.2.2.2.2.2.2.1 = fun _ => 1#1
  f12 : (fn (F := Ideal) x0 x1 x2 x3 x4 x5 x6 x7 x8 x9 x10 x11).2.2.2.2.2.2.2.2.2.2.2.2 = fun _ => 1#1

/-- The parameters, as real numbers. -/
def par : Par where
  gate j := (x6 (ix2 0 j) : EReal).toReal
  gf j := (x7 (ix2 0 j) : EReal).toReal
  gbn j := (x8 (ix2 0 j) : EReal).toReal
  wpa i j := (x9 (ix2 i j) : EReal).toReal
  wpb i j := (x10 (ix2 i j) : EReal).toReal
  wout i j := (x11 (ix2 i j) : EReal).toReal

/-- One row of the activations, as real numbers. -/
def row (i : Fin 8192) : Row where
  x j := (x0 (ix2 i j) : EReal).toReal
  t j := (x1 (ix2 i j) : EReal).toReal
  zb j := (x2 (ix2 i ⟨1024 + j.val, by omega⟩) : EReal).toReal
  ua j := (x2 (ix2 i ⟨1536 + j.val, by omega⟩) : EReal).toReal
  za j := (x2 (ix2 i ⟨2560 + j.val, by omega⟩) : EReal).toReal
  g1 j := (x2 (ix2 i ⟨3072 + j.val, by omega⟩) : EReal).toReal
  g2 j := (x2 (ix2 i ⟨4096 + j.val, by omega⟩) : EReal).toReal
  oF j := (x3 (ix2 i j) : EReal).toReal
  oB j := (x4 (ix2 i j) : EReal).toReal
  sv j := (x5 (ix2 i j) : EReal).toReal

variable {x0 x1 x2 x3 x4 x5 x6 x7 x8 x9 x10 x11} (H : Fin' x0 x1 x2 x3 x4 x5 x6 x7 x8 x9 x10 x11)

include H

omit H in
/-- The same column under another spelling of its number. -/
theorem real_shift {n m : ℕ} {x : (⟨2, ![n, m]⟩ : Shape).Idx → EReal} {i : Fin n} {a b : ℕ} {ha : a < m} {hb : b < m} (e : a = b)
    (h : x (ix2 i ⟨a, ha⟩) = (((x (ix2 i ⟨a, ha⟩)).toReal : ℝ) : EReal)) :
    x (ix2 i ⟨b, hb⟩) = (((x (ix2 i ⟨b, hb⟩)).toReal : ℝ) : EReal) := by
  subst e; exact h

/-- The columns 1024 to 2047 of the projection are real. -/
theorem real_lo (i : Fin 8192) (j : Fin 1024) :
    x2 (ix2 i ⟨1024 + j.val, by omega⟩) = (((x2 (ix2 i ⟨1024 + j.val, by omega⟩) : EReal).toReal : ℝ) : EReal) := by
  have h := real_of_cmp H.f2 (ix2 i j)
  have e : extractStridedSlice S8192x1024 ![0, 1024] (extf .f32 x2 bitsLt_bf16_f32 : FVec Ideal S8192x5248 .f32)
      slices_S8192x5248_S8192x1024_0_1024 (ix2 i j) = x2 (ix2 i ⟨1024 + j.val, by omega⟩) := by
    pointwise
  exact e ▸ h

/-- The columns 2560 to 5119 of the projection are real. -/
theorem real_hi (i : Fin 8192) (j : Fin 2560) :
    x2 (ix2 i ⟨2560 + j.val, by omega⟩) = (((x2 (ix2 i ⟨2560 + j.val, by omega⟩) : EReal).toReal : ℝ) : EReal) := by
  have h := real_of_cmp H.f3 (ix2 i j)
  have e : extractStridedSlice S8192x2560 ![0, 2560] (extf .f32 x2 bitsLt_bf16_f32 : FVec Ideal S8192x5248 .f32)
      slices_S8192x5248_S8192x2560_0_2560 (ix2 i j) = x2 (ix2 i ⟨2560 + j.val, by omega⟩) := by
    pointwise
  exact e ▸ h

/-- Under the precondition the arguments hold the reals of `par` and `row`. -/
theorem ins : Ref.In x0 x1 x2 x3 x4 x5 x6 x7 x8 x9 x10 x11 (par x6 x7 x8 x9 x10 x11) (row x0 x1 x2 x3 x4 x5) where
  hx i j := real_of_cmp H.f0 (ix2 i j)
  ht i j := real_of_cmp H.f1 (ix2 i j)
  hzb i j := real_lo H i ⟨j.val, by omega⟩
  hua i j := by
    have h := real_lo H i ⟨512 + j.val, by omega⟩
    exact real_shift (by show _ + (512 + j.val) = _; omega) h
  hza i j := real_hi H i ⟨j.val, by omega⟩
  hg1 i j := by
    have h := real_hi H i ⟨512 + j.val, by omega⟩
    exact real_shift (by show _ + (512 + j.val) = _; omega) h
  hg2 i j := by
    have h := real_hi H i ⟨1536 + j.val, by omega⟩
    exact real_shift (by show _ + (1536 + j.val) = _; omega) h
  hoF i j := real_of_cmp H.f4 (ix2 i j)
  hoB i j := real_of_cmp H.f5 (ix2 i j)
  hsv i j := real_of_cmp H.f6 (ix2 i j)
  hgate i j := Subsingleton.elim i 0 ▸ real_of_cmp H.f7 (ix2 0 j)
  hgf i j := Subsingleton.elim i 0 ▸ real_of_cmp H.f8 (ix2 0 j)
  hgbn i j := Subsingleton.elim i 0 ▸ real_of_cmp H.f9 (ix2 0 j)
  hwpa i j := real_of_cmp H.f10 (ix2 i j)
  hwpb i j := real_of_cmp H.f11 (ix2 i j)
  hwout i j := real_of_cmp H.f12 (ix2 i j)

end Cert.Proof.Pre

end
-- ==== Proof.Stage.lean ====
/-
  What the kernel's body computes from the blocks it loads at one grid point, value by value, over any float values:
  the chain of its payloads, its outputs, and one step of the seven sums that it carries from tile to tile.
-/
module

public import proofs.«01_k».proof.Proof.Gen.KernelIdeal.Skeleton
public import Idealize.ShloMosaic.Lib.Pipeline.ValueKit

@[expose] public section

noncomputable section

namespace Cert.Proof.Stage

open Idealize.ShloMosaic Cert.KernelIdeal Cert.KernelIdeal.Gen

variable (F : FTy → Type) [FloatOps F]

/-- The blocks the body loads at a point: the tile of the activations, then the parameters. -/
structure Ins where
  x0 : Vec F S256x1024 .f32
  x1 : Vec F S256x1024 .f32
  x2 : Vec F S256x512 .bf16
  x3 : Vec F S256x512 .bf16
  x4 : Vec F S256x512 .bf16
  x5 : Vec F S256x1024 .bf16
  x6 : Vec F S256x1024 .bf16
  x7 : Vec F S256x512 .bf16
  x8 : Vec F S256x512 .bf16
  x9 : Vec F S256x512 .bf16
  x10 : Vec F S1x1024 .f32
  x11 : Vec F S1x1024 .f32
  x12 : Vec F S1x512 .f32
  x13 : Vec F S512x1024 .bf16
  x14 : Vec F S512x1024 .bf16
  x15 : Vec F S1024x1024 .bf16

/-- The sums carried over the tiles: of the three small parameters, of the loss, of the three matrices. -/
structure Acc where
  gf : Vec F S1x1024 .f32
  gate : Vec F S1x1024 .f32
  gbn : Vec F S1x512 .f32
  loss : Vec F S1x1 .f32
  wout : Vec F S1024x1024 .f32
  wpa : Vec F S512x1024 .f32
  wpb : Vec F S512x1024 .f32

variable {F}

namespace Ins

variable (X : Ins F)

/-! ### The forward pass of the tile -/

def one : F .f32 := Scalar.ofBits .f32 0x3F800000#32
def o := k0_pay11 X.x7 X.x8
def h0 := k0_pay12 X.x7 X.x8
def h1 := k0_pay13 X.x7 X.x8
def h2 := k0_pay14 X.x7 X.x8
def q3 := k0_pay15 X.x7 X.x8
def rr := k0_pay16 X.h0 X.h1 X.h2 X.q3
def oh := k0_pay17 X.o X.h0 X.h1 X.h2 X.q3
def on := k0_pay18 X.o X.h0 X.h1 X.h2 X.q3 X.x12
def szb := k0_pay21 X.x2
def dszb := k0_pay22 X.x2
def tb := k0_pay23 X.o X.h0 X.h1 X.h2 X.q3 X.x12 X.x2
def ua := k0_pay24 X.x3
def sv := k0_pay25 X.x9
def za := k0_pay26 X.x4
def nza := k0_pay27 X.x4
def sza := k0_pay29 X.za X.nza one
def dsza := k0_pay30 X.za X.nza one
def ta := k0_pay31 X.ua X.sv X.za X.nza one
def ya := k0_pay32 X.ua X.sv X.za X.nza one X.x13
def yb := k0_pay33 X.tb X.x14
def g1 := k0_pay34 X.x5
def g2 := k0_pay35 X.x6
def mm := k0_pay36 X.tb X.ua X.sv X.za X.nza one X.x13 X.x14 X.x5 X.x6
def y2 := k0_pay37 X.mm X.x15
def r1 := k0_pay39 X.mm X.x15 X.x0 X.x10
def xn := k0_pay40 X.mm X.x15 X.x0 X.x10

/-! ### The backward pass of the tile -/

def dout := k0_pay43 X.mm X.x15 X.x0 X.x10 X.x11 X.x1
def dx := k0_pay45 X.r1 X.xn X.dout X.x11
def dy := k0_pay47 X.r1 X.xn X.dout X.x11 X.x10
def dg1 := k0_pay53 X.ya X.g1 X.dy X.x15
def dg2 := k0_pay54 X.yb X.g2 X.dy X.x15
def dyb := k0_pay52 X.g2 X.dy X.x15
def dta := k0_pay56 X.g1 X.dy X.x15 X.x13
def dua := k0_pay57 X.sv X.sza X.g1 X.dy X.x15 X.x13
def dsv := k0_pay58 X.ua X.sza X.dta
def dza := k0_pay59 X.ua X.sv X.dsza X.dta
def don := k0_pay62 X.szb X.dyb X.x14
def dzb := k0_pay63 X.on X.dszb X.dyb X.x14
def dO := k0_pay65 X.rr X.oh X.don X.x12

/-- The columns 1024 to 2047 of the projection's gradient: `zb`'s, then `ua`'s, stored side by side. -/
def pB : Vec F S256x1024 .bf16 :=
  View.canon (Val := Elt F) (e := .bf16)
    [⟨Rect.unit (s := S256x1024) ![0, 0] S256x512.size Facts₀.inb_S256x1024_S256x512_0_0, X.dzb⟩,
     ⟨Rect.unit (s := S256x1024) ![0, 512] S256x512.size Facts₀.inb_S256x1024_S256x512_0_512, X.dua⟩]

/-- The columns 2560 to 5119 of the projection's gradient: `za`'s, then the two gates'. -/
def pG : Vec F S256x2560 .bf16 :=
  View.canon (Val := Elt F) (e := .bf16)
    [⟨Rect.unit (s := S256x2560) ![0, 0] S256x512.size Facts₀.inb_S256x2560_S256x512_0_0, X.dza⟩,
     ⟨Rect.unit (s := S256x2560) ![0, 1536] S256x1024.size Facts₀.inb_S256x2560_S256x1024_0_1536, X.dg2⟩,
     ⟨Rect.unit (s := S256x2560) ![0, 512] S256x1024.size Facts₀.inb_S256x2560_S256x1024_0_512, X.dg1⟩]

/-- One tile's share added to the carried sums. -/
def step (a : Acc F) : Acc F where
  gf := k0_pay44 X.xn X.dout a.gf
  gate := k0_pay46 X.y2 X.r1 X.xn X.dout X.x11 a.gate
  gbn := k0_pay64 X.oh X.szb X.dyb X.x14 a.gbn
  loss := k0_pay42 X.mm X.x15 X.x0 X.x10 X.x11 X.x1 a.loss
  wout := k0_pay49 (k0_pay48 X.mm X.r1 X.xn X.dout X.x11 X.x10 a.wout)
  wpa := k0_pay55 X.ta X.g1 X.dy X.x15 a.wpa
  wpb := k0_pay60 X.tb X.dyb a.wpb

end Ins

/-- The sums before the first tile. -/
def zero : Acc F where
  gf := k0_pay7
  gate := k0_pay8
  gbn := k0_pay9
  loss := k0_pay10
  wout := k0_pay4
  wpa := k0_pay5
  wpb := k0_pay6

end Cert.Proof.Stage

end
-- ==== Proof.RunA.lean ====
/- The run of the kernel body at the first point of the grid (case A): the generated text, with a larger budget. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The run of the body at the first point: from whole buffers, the inputs' at their contents, it ends with the inputs as they
    were, the three matrix outputs untouched, and every other output and carried sum written with the pieces that it returns. -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1024x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x2560 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x512 .f32) (harg27 : arg27.IsWhole) (arg28 : Memref sig .tc .vmem S1x1 .f32) (harg28 : arg28.IsWhole) (arg29 : Memref sig .tc .vmem S1024x1024 .f32) (harg29 : arg29.IsWhole) (arg30 : Memref sig .tc .vmem S512x1024 .f32) (harg30 : arg30.IsWhole) (arg31 : Memref sig .tc .vmem S512x1024 .f32) (harg31 : arg31.IsWhole) (hc0 : cond0_0 i) (hc1 : ¬cond0_1 i)
    (x0 : Vec F S256x1024 .f32) (x1 : Vec F S256x1024 .f32) (x2 : Vec F S256x512 .bf16) (x3 : Vec F S256x512 .bf16) (x4 : Vec F S256x512 .bf16) (x5 : Vec F S256x1024 .bf16) (x6 : Vec F S256x1024 .bf16) (x7 : Vec F S256x512 .bf16) (x8 : Vec F S256x512 .bf16) (x9 : Vec F S256x512 .bf16) (x10 : Vec F S1x1024 .f32) (x11 : Vec F S1x1024 .f32) (x12 : Vec F S1x512 .f32) (x13 : Vec F S512x1024 .bf16) (x14 : Vec F S512x1024 .bf16) (x15 : Vec F S1024x1024 .bf16) :
    Σ' (L16 : List (View.Piece (Elt F) S256x1024 .f32)), Σ' (L17 : List (View.Piece (Elt F) S256x1024 .bf16)), Σ' (L18 : List (View.Piece (Elt F) S256x2560 .bf16)), Σ' (L19 : List (View.Piece (Elt F) S256x512 .bf16)), Σ' (L20 : List (View.Piece (Elt F) S256x512 .bf16)), Σ' (L21 : List (View.Piece (Elt F) S1024x1024 .bf16)), Σ' (L22 : List (View.Piece (Elt F) S512x1024 .bf16)), Σ' (L23 : List (View.Piece (Elt F) S512x1024 .bf16)), Σ' (L24 : List (View.Piece (Elt F) S1x1024 .f32)), Σ' (L25 : List (View.Piece (Elt F) S1x1024 .f32)), Σ' (L26 : List (View.Piece (Elt F) S1x512 .f32)), Σ' (L27 : List (View.Piece (Elt F) S1x1 .f32)), Σ' (LS0 : List (View.Piece (Elt F) S1024x1024 .f32)), Σ' (LS1 : List (View.Piece (Elt F) S512x1024 .f32)), { LS2 : List (View.Piece (Elt F) S512x1024 .f32) //
      ∀ (xi21 : Vec F S1024x1024 .bf16) (xi22 : Vec F S512x1024 .bf16) (xi23 : Vec F S512x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xi21 ∗ owns (c : Thread nD τ) arg23 fullShare xi22 ∗ owns (c : Thread nD τ) arg24 fullShare xi23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ owns (c : Thread nD τ) arg22 fullShare xi21 ∗ owns (c : Thread nD τ) arg23 fullShare xi22 ∗ owns (c : Thread nD τ) arg24 fullShare xi23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f LS0) ∗ (∃ f, arg30.view.loc (c : Thread nD τ) ↦[arg30.view.set]{fullShare} arg30.view.writes (Elt F) f LS1) ∗ (∃ f, arg31.view.loc (c : Thread nD τ) ↦[arg31.view.set]{fullShare} arg31.view.writes (Elt F) f LS2)) -∗ K ⟨⟩))
          ⊢ wp frame (wpE (defs₀ (F := F)) Variants.none c none) E (cc0_mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, [], [], [], ?_, ?_, ?_, ?_, ?_, ?_, ?_, fun xi21 xi22 xi23 E K => ?run⟩
  case run =>
    simp only [cc0_mid_eq_skeleton]; unfold cc0_mid_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg22.eq_unread hf21; obtain rfl := harg23.eq_unread hf22; obtain rfl := harg24.eq_unread hf23
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    isplitl [HS0]; · iexists _; iexact HS0
    isplitl [HS1]; · iexists _; iexact HS1
    iexists _; iexact HS2

end Cert.KernelIdeal.Gen

end
-- ==== Proof.PtA.lean ====
/-
  What the body leaves at the first grid point (where it first clears the sums that it carries), output by output and
  in each carried scratch.
-/
module

public import proofs.«01_k».proof.Proof.Stage
public import proofs.«01_k».proof.Proof.RunA
public import Idealize.ShloMosaic.Lib.Pipeline.ValueKit
public import Idealize.ShloMosaic.Lib.Pipeline.ReadBack

@[expose] public section

set_option maxRecDepth 16384

noncomputable section

namespace Cert.Proof.Points

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Stage

variable {F : FTy → Type} [FloatOps F]

local notation "𝕄" => MT nD τ sig Unit (Elt F) ℕ (UR sig nD τ) ℕ

/-- The run of the body at point `t` on the blocks `X`. -/
abbrev RA (c : Dev nD) (t : Fin cfg0.N) (h0 : cond0_0 (grid0.coords t)) (h1 : ¬ cond0_1 (grid0.coords t)) (X : Ins F) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) h0 h1 X.x0 X.x1 X.x2 X.x3 X.x4 X.x5 X.x6 X.x7 X.x8 X.x9 X.x10 X.x11 X.x12 X.x13 X.x14 X.x15

variable (c : Dev nD) (t : Fin cfg0.N) (h0 : cond0_0 (grid0.coords t)) (h1 : ¬ cond0_1 (grid0.coords t)) (X : Ins F)

set_option maxHeartbeats 4000000 in
/-- Each output, then each carried scratch, read after the run. -/
theorem outsA :
    (∀ e, (ms0_16 t).view.read (Elt F) ((ms0_16 t).view.writes (Elt F) e (RA c t h0 h1 X).1) = X.dx)
    ∧ (∀ e, (ms0_17 t).view.read (Elt F) ((ms0_17 t).view.writes (Elt F) e (RA c t h0 h1 X).2.1) = X.pB)
    ∧ (∀ e, (ms0_18 t).view.read (Elt F) ((ms0_18 t).view.writes (Elt F) e (RA c t h0 h1 X).2.2.1) = X.pG)
    ∧ (∀ e, (ms0_19 t).view.read (Elt F) ((ms0_19 t).view.writes (Elt F) e (RA c t h0 h1 X).2.2.2.1) = X.dsv)
    ∧ (∀ e, (ms0_20 t).view.read (Elt F) ((ms0_20 t).view.writes (Elt F) e (RA c t h0 h1 X).2.2.2.2.1) = X.dO)
    ∧ (∀ e, (ms0_24 t).view.read (Elt F) ((ms0_24 t).view.writes (Elt F) e (RA c t h0 h1 X).2.2.2.2.2.2.2.2.1) = (X.step zero).gf)
    ∧ (∀ e, (ms0_25 t).view.read (Elt F) ((ms0_25 t).view.writes (Elt F) e (RA c t h0 h1 X).2.2.2.2.2.2.2.2.2.1) = (X.step zero).gate)
    ∧ (∀ e, (ms0_26 t).view.read (Elt F) ((ms0_26 t).view.writes (Elt F) e (RA c t h0 h1 X).2.2.2.2.2.2.2.2.2.2.1) = (X.step zero).gbn)
    ∧ (∀ e, (ms0_27 t).view.read (Elt F) ((ms0_27 t).view.writes (Elt F) e (RA c t h0 h1 X).2.2.2.2.2.2.2.2.2.2.2.1) = (X.step zero).loss)
    ∧ (∀ e, scM0_0.view.read (Elt F) (scM0_0.view.writes (Elt F) e (RA c t h0 h1 X).2.2.2.2.2.2.2.2.2.2.2.2.1) = (X.step zero).wout)
    ∧ (∀ e, scM0_1.view.read (Elt F) (scM0_1.view.writes (Elt F) e (RA c t h0 h1 X).2.2.2.2.2.2.2.2.2.2.2.2.2.1) = (X.step zero).wpa)
    ∧ (∀ e, scM0_2.view.read (Elt F) (scM0_2.view.writes (Elt F) e (RA c t h0 h1 X).2.2.2.2.2.2.2.2.2.2.2.2.2.2.1) = (X.step zero).wpb) := by
  refine ⟨fun e => (View.read_writes_of_cover _ _ VO0_16 VO0_16.junk _ (View.cover_of_tiledL _ S256x1024.size (by sl_kernel_rfl))).trans ?_, fun e => (View.read_writes_of_cover _ _ VO0_17 VO0_17.junk _ (View.cover_of_tiledL _ S256x512.size (by sl_kernel_rfl))).trans ?_, fun e => (View.read_writes_of_cover _ _ VO0_18 VO0_18.junk _ (View.cover_of_tiledBy _ ![256, 512] (by sl_kernel_rfl))).trans ?_, fun e => (View.read_writes_of_cover _ _ VO0_19 VO0_19.junk _ (View.cover_of_tiledL _ S256x512.size (by sl_kernel_rfl))).trans ?_, fun e => (View.read_writes_of_cover _ _ VO0_20 VO0_20.junk _ (View.cover_of_tiledL _ S256x512.size (by sl_kernel_rfl))).trans ?_, fun e => (View.read_writes_of_cover _ _ VO0_24 VO0_24.junk _ (View.cover_of_tiledL _ S1x1024.size (by sl_kernel_rfl))).trans ?_, fun e => (View.read_writes_of_cover _ _ VO0_25 VO0_25.junk _ (View.cover_of_tiledL _ S1x1024.size (by sl_kernel_rfl))).trans ?_, fun e => (View.read_writes_of_cover _ _ VO0_26 VO0_26.junk _ (View.cover_of_tiledL _ S1x512.size (by sl_kernel_rfl))).trans ?_, fun e => (View.read_writes_of_cover _ _ VO0_27 VO0_27.junk _ (View.cover_of_tiledL _ S1x1.size (by sl_kernel_rfl))).trans ?_, fun e => (View.read_writes_of_cover _ _ VS0_0 VS0_0.junk _ (View.cover_of_tiledL _ S1024x1024.size (by sl_kernel_rfl))).trans ?_, fun e => (View.read_writes_of_cover _ _ VS0_1 VS0_1.junk _ (View.cover_of_tiledL _ S512x1024.size (by sl_kernel_rfl))).trans ?_, fun e => (View.read_writes_of_cover _ _ VS0_2 VS0_2.junk _ (View.cover_of_tiledL _ S512x1024.size (by sl_kernel_rfl))).trans ?_⟩
  all_goals
    unfold RA
    frame_open
    simp (disch := decide) only [↓ View.readCov_skip, ↓ View.readCov_cons_toLoadRect, ↓ View.readCov_fill]
    frame_out
    try simp only [read_unread_whole]
    rfl

set_option maxHeartbeats 4000000 in
include h0 h1 in
/-- The body's run at the point, with the pieces that it stores named and what each buffer then reads as. -/
theorem pointA {A : Acc F} (hA : A = X.step zero) : ∃ (L16 : List (View.Piece (Elt F) S256x1024 .f32)) (L17 : List (View.Piece (Elt F) S256x1024 .bf16)) (L18 : List (View.Piece (Elt F) S256x2560 .bf16)) (L19 : List (View.Piece (Elt F) S256x512 .bf16)) (L20 : List (View.Piece (Elt F) S256x512 .bf16)) (L24 : List (View.Piece (Elt F) S1x1024 .f32)) (L25 : List (View.Piece (Elt F) S1x1024 .f32)) (L26 : List (View.Piece (Elt F) S1x512 .f32)) (L27 : List (View.Piece (Elt F) S1x1 .f32)) (LS0 : List (View.Piece (Elt F) S1024x1024 .f32)) (LS1 : List (View.Piece (Elt F) S512x1024 .f32)) (LS2 : List (View.Piece (Elt F) S512x1024 .f32)),
    ((∀ e, (ms0_16 t).view.read (Elt F) ((ms0_16 t).view.writes (Elt F) e L16) = X.dx)
      ∧ (∀ e, (ms0_17 t).view.read (Elt F) ((ms0_17 t).view.writes (Elt F) e L17) = X.pB)
      ∧ (∀ e, (ms0_18 t).view.read (Elt F) ((ms0_18 t).view.writes (Elt F) e L18) = X.pG)
      ∧ (∀ e, (ms0_19 t).view.read (Elt F) ((ms0_19 t).view.writes (Elt F) e L19) = X.dsv)
      ∧ (∀ e, (ms0_20 t).view.read (Elt F) ((ms0_20 t).view.writes (Elt F) e L20) = X.dO)
      ∧ (∀ e, (ms0_24 t).view.read (Elt F) ((ms0_24 t).view.writes (Elt F) e L24) = A.gf)
      ∧ (∀ e, (ms0_25 t).view.read (Elt F) ((ms0_25 t).view.writes (Elt F) e L25) = A.gate)
      ∧ (∀ e, (ms0_26 t).view.read (Elt F) ((ms0_26 t).view.writes (Elt F) e L26) = A.gbn)
      ∧ (∀ e, (ms0_27 t).view.read (Elt F) ((ms0_27 t).view.writes (Elt F) e L27) = A.loss)
      ∧ (∀ e, scM0_0.view.read (Elt F) (scM0_0.view.writes (Elt F) e LS0) = A.wout)
      ∧ (∀ e, scM0_1.view.read (Elt F) (scM0_1.view.writes (Elt F) e LS1) = A.wpa)
      ∧ (∀ e, scM0_2.view.read (Elt F) (scM0_2.view.writes (Elt F) e LS2) = A.wpb))
    ∧ ∀ (xi21 : Vec F S1024x1024 .bf16) (xi22 xi23 : Vec F S512x1024 .bf16) (E : Set ℕ) (K : PUnit → sProp 𝕄),
      iprop(owns (c : Thread nD τ) (ms0_0 t) fullShare X.x0 ∗ owns (c : Thread nD τ) (ms0_1 t) fullShare X.x1 ∗ owns (c : Thread nD τ) (ms0_2 t) fullShare X.x2 ∗ owns (c : Thread nD τ) (ms0_3 t) fullShare X.x3 ∗ owns (c : Thread nD τ) (ms0_4 t) fullShare X.x4 ∗ owns (c : Thread nD τ) (ms0_5 t) fullShare X.x5 ∗ owns (c : Thread nD τ) (ms0_6 t) fullShare X.x6 ∗ owns (c : Thread nD τ) (ms0_7 t) fullShare X.x7 ∗ owns (c : Thread nD τ) (ms0_8 t) fullShare X.x8 ∗ owns (c : Thread nD τ) (ms0_9 t) fullShare X.x9 ∗ owns (c : Thread nD τ) (ms0_10 t) fullShare X.x10 ∗ owns (c : Thread nD τ) (ms0_11 t) fullShare X.x11 ∗ owns (c : Thread nD τ) (ms0_12 t) fullShare X.x12 ∗ owns (c : Thread nD τ) (ms0_13 t) fullShare X.x13 ∗ owns (c : Thread nD τ) (ms0_14 t) fullShare X.x14 ∗ owns (c : Thread nD τ) (ms0_15 t) fullShare X.x15 ∗ (∃ d, owns (c : Thread nD τ) (ms0_16 t) fullShare d) ∗ (∃ d, owns (c : Thread nD τ) (ms0_17 t) fullShare d) ∗ (∃ d, owns (c : Thread nD τ) (ms0_18 t) fullShare d) ∗ (∃ d, owns (c : Thread nD τ) (ms0_19 t) fullShare d) ∗ (∃ d, owns (c : Thread nD τ) (ms0_20 t) fullShare d) ∗ owns (c : Thread nD τ) (ms0_21 t) fullShare xi21 ∗ owns (c : Thread nD τ) (ms0_22 t) fullShare xi22 ∗ owns (c : Thread nD τ) (ms0_23 t) fullShare xi23 ∗ (∃ d, owns (c : Thread nD τ) (ms0_24 t) fullShare d) ∗ (∃ d, owns (c : Thread nD τ) (ms0_25 t) fullShare d) ∗ (∃ d, owns (c : Thread nD τ) (ms0_26 t) fullShare d) ∗ (∃ d, owns (c : Thread nD τ) (ms0_27 t) fullShare d) ∗ (∃ d, owns (c : Thread nD τ) scM0_0 fullShare d) ∗ (∃ d, owns (c : Thread nD τ) scM0_1 fullShare d) ∗ (∃ d, owns (c : Thread nD τ) scM0_2 fullShare d)
        ∗ (iprop(owns (c : Thread nD τ) (ms0_0 t) fullShare X.x0 ∗ owns (c : Thread nD τ) (ms0_1 t) fullShare X.x1 ∗ owns (c : Thread nD τ) (ms0_2 t) fullShare X.x2 ∗ owns (c : Thread nD τ) (ms0_3 t) fullShare X.x3 ∗ owns (c : Thread nD τ) (ms0_4 t) fullShare X.x4 ∗ owns (c : Thread nD τ) (ms0_5 t) fullShare X.x5 ∗ owns (c : Thread nD τ) (ms0_6 t) fullShare X.x6 ∗ owns (c : Thread nD τ) (ms0_7 t) fullShare X.x7 ∗ owns (c : Thread nD τ) (ms0_8 t) fullShare X.x8 ∗ owns (c : Thread nD τ) (ms0_9 t) fullShare X.x9 ∗ owns (c : Thread nD τ) (ms0_10 t) fullShare X.x10 ∗ owns (c : Thread nD τ) (ms0_11 t) fullShare X.x11 ∗ owns (c : Thread nD τ) (ms0_12 t) fullShare X.x12 ∗ owns (c : Thread nD τ) (ms0_13 t) fullShare X.x13 ∗ owns (c : Thread nD τ) (ms0_14 t) fullShare X.x14 ∗ owns (c : Thread nD τ) (ms0_15 t) fullShare X.x15 ∗ (∃ f, (ms0_16 t).view.loc (c : Thread nD τ) ↦[(ms0_16 t).view.set]{fullShare} (ms0_16 t).view.writes (Elt F) f L16) ∗ (∃ f, (ms0_17 t).view.loc (c : Thread nD τ) ↦[(ms0_17 t).view.set]{fullShare} (ms0_17 t).view.writes (Elt F) f L17) ∗ (∃ f, (ms0_18 t).view.loc (c : Thread nD τ) ↦[(ms0_18 t).view.set]{fullShare} (ms0_18 t).view.writes (Elt F) f L18) ∗ (∃ f, (ms0_19 t).view.loc (c : Thread nD τ) ↦[(ms0_19 t).view.set]{fullShare} (ms0_19 t).view.writes (Elt F) f L19) ∗ (∃ f, (ms0_20 t).view.loc (c : Thread nD τ) ↦[(ms0_20 t).view.set]{fullShare} (ms0_20 t).view.writes (Elt F) f L20) ∗ owns (c : Thread nD τ) (ms0_21 t) fullShare xi21 ∗ owns (c : Thread nD τ) (ms0_22 t) fullShare xi22 ∗ owns (c : Thread nD τ) (ms0_23 t) fullShare xi23 ∗ (∃ f, (ms0_24 t).view.loc (c : Thread nD τ) ↦[(ms0_24 t).view.set]{fullShare} (ms0_24 t).view.writes (Elt F) f L24) ∗ (∃ f, (ms0_25 t).view.loc (c : Thread nD τ) ↦[(ms0_25 t).view.set]{fullShare} (ms0_25 t).view.writes (Elt F) f L25) ∗ (∃ f, (ms0_26 t).view.loc (c : Thread nD τ) ↦[(ms0_26 t).view.set]{fullShare} (ms0_26 t).view.writes (Elt F) f L26) ∗ (∃ f, (ms0_27 t).view.loc (c : Thread nD τ) ↦[(ms0_27 t).view.set]{fullShare} (ms0_27 t).view.writes (Elt F) f L27) ∗ (∃ f, scM0_0.view.loc (c : Thread nD τ) ↦[scM0_0.view.set]{fullShare} scM0_0.view.writes (Elt F) f LS0) ∗ (∃ f, scM0_1.view.loc (c : Thread nD τ) ↦[scM0_1.view.set]{fullShare} scM0_1.view.writes (Elt F) f LS1) ∗ (∃ f, scM0_2.view.loc (c : Thread nD τ) ↦[scM0_2.view.set]{fullShare} scM0_2.view.writes (Elt F) f LS2)) -∗ K ⟨⟩))
      ⊢ wp frame (wpE (defs₀ (F := F)) Variants.none c none) E (bodyAt0 t) K := by
  subst hA
  exact ⟨_, _, _, _, _, _, _, _, _, _, _, _, outsA c t h0 h1 X, (RA c t h0 h1 X).2.2.2.2.2.2.2.2.2.2.2.2.2.2.2⟩

end Cert.Proof.Points

end
-- ==== Proof.PtB.lean ====
/-
  What the body leaves at a grid point between the first and the last, from the sums that the point before left.
-/
module

public import proofs.«01_k».proof.Proof.Stage
public import proofs.«01_k».proof.Proof.RunB
public import Idealize.ShloMosaic.Lib.Pipeline.ValueKit
public import Idealize.ShloMosaic.Lib.Pipeline.ReadBack

@[expose] public section

set_option maxRecDepth 16384

noncomputable section

namespace Cert.Proof.Points

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Stage

variable {F : FTy → Type} [FloatOps F]

local notation "𝕄" => MT nD τ sig Unit (Elt F) ℕ (UR sig nD τ) ℕ

/-- The run of the body at point `t` on the blocks `X` and the sums `a`. -/
abbrev RB (c : Dev nD) (t : Fin cfg0.N) (h0 : ¬ cond0_0 (grid0.coords t)) (h1 : ¬ cond0_1 (grid0.coords t)) (X : Ins F) (a : Acc F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) h0 h1 X.x0 X.x1 X.x2 X.x3 X.x4 X.x5 X.x6 X.x7 X.x8 X.x9 X.x10 X.x11 X.x12 X.x13 X.x14 X.x15 a.gf a.gate a.gbn a.loss a.wout a.wpa a.wpb

variable (c : Dev nD) (t : Fin cfg0.N) (h0 : ¬ cond0_0 (grid0.coords t)) (h1 : ¬ cond0_1 (grid0.coords t)) (X : Ins F) (a : Acc F)

set_option maxHeartbeats 4000000 in
/-- Each output, then each carried scratch, read after the run. -/
theorem outsB :
    (∀ e, (ms0_16 t).view.read (Elt F) ((ms0_16 t).view.writes (Elt F) e (RB c t h0 h1 X a).1) = X.dx)
    ∧ (∀ e, (ms0_17 t).view.read (Elt F) ((ms0_17 t).view.writes (Elt F) e (RB c t h0 h1 X a).2.1) = X.pB)
    ∧ (∀ e, (ms0_18 t).view.read (Elt F) ((ms0_18 t).view.writes (Elt F) e (RB c t h0 h1 X a).2.2.1) = X.pG)
    ∧ (∀ e, (ms0_19 t).view.read (Elt F) ((ms0_19 t).view.writes (Elt F) e (RB c t h0 h1 X a).2.2.2.1) = X.dsv)
    ∧ (∀ e, (ms0_20 t).view.read (Elt F) ((ms0_20 t).view.writes (Elt F) e (RB c t h0 h1 X a).2.2.2.2.1) = X.dO)
    ∧ (∀ e, (ms0_24 t).view.read (Elt F) ((ms0_24 t).view.writes (Elt F) e (RB c t h0 h1 X a).2.2.2.2.2.2.2.2.1) = (X.step a).gf)
    ∧ (∀ e, (ms0_25 t).view.read (Elt F) ((ms0_25 t).view.writes (Elt F) e (RB c t h0 h1 X a).2.2.2.2.2.2.2.2.2.1) = (X.step a).gate)
    ∧ (∀ e, (ms0_26 t).view.read (Elt F) ((ms0_26 t).view.writes (Elt F) e (RB c t h0 h1 X a).2.2.2.2.2.2.2.2.2.2.1) = (X.step a).gbn)
    ∧ (∀ e, (ms0_27 t).view.read (Elt F) ((ms0_27 t).view.writes (Elt F) e (RB c t h0 h1 X a).2.2.2.2.2.2.2.2.2.2.2.1) = (X.step a).loss)
    ∧ (∀ e, scM0_0.view.read (Elt F) (scM0_0.view.writes (Elt F) e (RB c t h0 h1 X a).2.2.2.2.2.2.2.2.2.2.2.2.1) = (X.step a).wout)
    ∧ (∀ e, scM0_1.view.read (Elt F) (scM0_1.view.writes (Elt F) e (RB c t h0 h1 X a).2.2.2.2.2.2.2.2.2.2.2.2.2.1) = (X.step a).wpa)
    ∧ (∀ e, scM0_2.view.read (Elt F) (scM0_2.view.writes (Elt F) e (RB c t h0 h1 X a).2.2.2.2.2.2.2.2.2.2.2.2.2.2.1) = (X.step a).wpb) := by
  refine ⟨fun e => (View.read_writes_of_cover _ _ VO0_16 VO0_16.junk _ (View.cover_of_tiledL _ S256x1024.size (by sl_kernel_rfl))).trans ?_, fun e => (View.read_writes_of_cover _ _ VO0_17 VO0_17.junk _ (View.cover_of_tiledL _ S256x512.size (by sl_kernel_rfl))).trans ?_, fun e => (View.read_writes_of_cover _ _ VO0_18 VO0_18.junk _ (View.cover_of_tiledBy _ ![256, 512] (by sl_kernel_rfl))).trans ?_, fun e => (View.read_writes_of_cover _ _ VO0_19 VO0_19.junk _ (View.cover_of_tiledL _ S256x512.size (by sl_kernel_rfl))).trans ?_, fun e => (View.read_writes_of_cover _ _ VO0_20 VO0_20.junk _ (View.cover_of_tiledL _ S256x512.size (by sl_kernel_rfl))).trans ?_, fun e => (View.read_writes_of_cover _ _ VO0_24 VO0_24.junk _ (View.cover_of_tiledL _ S1x1024.size (by sl_kernel_rfl))).trans ?_, fun e => (View.read_writes_of_cover _ _ VO0_25 VO0_25.junk _ (View.cover_of_tiledL _ S1x1024.size (by sl_kernel_rfl))).trans ?_, fun e => (View.read_writes_of_cover _ _ VO0_26 VO0_26.junk _ (View.cover_of_tiledL _ S1x512.size (by sl_kernel_rfl))).trans ?_, fun e => (View.read_writes_of_cover _ _ VO0_27 VO0_27.junk _ (View.cover_of_tiledL _ S1x1.size (by sl_kernel_rfl))).trans ?_, fun e => (View.read_writes_of_cover _ _ VS0_0 VS0_0.junk _ (View.cover_of_tiledL _ S1024x1024.size (by sl_kernel_rfl))).trans ?_, fun e => (View.read_writes_of_cover _ _ VS0_1 VS0_1.junk _ (View.cover_of_tiledL _ S512x1024.size (by sl_kernel_rfl))).trans ?_, fun e => (View.read_writes_of_cover _ _ VS0_2 VS0_2.junk _ (View.cover_of_tiledL _ S512x1024.size (by sl_kernel_rfl))).trans ?_⟩
  all_goals
    unfold RB
    frame_open
    simp (disch := decide) only [↓ View.readCov_skip, ↓ View.readCov_cons_toLoadRect, ↓ View.readCov_fill]
    frame_out
    try simp only [read_unread_whole]
    rfl

set_option maxHeartbeats 4000000 in
include h0 h1 in
/-- The body's run at the point, with the pieces that it stores named and what each buffer then reads as. -/
theorem pointB {A : Acc F} (hA : A = X.step a) : ∃ (L16 : List (View.Piece (Elt F) S256x1024 .f32)) (L17 : List (View.Piece (Elt F) S256x1024 .bf16)) (L18 : List (View.Piece (Elt F) S256x2560 .bf16)) (L19 : List (View.Piece (Elt F) S256x512 .bf16)) (L20 : List (View.Piece (Elt F) S256x512 .bf16)) (L24 : List (View.Piece (Elt F) S1x1024 .f32)) (L25 : List (View.Piece (Elt F) S1x1024 .f32)) (L26 : List (View.Piece (Elt F) S1x512 .f32)) (L27 : List (View.Piece (Elt F) S1x1 .f32)) (LS0 : List (View.Piece (Elt F) S1024x1024 .f32)) (LS1 : List (View.Piece (Elt F) S512x1024 .f32)) (LS2 : List (View.Piece (Elt F) S512x1024 .f32)),
    ((∀ e, (ms0_16 t).view.read (Elt F) ((ms0_16 t).view.writes (Elt F) e L16) = X.dx)
      ∧ (∀ e, (ms0_17 t).view.read (Elt F) ((ms0_17 t).view.writes (Elt F) e L17) = X.pB)
      ∧ (∀ e, (ms0_18 t).view.read (Elt F) ((ms0_18 t).view.writes (Elt F) e L18) = X.pG)
      ∧ (∀ e, (ms0_19 t).view.read (Elt F) ((ms0_19 t).view.writes (Elt F) e L19) = X.dsv)
      ∧ (∀ e, (ms0_20 t).view.read (Elt F) ((ms0_20 t).view.writes (Elt F) e L20) = X.dO)
      ∧ (∀ e, (ms0_24 t).view.read (Elt F) ((ms0_24 t).view.writes (Elt F) e L24) = A.gf)
      ∧ (∀ e, (ms0_25 t).view.read (Elt F) ((ms0_25 t).view.writes (Elt F) e L25) = A.gate)
      ∧ (∀ e, (ms0_26 t).view.read (Elt F) ((ms0_26 t).view.writes (Elt F) e L26) = A.gbn)
      ∧ (∀ e, (ms0_27 t).view.read (Elt F) ((ms0_27 t).view.writes (Elt F) e L27) = A.loss)
      ∧ (∀ e, scM0_0.view.read (Elt F) (scM0_0.view.writes (Elt F) e LS0) = A.wout)
      ∧ (∀ e, scM0_1.view.read (Elt F) (scM0_1.view.writes (Elt F) e LS1) = A.wpa)
      ∧ (∀ e, scM0_2.view.read (Elt F) (scM0_2.view.writes (Elt F) e LS2) = A.wpb))
    ∧ ∀ (xi21 : Vec F S1024x1024 .bf16) (xi22 xi23 : Vec F S512x1024 .bf16) (E : Set ℕ) (K : PUnit → sProp 𝕄),
      iprop(owns (c : Thread nD τ) (ms0_0 t) fullShare X.x0 ∗ owns (c : Thread nD τ) (ms0_1 t) fullShare X.x1 ∗ owns (c : Thread nD τ) (ms0_2 t) fullShare X.x2 ∗ owns (c : Thread nD τ) (ms0_3 t) fullShare X.x3 ∗ owns (c : Thread nD τ) (ms0_4 t) fullShare X.x4 ∗ owns (c : Thread nD τ) (ms0_5 t) fullShare X.x5 ∗ owns (c : Thread nD τ) (ms0_6 t) fullShare X.x6 ∗ owns (c : Thread nD τ) (ms0_7 t) fullShare X.x7 ∗ owns (c : Thread nD τ) (ms0_8 t) fullShare X.x8 ∗ owns (c : Thread nD τ) (ms0_9 t) fullShare X.x9 ∗ owns (c : Thread nD τ) (ms0_10 t) fullShare X.x10 ∗ owns (c : Thread nD τ) (ms0_11 t) fullShare X.x11 ∗ owns (c : Thread nD τ) (ms0_12 t) fullShare X.x12 ∗ owns (c : Thread nD τ) (ms0_13 t) fullShare X.x13 ∗ owns (c : Thread nD τ) (ms0_14 t) fullShare X.x14 ∗ owns (c : Thread nD τ) (ms0_15 t) fullShare X.x15 ∗ (∃ d, owns (c : Thread nD τ) (ms0_16 t) fullShare d) ∗ (∃ d, owns (c : Thread nD τ) (ms0_17 t) fullShare d) ∗ (∃ d, owns (c : Thread nD τ) (ms0_18 t) fullShare d) ∗ (∃ d, owns (c : Thread nD τ) (ms0_19 t) fullShare d) ∗ (∃ d, owns (c : Thread nD τ) (ms0_20 t) fullShare d) ∗ owns (c : Thread nD τ) (ms0_21 t) fullShare xi21 ∗ owns (c : Thread nD τ) (ms0_22 t) fullShare xi22 ∗ owns (c : Thread nD τ) (ms0_23 t) fullShare xi23 ∗ owns (c : Thread nD τ) (ms0_24 t) fullShare a.gf ∗ owns (c : Thread nD τ) (ms0_25 t) fullShare a.gate ∗ owns (c : Thread nD τ) (ms0_26 t) fullShare a.gbn ∗ owns (c : Thread nD τ) (ms0_27 t) fullShare a.loss ∗ owns (c : Thread nD τ) scM0_0 fullShare a.wout ∗ owns (c : Thread nD τ) scM0_1 fullShare a.wpa ∗ owns (c : Thread nD τ) scM0_2 fullShare a.wpb
        ∗ (iprop(owns (c : Thread nD τ) (ms0_0 t) fullShare X.x0 ∗ owns (c : Thread nD τ) (ms0_1 t) fullShare X.x1 ∗ owns (c : Thread nD τ) (ms0_2 t) fullShare X.x2 ∗ owns (c : Thread nD τ) (ms0_3 t) fullShare X.x3 ∗ owns (c : Thread nD τ) (ms0_4 t) fullShare X.x4 ∗ owns (c : Thread nD τ) (ms0_5 t) fullShare X.x5 ∗ owns (c : Thread nD τ) (ms0_6 t) fullShare X.x6 ∗ owns (c : Thread nD τ) (ms0_7 t) fullShare X.x7 ∗ owns (c : Thread nD τ) (ms0_8 t) fullShare X.x8 ∗ owns (c : Thread nD τ) (ms0_9 t) fullShare X.x9 ∗ owns (c : Thread nD τ) (ms0_10 t) fullShare X.x10 ∗ owns (c : Thread nD τ) (ms0_11 t) fullShare X.x11 ∗ owns (c : Thread nD τ) (ms0_12 t) fullShare X.x12 ∗ owns (c : Thread nD τ) (ms0_13 t) fullShare X.x13 ∗ owns (c : Thread nD τ) (ms0_14 t) fullShare X.x14 ∗ owns (c : Thread nD τ) (ms0_15 t) fullShare X.x15 ∗ (∃ f, (ms0_16 t).view.loc (c : Thread nD τ) ↦[(ms0_16 t).view.set]{fullShare} (ms0_16 t).view.writes (Elt F) f L16) ∗ (∃ f, (ms0_17 t).view.loc (c : Thread nD τ) ↦[(ms0_17 t).view.set]{fullShare} (ms0_17 t).view.writes (Elt F) f L17) ∗ (∃ f, (ms0_18 t).view.loc (c : Thread nD τ) ↦[(ms0_18 t).view.set]{fullShare} (ms0_18 t).view.writes (Elt F) f L18) ∗ (∃ f, (ms0_19 t).view.loc (c : Thread nD τ) ↦[(ms0_19 t).view.set]{fullShare} (ms0_19 t).view.writes (Elt F) f L19) ∗ (∃ f, (ms0_20 t).view.loc (c : Thread nD τ) ↦[(ms0_20 t).view.set]{fullShare} (ms0_20 t).view.writes (Elt F) f L20) ∗ owns (c : Thread nD τ) (ms0_21 t) fullShare xi21 ∗ owns (c : Thread nD τ) (ms0_22 t) fullShare xi22 ∗ owns (c : Thread nD τ) (ms0_23 t) fullShare xi23 ∗ (∃ f, (ms0_24 t).view.loc (c : Thread nD τ) ↦[(ms0_24 t).view.set]{fullShare} (ms0_24 t).view.writes (Elt F) f L24) ∗ (∃ f, (ms0_25 t).view.loc (c : Thread nD τ) ↦[(ms0_25 t).view.set]{fullShare} (ms0_25 t).view.writes (Elt F) f L25) ∗ (∃ f, (ms0_26 t).view.loc (c : Thread nD τ) ↦[(ms0_26 t).view.set]{fullShare} (ms0_26 t).view.writes (Elt F) f L26) ∗ (∃ f, (ms0_27 t).view.loc (c : Thread nD τ) ↦[(ms0_27 t).view.set]{fullShare} (ms0_27 t).view.writes (Elt F) f L27) ∗ (∃ f, scM0_0.view.loc (c : Thread nD τ) ↦[scM0_0.view.set]{fullShare} scM0_0.view.writes (Elt F) f LS0) ∗ (∃ f, scM0_1.view.loc (c : Thread nD τ) ↦[scM0_1.view.set]{fullShare} scM0_1.view.writes (Elt F) f LS1) ∗ (∃ f, scM0_2.view.loc (c : Thread nD τ) ↦[scM0_2.view.set]{fullShare} scM0_2.view.writes (Elt F) f LS2)) -∗ K ⟨⟩))
      ⊢ wp frame (wpE (defs₀ (F := F)) Variants.none c none) E (bodyAt0 t) K := by
  subst hA
  exact ⟨_, _, _, _, _, _, _, _, _, _, _, _, outsB c t h0 h1 X a, (RB c t h0 h1 X a).2.2.2.2.2.2.2.2.2.2.2.2.2.2.2⟩

end Cert.Proof.Points

end
-- ==== Proof.RunC.lean ====
/- The run of the kernel body at the last point of the grid (case C): the generated text, with a larger budget. -/
module

public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The run of the body at the last point: from whole buffers, the inputs' and the carried sums' at their contents, it ends
    with the inputs as they were, and every output and carried sum written with the pieces that it returns. -/
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1024x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x2560 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x512 .f32) (harg27 : arg27.IsWhole) (arg28 : Memref sig .tc .vmem S1x1 .f32) (harg28 : arg28.IsWhole) (arg29 : Memref sig .tc .vmem S1024x1024 .f32) (harg29 : arg29.IsWhole) (arg30 : Memref sig .tc .vmem S512x1024 .f32) (harg30 : arg30.IsWhole) (arg31 : Memref sig .tc .vmem S512x1024 .f32) (harg31 : arg31.IsWhole) (hc0 : ¬cond0_0 i) (hc1 : cond0_1 i)
    (x0 : Vec F S256x1024 .f32) (x1 : Vec F S256x1024 .f32) (x2 : Vec F S256x512 .bf16) (x3 : Vec F S256x512 .bf16) (x4 : Vec F S256x512 .bf16) (x5 : Vec F S256x1024 .bf16) (x6 : Vec F S256x1024 .bf16) (x7 : Vec F S256x512 .bf16) (x8 : Vec F S256x512 .bf16) (x9 : Vec F S256x512 .bf16) (x10 : Vec F S1x1024 .f32) (x11 : Vec F S1x1024 .f32) (x12 : Vec F S1x512 .f32) (x13 : Vec F S512x1024 .bf16) (x14 : Vec F S512x1024 .bf16) (x15 : Vec F S1024x1024 .bf16) (xo24 : Vec F S1x1024 .f32) (xo25 : Vec F S1x1024 .f32) (xo26 : Vec F S1x512 .f32) (xo27 : Vec F S1x1 .f32) (xs0 : Vec F S1024x1024 .f32) (xs1 : Vec F S512x1024 .f32) (xs2 : Vec F S512x1024 .f32) :
    Σ' (L16 : List (View.Piece (Elt F) S256x1024 .f32)), Σ' (L17 : List (View.Piece (Elt F) S256x1024 .bf16)), Σ' (L18 : List (View.Piece (Elt F) S256x2560 .bf16)), Σ' (L19 : List (View.Piece (Elt F) S256x512 .bf16)), Σ' (L20 : List (View.Piece (Elt F) S256x512 .bf16)), Σ' (L21 : List (View.Piece (Elt F) S1024x1024 .bf16)), Σ' (L22 : List (View.Piece (Elt F) S512x1024 .bf16)), Σ' (L23 : List (View.Piece (Elt F) S512x1024 .bf16)), Σ' (L24 : List (View.Piece (Elt F) S1x1024 .f32)), Σ' (L25 : List (View.Piece (Elt F) S1x1024 .f32)), Σ' (L26 : List (View.Piece (Elt F) S1x512 .f32)), Σ' (L27 : List (View.Piece (Elt F) S1x1 .f32)), Σ' (LS0 : List (View.Piece (Elt F) S1024x1024 .f32)), Σ' (LS1 : List (View.Piece (Elt F) S512x1024 .f32)), { LS2 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xo24 ∗ owns (c : Thread nD τ) arg26 fullShare xo25 ∗ owns (c : Thread nD τ) arg27 fullShare xo26 ∗ owns (c : Thread nD τ) arg28 fullShare xo27 ∗ owns (c : Thread nD τ) arg29 fullShare xs0 ∗ owns (c : Thread nD τ) arg30 fullShare xs1 ∗ owns (c : Thread nD τ) arg31 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f LS0) ∗ (∃ f, arg30.view.loc (c : Thread nD τ) ↦[arg30.view.set]{fullShare} arg30.view.writes (Elt F) f LS1) ∗ (∃ f, arg31.view.loc (c : Thread nD τ) ↦[arg31.view.set]{fullShare} arg31.view.writes (Elt F) f LS2)) -∗ K ⟨⟩))
          ⊢ wp frame (wpE (defs₀ (F := F)) Variants.none c none) E (cc0_mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, ?_, ?_, ?_, ?_, ?_, ?_, ?_, ?_, fun E K => ?run⟩
  case run =>
    simp only [cc0_mid_eq_skeleton]; unfold cc0_mid_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%f24, %hf24, H24⟩, ⟨%f25, %hf25, H25⟩, ⟨%f26, %hf26, H26⟩, ⟨%f27, %hf27, H27⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg25.eq_unread hf24; obtain rfl := harg26.eq_unread hf25; obtain rfl := harg27.eq_unread hf26; obtain rfl := harg28.eq_unread hf27; obtain rfl := harg29.eq_unread hfs0; obtain rfl := harg30.eq_unread hfs1; obtain rfl := harg31.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [HS0]; · iexists _; iexact HS0
    isplitl [HS1]; · iexists _; iexact HS1
    iexists _; iexact HS2

end Cert.KernelIdeal.Gen

end
-- ==== Proof.PtC.lean ====
/-
  What the body leaves at the last grid point, where it also writes the three matrix gradients out.
-/
module

public import proofs.«01_k».proof.Proof.Stage
public import proofs.«01_k».proof.Proof.RunC
public import Idealize.ShloMosaic.Lib.Pipeline.ValueKit
public import Idealize.ShloMosaic.Lib.Pipeline.ReadBack

@[expose] public section

set_option maxRecDepth 16384

noncomputable section

namespace Cert.Proof.Points

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Stage

variable {F : FTy → Type} [FloatOps F]

local notation "𝕄" => MT nD τ sig Unit (Elt F) ℕ (UR sig nD τ) ℕ

/-- The run of the body at point `t` on the blocks `X` and the sums `a`. -/
abbrev RC (c : Dev nD) (t : Fin cfg0.N) (h0 : ¬ cond0_0 (grid0.coords t)) (h1 : cond0_1 (grid0.coords t)) (X : Ins F) (a : Acc F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) h0 h1 X.x0 X.x1 X.x2 X.x3 X.x4 X.x5 X.x6 X.x7 X.x8 X.x9 X.x10 X.x11 X.x12 X.x13 X.x14 X.x15 a.gf a.gate a.gbn a.loss a.wout a.wpa a.wpb

variable (c : Dev nD) (t : Fin cfg0.N) (h0 : ¬ cond0_0 (grid0.coords t)) (h1 : cond0_1 (grid0.coords t)) (X : Ins F) (a : Acc F)

set_option maxHeartbeats 4000000 in
/-- Each output, then each carried scratch, read after the run. -/
theorem outsC :
    (∀ e, (ms0_16 t).view.read (Elt F) ((ms0_16 t).view.writes (Elt F) e (RC c t h0 h1 X a).1) = X.dx)
    ∧ (∀ e, (ms0_17 t).view.read (Elt F) ((ms0_17 t).view.writes (Elt F) e (RC c t h0 h1 X a).2.1) = X.pB)
    ∧ (∀ e, (ms0_18 t).view.read (Elt F) ((ms0_18 t).view.writes (Elt F) e (RC c t h0 h1 X a).2.2.1) = X.pG)
    ∧ (∀ e, (ms0_19 t).view.read (Elt F) ((ms0_19 t).view.writes (Elt F) e (RC c t h0 h1 X a).2.2.2.1) = X.dsv)
    ∧ (∀ e, (ms0_20 t).view.read (Elt F) ((ms0_20 t).view.writes (Elt F) e (RC c t h0 h1 X a).2.2.2.2.1) = X.dO)
    ∧ (∀ e, (ms0_21 t).view.read (Elt F) ((ms0_21 t).view.writes (Elt F) e (RC c t h0 h1 X a).2.2.2.2.2.1) = k0_pay1 (X.step a).wout)
    ∧ (∀ e, (ms0_22 t).view.read (Elt F) ((ms0_22 t).view.writes (Elt F) e (RC c t h0 h1 X a).2.2.2.2.2.2.1) = k0_pay2 (X.step a).wpa)
    ∧ (∀ e, (ms0_23 t).view.read (Elt F) ((ms0_23 t).view.writes (Elt F) e (RC c t h0 h1 X a).2.2.2.2.2.2.2.1) = k0_pay3 (X.step a).wpb)
    ∧ (∀ e, (ms0_24 t).view.read (Elt F) ((ms0_24 t).view.writes (Elt F) e (RC c t h0 h1 X a).2.2.2.2.2.2.2.2.1) = (X.step a).gf)
    ∧ (∀ e, (ms0_25 t).view.read (Elt F) ((ms0_25 t).view.writes (Elt F) e (RC c t h0 h1 X a).2.2.2.2.2.2.2.2.2.1) = (X.step a).gate)
    ∧ (∀ e, (ms0_26 t).view.read (Elt F) ((ms0_26 t).view.writes (Elt F) e (RC c t h0 h1 X a).2.2.2.2.2.2.2.2.2.2.1) = (X.step a).gbn)
    ∧ (∀ e, (ms0_27 t).view.read (Elt F) ((ms0_27 t).view.writes (Elt F) e (RC c t h0 h1 X a).2.2.2.2.2.2.2.2.2.2.2.1) = (X.step a).loss)
    ∧ (∀ e, scM0_0.view.read (Elt F) (scM0_0.view.writes (Elt F) e (RC c t h0 h1 X a).2.2.2.2.2.2.2.2.2.2.2.2.1) = (X.step a).wout)
    ∧ (∀ e, scM0_1.view.read (Elt F) (scM0_1.view.writes (Elt F) e (RC c t h0 h1 X a).2.2.2.2.2.2.2.2.2.2.2.2.2.1) = (X.step a).wpa)
    ∧ (∀ e, scM0_2.view.read (Elt F) (scM0_2.view.writes (Elt F) e (RC c t h0 h1 X a).2.2.2.2.2.2.2.2.2.2.2.2.2.2.1) = (X.step a).wpb) := by
  refine ⟨fun e => (View.read_writes_of_cover _ _ VO0_16 VO0_16.junk _ (View.cover_of_tiledL _ S256x1024.size (by sl_kernel_rfl))).trans ?_, fun e => (View.read_writes_of_cover _ _ VO0_17 VO0_17.junk _ (View.cover_of_tiledL _ S256x512.size (by sl_kernel_rfl))).trans ?_, fun e => (View.read_writes_of_cover _ _ VO0_18 VO0_18.junk _ (View.cover_of_tiledBy _ ![256, 512] (by sl_kernel_rfl))).trans ?_, fun e => (View.read_writes_of_cover _ _ VO0_19 VO0_19.junk _ (View.cover_of_tiledL _ S256x512.size (by sl_kernel_rfl))).trans ?_, fun e => (View.read_writes_of_cover _ _ VO0_20 VO0_20.junk _ (View.cover_of_tiledL _ S256x512.size (by sl_kernel_rfl))).trans ?_, fun e => (View.read_writes_of_cover _ _ VO0_21 VO0_21.junk _ (View.cover_of_tiledL _ S1024x1024.size (by sl_kernel_rfl))).trans ?_, fun e => (View.read_writes_of_cover _ _ VO0_22 VO0_22.junk _ (View.cover_of_tiledL _ S512x1024.size (by sl_kernel_rfl))).trans ?_, fun e => (View.read_writes_of_cover _ _ VO0_23 VO0_23.junk _ (View.cover_of_tiledL _ S512x1024.size (by sl_kernel_rfl))).trans ?_, fun e => (View.read_writes_of_cover _ _ VO0_24 VO0_24.junk _ (View.cover_of_tiledL _ S1x1024.size (by sl_kernel_rfl))).trans ?_, fun e => (View.read_writes_of_cover _ _ VO0_25 VO0_25.junk _ (View.cover_of_tiledL _ S1x1024.size (by sl_kernel_rfl))).trans ?_, fun e => (View.read_writes_of_cover _ _ VO0_26 VO0_26.junk _ (View.cover_of_tiledL _ S1x512.size (by sl_kernel_rfl))).trans ?_, fun e => (View.read_writes_of_cover _ _ VO0_27 VO0_27.junk _ (View.cover_of_tiledL _ S1x1.size (by sl_kernel_rfl))).trans ?_, fun e => (View.read_writes_of_cover _ _ VS0_0 VS0_0.junk _ (View.cover_of_tiledL _ S1024x1024.size (by sl_kernel_rfl))).trans ?_, fun e => (View.read_writes_of_cover _ _ VS0_1 VS0_1.junk _ (View.cover_of_tiledL _ S512x1024.size (by sl_kernel_rfl))).trans ?_, fun e => (View.read_writes_of_cover _ _ VS0_2 VS0_2.junk _ (View.cover_of_tiledL _ S512x1024.size (by sl_kernel_rfl))).trans ?_⟩
  all_goals
    unfold RC
    frame_open
    simp (disch := decide) only [↓ View.readCov_skip, ↓ View.readCov_cons_toLoadRect, ↓ View.readCov_fill]
    frame_out
    try simp only [read_unread_whole]
    rfl

set_option maxHeartbeats 4000000 in
include h0 h1 in
/-- The body's run at the point, with the pieces that it stores named and what each buffer then reads as. -/
theorem pointC {A : Acc F} (hA : A = X.step a) : ∃ (L16 : List (View.Piece (Elt F) S256x1024 .f32)) (L17 : List (View.Piece (Elt F) S256x1024 .bf16)) (L18 : List (View.Piece (Elt F) S256x2560 .bf16)) (L19 : List (View.Piece (Elt F) S256x512 .bf16)) (L20 : List (View.Piece (Elt F) S256x512 .bf16)) (L21 : List (View.Piece (Elt F) S1024x1024 .bf16)) (L22 : List (View.Piece (Elt F) S512x1024 .bf16)) (L23 : List (View.Piece (Elt F) S512x1024 .bf16)) (L24 : List (View.Piece (Elt F) S1x1024 .f32)) (L25 : List (View.Piece (Elt F) S1x1024 .f32)) (L26 : List (View.Piece (Elt F) S1x512 .f32)) (L27 : List (View.Piece (Elt F) S1x1 .f32)) (LS0 : List (View.Piece (Elt F) S1024x1024 .f32)) (LS1 : List (View.Piece (Elt F) S512x1024 .f32)) (LS2 : List (View.Piece (Elt F) S512x1024 .f32)),
    ((∀ e, (ms0_16 t).view.read (Elt F) ((ms0_16 t).view.writes (Elt F) e L16) = X.dx)
      ∧ (∀ e, (ms0_17 t).view.read (Elt F) ((ms0_17 t).view.writes (Elt F) e L17) = X.pB)
      ∧ (∀ e, (ms0_18 t).view.read (Elt F) ((ms0_18 t).view.writes (Elt F) e L18) = X.pG)
      ∧ (∀ e, (ms0_19 t).view.read (Elt F) ((ms0_19 t).view.writes (Elt F) e L19) = X.dsv)
      ∧ (∀ e, (ms0_20 t).view.read (Elt F) ((ms0_20 t).view.writes (Elt F) e L20) = X.dO)
      ∧ (∀ e, (ms0_21 t).view.read (Elt F) ((ms0_21 t).view.writes (Elt F) e L21) = k0_pay1 A.wout)
      ∧ (∀ e, (ms0_22 t).view.read (Elt F) ((ms0_22 t).view.writes (Elt F) e L22) = k0_pay2 A.wpa)
      ∧ (∀ e, (ms0_23 t).view.read (Elt F) ((ms0_23 t).view.writes (Elt F) e L23) = k0_pay3 A.wpb)
      ∧ (∀ e, (ms0_24 t).view.read (Elt F) ((ms0_24 t).view.writes (Elt F) e L24) = A.gf)
      ∧ (∀ e, (ms0_25 t).view.read (Elt F) ((ms0_25 t).view.writes (Elt F) e L25) = A.gate)
      ∧ (∀ e, (ms0_26 t).view.read (Elt F) ((ms0_26 t).view.writes (Elt F) e L26) = A.gbn)
      ∧ (∀ e, (ms0_27 t).view.read (Elt F) ((ms0_27 t).view.writes (Elt F) e L27) = A.loss)
      ∧ (∀ e, scM0_0.view.read (Elt F) (scM0_0.view.writes (Elt F) e LS0) = A.wout)
      ∧ (∀ e, scM0_1.view.read (Elt F) (scM0_1.view.writes (Elt F) e LS1) = A.wpa)
      ∧ (∀ e, scM0_2.view.read (Elt F) (scM0_2.view.writes (Elt F) e LS2) = A.wpb))
    ∧ ∀ (E : Set ℕ) (K : PUnit → sProp 𝕄),
      iprop(owns (c : Thread nD τ) (ms0_0 t) fullShare X.x0 ∗ owns (c : Thread nD τ) (ms0_1 t) fullShare X.x1 ∗ owns (c : Thread nD τ) (ms0_2 t) fullShare X.x2 ∗ owns (c : Thread nD τ) (ms0_3 t) fullShare X.x3 ∗ owns (c : Thread nD τ) (ms0_4 t) fullShare X.x4 ∗ owns (c : Thread nD τ) (ms0_5 t) fullShare X.x5 ∗ owns (c : Thread nD τ) (ms0_6 t) fullShare X.x6 ∗ owns (c : Thread nD τ) (ms0_7 t) fullShare X.x7 ∗ owns (c : Thread nD τ) (ms0_8 t) fullShare X.x8 ∗ owns (c : Thread nD τ) (ms0_9 t) fullShare X.x9 ∗ owns (c : Thread nD τ) (ms0_10 t) fullShare X.x10 ∗ owns (c : Thread nD τ) (ms0_11 t) fullShare X.x11 ∗ owns (c : Thread nD τ) (ms0_12 t) fullShare X.x12 ∗ owns (c : Thread nD τ) (ms0_13 t) fullShare X.x13 ∗ owns (c : Thread nD τ) (ms0_14 t) fullShare X.x14 ∗ owns (c : Thread nD τ) (ms0_15 t) fullShare X.x15 ∗ (∃ d, owns (c : Thread nD τ) (ms0_16 t) fullShare d) ∗ (∃ d, owns (c : Thread nD τ) (ms0_17 t) fullShare d) ∗ (∃ d, owns (c : Thread nD τ) (ms0_18 t) fullShare d) ∗ (∃ d, owns (c : Thread nD τ) (ms0_19 t) fullShare d) ∗ (∃ d, owns (c : Thread nD τ) (ms0_20 t) fullShare d) ∗ (∃ d, owns (c : Thread nD τ) (ms0_21 t) fullShare d) ∗ (∃ d, owns (c : Thread nD τ) (ms0_22 t) fullShare d) ∗ (∃ d, owns (c : Thread nD τ) (ms0_23 t) fullShare d) ∗ owns (c : Thread nD τ) (ms0_24 t) fullShare a.gf ∗ owns (c : Thread nD τ) (ms0_25 t) fullShare a.gate ∗ owns (c : Thread nD τ) (ms0_26 t) fullShare a.gbn ∗ owns (c : Thread nD τ) (ms0_27 t) fullShare a.loss ∗ owns (c : Thread nD τ) scM0_0 fullShare a.wout ∗ owns (c : Thread nD τ) scM0_1 fullShare a.wpa ∗ owns (c : Thread nD τ) scM0_2 fullShare a.wpb
        ∗ (iprop(owns (c : Thread nD τ) (ms0_0 t) fullShare X.x0 ∗ owns (c : Thread nD τ) (ms0_1 t) fullShare X.x1 ∗ owns (c : Thread nD τ) (ms0_2 t) fullShare X.x2 ∗ owns (c : Thread nD τ) (ms0_3 t) fullShare X.x3 ∗ owns (c : Thread nD τ) (ms0_4 t) fullShare X.x4 ∗ owns (c : Thread nD τ) (ms0_5 t) fullShare X.x5 ∗ owns (c : Thread nD τ) (ms0_6 t) fullShare X.x6 ∗ owns (c : Thread nD τ) (ms0_7 t) fullShare X.x7 ∗ owns (c : Thread nD τ) (ms0_8 t) fullShare X.x8 ∗ owns (c : Thread nD τ) (ms0_9 t) fullShare X.x9 ∗ owns (c : Thread nD τ) (ms0_10 t) fullShare X.x10 ∗ owns (c : Thread nD τ) (ms0_11 t) fullShare X.x11 ∗ owns (c : Thread nD τ) (ms0_12 t) fullShare X.x12 ∗ owns (c : Thread nD τ) (ms0_13 t) fullShare X.x13 ∗ owns (c : Thread nD τ) (ms0_14 t) fullShare X.x14 ∗ owns (c : Thread nD τ) (ms0_15 t) fullShare X.x15 ∗ (∃ f, (ms0_16 t).view.loc (c : Thread nD τ) ↦[(ms0_16 t).view.set]{fullShare} (ms0_16 t).view.writes (Elt F) f L16) ∗ (∃ f, (ms0_17 t).view.loc (c : Thread nD τ) ↦[(ms0_17 t).view.set]{fullShare} (ms0_17 t).view.writes (Elt F) f L17) ∗ (∃ f, (ms0_18 t).view.loc (c : Thread nD τ) ↦[(ms0_18 t).view.set]{fullShare} (ms0_18 t).view.writes (Elt F) f L18) ∗ (∃ f, (ms0_19 t).view.loc (c : Thread nD τ) ↦[(ms0_19 t).view.set]{fullShare} (ms0_19 t).view.writes (Elt F) f L19) ∗ (∃ f, (ms0_20 t).view.loc (c : Thread nD τ) ↦[(ms0_20 t).view.set]{fullShare} (ms0_20 t).view.writes (Elt F) f L20) ∗ (∃ f, (ms0_21 t).view.loc (c : Thread nD τ) ↦[(ms0_21 t).view.set]{fullShare} (ms0_21 t).view.writes (Elt F) f L21) ∗ (∃ f, (ms0_22 t).view.loc (c : Thread nD τ) ↦[(ms0_22 t).view.set]{fullShare} (ms0_22 t).view.writes (Elt F) f L22) ∗ (∃ f, (ms0_23 t).view.loc (c : Thread nD τ) ↦[(ms0_23 t).view.set]{fullShare} (ms0_23 t).view.writes (Elt F) f L23) ∗ (∃ f, (ms0_24 t).view.loc (c : Thread nD τ) ↦[(ms0_24 t).view.set]{fullShare} (ms0_24 t).view.writes (Elt F) f L24) ∗ (∃ f, (ms0_25 t).view.loc (c : Thread nD τ) ↦[(ms0_25 t).view.set]{fullShare} (ms0_25 t).view.writes (Elt F) f L25) ∗ (∃ f, (ms0_26 t).view.loc (c : Thread nD τ) ↦[(ms0_26 t).view.set]{fullShare} (ms0_26 t).view.writes (Elt F) f L26) ∗ (∃ f, (ms0_27 t).view.loc (c : Thread nD τ) ↦[(ms0_27 t).view.set]{fullShare} (ms0_27 t).view.writes (Elt F) f L27) ∗ (∃ f, scM0_0.view.loc (c : Thread nD τ) ↦[scM0_0.view.set]{fullShare} scM0_0.view.writes (Elt F) f LS0) ∗ (∃ f, scM0_1.view.loc (c : Thread nD τ) ↦[scM0_1.view.set]{fullShare} scM0_1.view.writes (Elt F) f LS1) ∗ (∃ f, scM0_2.view.loc (c : Thread nD τ) ↦[scM0_2.view.set]{fullShare} scM0_2.view.writes (Elt F) f LS2)) -∗ K ⟨⟩))
      ⊢ wp frame (wpE (defs₀ (F := F)) Variants.none c none) E (bodyAt0 t) K := by
  subst hA
  exact ⟨_, _, _, _, _, _, _, _, _, _, _, _, _, _, _, outsC c t h0 h1 X a, (RC c t h0 h1 X a).2.2.2.2.2.2.2.2.2.2.2.2.2.2.2⟩

end Cert.Proof.Points

end
-- ==== Proof.Body.lean ====
/-
  The kernel's body at any grid point, over any float values. What each output's block and each carried scratch hold at
  each point is stated outright: the tile's gradients of the loaded blocks, and the sums over the tiles so far. The
  body's runs at the first point, at the last and between keep it.
-/
module

public import proofs.«01_k».proof.Proof.PtA
public import proofs.«01_k».proof.Proof.PtB
public import proofs.«01_k».proof.Proof.PtC
public import Idealize.ShloMosaic.Lib.Claim

@[expose] public section

set_option maxRecDepth 16384

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof.Stage Cert.Proof.Points

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks that the body loads at point `t`. -/
def ins (c : Dev nD) (t : Fin cfg0.N) : Ins F :=
  ⟨iblk m c 0 t, iblk m c 1 t, X0_2 m c t, X0_3 m c t, X0_4 m c t, X0_5 m c t, X0_6 m c t, iblk m c 7 t, iblk m c 8 t, iblk m c 9 t, iblk m c 10 t, iblk m c 11 t, iblk m c 12 t, iblk m c 13 t, iblk m c 14 t, iblk m c 15 t⟩

/-- The carried sums before point `n`. -/
def acc (c : Dev nD) : ℕ → Acc F
  | 0 => zero
  | n + 1 => if h : n < cfg0.N then (ins m c ⟨n, h⟩).step (acc c n) else acc c n

theorem acc_succ (c : Dev nD) (t : Fin cfg0.N) : acc m c (t.val + 1) = (ins m c t).step (acc m c t.val) := by
  rw [acc, dif_pos t.isLt]

theorem acc_zero (c : Dev nD) (n : ℕ) (h : n = 0) : acc m c n = zero := by subst h; rfl

/-- What the region's scoped rest holds before point `n`: anything at first, then the scratch at the carried sums. -/
def PhiS (c : Dev nD) : (n : ℕ) → n ≤ cfg0.N → sProp 𝕄
  | 0, _ => Pipeline.ΦA spec0 c
  | n + 1, _ => iprop(iprop(owns (c : Thread nD τ) scM0_0 fullShare (acc m c (n + 1)).wout ∗ owns (c : Thread nD τ) scM0_1 fullShare (acc m c (n + 1)).wpa ∗ owns (c : Thread nD τ) scM0_2 fullShare (acc m c (n + 1)).wpb) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (acc m c n).wout ∗ owns (c : Thread nD τ) scM0_1 fullShare (acc m c n).wpa ∗ owns (c : Thread nD τ) scM0_2 fullShare (acc m c n).wpb) ∗ (∃ r, prngReg c r)) := by
  cases n with
  | zero => exact absurd rfl hz
  | succ n => rfl

/-- The pipeline's proof data: the arrays as the region finds them, what the body leaves in each window's buffer at each
    point, and the carried scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (ins m c t).dx
    | ⟨17, _⟩ => (ins m c t).pB
    | ⟨18, _⟩ => (ins m c t).pG
    | ⟨19, _⟩ => (ins m c t).dsv
    | ⟨20, _⟩ => (ins m c t).dO
    | ⟨21, _⟩ => k0_pay1 (acc m c (t.val + 1)).wout
    | ⟨22, _⟩ => k0_pay2 (acc m c (t.val + 1)).wpa
    | ⟨23, _⟩ => k0_pay3 (acc m c (t.val + 1)).wpb
    | ⟨24, _⟩ => (acc m c (t.val + 1)).gf
    | ⟨25, _⟩ => (acc m c (t.val + 1)).gate
    | ⟨26, _⟩ => (acc m c (t.val + 1)).gbn
    | ⟨27, _⟩ => (acc m c (t.val + 1)).loss
    | ⟨_ + 28, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

section at_point

variable (c : Dev nD) (t : Fin cfg0.N)

/-! ### What the body leaves, window by window -/

theorem after0 : (dats m 0 c).after 0 t = iblk m c 0 t := by dsimp only [dats]
theorem after1 : (dats m 0 c).after 1 t = iblk m c 1 t := by dsimp only [dats]
theorem after2 : (dats m 0 c).after 2 t = X0_2 m c t := by dsimp only [dats]
theorem after3 : (dats m 0 c).after 3 t = X0_3 m c t := by dsimp only [dats]
theorem after4 : (dats m 0 c).after 4 t = X0_4 m c t := by dsimp only [dats]
theorem after5 : (dats m 0 c).after 5 t = X0_5 m c t := by dsimp only [dats]
theorem after6 : (dats m 0 c).after 6 t = X0_6 m c t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = iblk m c 12 t := by dsimp only [dats]
theorem after13 : (dats m 0 c).after 13 t = iblk m c 13 t := by dsimp only [dats]
theorem after14 : (dats m 0 c).after 14 t = iblk m c 14 t := by dsimp only [dats]
theorem after15 : (dats m 0 c).after 15 t = iblk m c 15 t := by dsimp only [dats]
theorem after16 : (dats m 0 c).after 16 t = (ins m c t).dx := by dsimp only [dats]
theorem after17 : (dats m 0 c).after 17 t = (ins m c t).pB := by dsimp only [dats]
theorem after18 : (dats m 0 c).after 18 t = (ins m c t).pG := by dsimp only [dats]
theorem after19 : (dats m 0 c).after 19 t = (ins m c t).dsv := by dsimp only [dats]
theorem after20 : (dats m 0 c).after 20 t = (ins m c t).dO := by dsimp only [dats]
theorem after21 : (dats m 0 c).after 21 t = k0_pay1 (acc m c (t.val + 1)).wout := by dsimp only [dats]
theorem after22 : (dats m 0 c).after 22 t = k0_pay2 (acc m c (t.val + 1)).wpa := by dsimp only [dats]
theorem after23 : (dats m 0 c).after 23 t = k0_pay3 (acc m c (t.val + 1)).wpb := by dsimp only [dats]
theorem after24 : (dats m 0 c).after 24 t = (acc m c (t.val + 1)).gf := by dsimp only [dats]
theorem after25 : (dats m 0 c).after 25 t = (acc m c (t.val + 1)).gate := by dsimp only [dats]
theorem after26 : (dats m 0 c).after 26 t = (acc m c (t.val + 1)).gbn := by dsimp only [dats]
theorem after27 : (dats m 0 c).after 27 t = (acc m c (t.val + 1)).loss := by dsimp only [dats]

/-! ### What the body finds: each input at its block, each running sum at what the point before left -/

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = X0_2 m c t := before0_2_of m (dats m 0 c) (A_eq m c 2) (after2 m c) t d
theorem before3 (d) : (dats m 0 c).before 3 t d = X0_3 m c t := before0_3_of m (dats m 0 c) (A_eq m c 3) (after3 m c) t d
theorem before4 (d) : (dats m 0 c).before 4 t d = X0_4 m c t := before0_4_of m (dats m 0 c) (A_eq m c 4) (after4 m c) t d
theorem before5 (d) : (dats m 0 c).before 5 t d = X0_5 m c t := before0_5_of m (dats m 0 c) (A_eq m c 5) (after5 m c) t d
theorem before6 (d) : (dats m 0 c).before 6 t d = X0_6 m c t := before0_6_of m (dats m 0 c) (A_eq m c 6) (after6 m c) t d
theorem before7 (d) : (dats m 0 c).before 7 t d = iblk m c 7 t := before0_7_of m (dats m 0 c) (A_eq m c 7) (after7 m c) t d
theorem before8 (d) : (dats m 0 c).before 8 t d = iblk m c 8 t := before0_8_of m (dats m 0 c) (A_eq m c 8) (after8 m c) t d
theorem before9 (d) : (dats m 0 c).before 9 t d = iblk m c 9 t := before0_9_of m (dats m 0 c) (A_eq m c 9) (after9 m c) t d
theorem before10 (d) : (dats m 0 c).before 10 t d = iblk m c 10 t := before0_10_of m (dats m 0 c) (A_eq m c 10) (after10 m c) t d
theorem before11 (d) : (dats m 0 c).before 11 t d = iblk m c 11 t := before0_11_of m (dats m 0 c) (A_eq m c 11) (after11 m c) t d
theorem before12 (d) : (dats m 0 c).before 12 t d = iblk m c 12 t := before0_12_of m (dats m 0 c) (A_eq m c 12) (after12 m c) t d
theorem before13 (d) : (dats m 0 c).before 13 t d = iblk m c 13 t := before0_13_of m (dats m 0 c) (A_eq m c 13) (after13 m c) t d
theorem before14 (d) : (dats m 0 c).before 14 t d = iblk m c 14 t := before0_14_of m (dats m 0 c) (A_eq m c 14) (after14 m c) t d
theorem before15 (d) : (dats m 0 c).before 15 t d = iblk m c 15 t := before0_15_of m (dats m 0 c) (A_eq m c 15) (after15 m c) t d
theorem before24 (hz : t.val ≠ 0) (d) : (dats m 0 c).before 24 t d = (acc m c t.val).gf := by
  have hN : t.val < 32 := lt_of_lt_of_eq t.isLt (show cfg0.N = 32 from N_0)
  rw [Dat.before_out_kept _ 24 rfl t hz (Bool.eq_false_iff.mpr fun h => by have := (flush0_24 _).mp h; dsimp only at this; omega)
    (fun _ => rfl) (fun _ _ => rfl), after24]
  dsimp only; rw [Nat.sub_add_cancel (Nat.pos_of_ne_zero hz)]
theorem before25 (hz : t.val ≠ 0) (d) : (dats m 0 c).before 25 t d = (acc m c t.val).gate := by
  have hN : t.val < 32 := lt_of_lt_of_eq t.isLt (show cfg0.N = 32 from N_0)
  rw [Dat.before_out_kept _ 25 rfl t hz (Bool.eq_false_iff.mpr fun h => by have := (flush0_25 _).mp h; dsimp only at this; omega)
    (fun _ => rfl) (fun _ _ => rfl), after25]
  dsimp only; rw [Nat.sub_add_cancel (Nat.pos_of_ne_zero hz)]
theorem before26 (hz : t.val ≠ 0) (d) : (dats m 0 c).before 26 t d = (acc m c t.val).gbn := by
  have hN : t.val < 32 := lt_of_lt_of_eq t.isLt (show cfg0.N = 32 from N_0)
  rw [Dat.before_out_kept _ 26 rfl t hz (Bool.eq_false_iff.mpr fun h => by have := (flush0_26 _).mp h; dsimp only at this; omega)
    (fun _ => rfl) (fun _ _ => rfl), after26]
  dsimp only; rw [Nat.sub_add_cancel (Nat.pos_of_ne_zero hz)]
theorem before27 (hz : t.val ≠ 0) (d) : (dats m 0 c).before 27 t d = (acc m c t.val).loss := by
  have hN : t.val < 32 := lt_of_lt_of_eq t.isLt (show cfg0.N = 32 from N_0)
  rw [Dat.before_out_kept _ 27 rfl t hz (Bool.eq_false_iff.mpr fun h => by have := (flush0_27 _).mp h; dsimp only at this; omega)
    (fun _ => rfl) (fun _ _ => rfl), after27]
  dsimp only; rw [Nat.sub_add_cancel (Nat.pos_of_ne_zero hz)]

/-- A window that the body stores into at the point is left at what the proof data says. -/
theorem leaves_live (w : Fin cfg0.W) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-! ### The body's triple -/

/-- What the body is called with. -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- What it returns. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t)

set_option maxHeartbeats 4000000 in
/-- The body at the first point. -/
theorem soundA (h0 : cond0_0 (grid0.coords t)) (h1 : ¬ cond0_1 (grid0.coords t)) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hz : t.val = 0 := by have := (hcond0_0 t).mp h0; omega
  have hacc : acc m c (t.val + 1) = (ins m c t).step zero := by rw [acc_succ, acc_zero m c _ hz]
  obtain ⟨L16, L17, L18, L19, L20, L24, L25, L26, L27, LS0, LS1, LS2, ⟨q16, q17, q18, q19, q20, q24, q25, q26, q27, s0, s1, s2⟩, run⟩ := pointA c t h0 h1 (ins m c t) hacc
  unfold bodyPre bodyPost
  simp only [before0, before1, before2, before3, before4, before5, before6, before7, before8, before9, before10, before11, before12, before13, before14, before15]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [PhiS_castSucc m c t, PhiS_zero m c _ _ hz, PhiA0_eq]
  rw [Dat.leavesExact_idle (dats m 0 c) 21 t (idleAt0_21_A t h0 h1) (noFlush0_21_A t h0 h1)]
  rw [Dat.leavesExact_idle (dats m 0 c) 22 t (idleAt0_22_A t h0 h1) (noFlush0_22_A t h0 h1)]
  rw [Dat.leavesExact_idle (dats m 0 c) 23 t (idleAt0_23_A t h0 h1) (noFlush0_23_A t h0 h1)]
  rw [leaves_live m c t 0 (liveAt0_0 t), after0, leaves_live m c t 1 (liveAt0_1 t), after1, leaves_live m c t 2 (liveAt0_2 t), after2, leaves_live m c t 3 (liveAt0_3 t), after3, leaves_live m c t 4 (liveAt0_4 t), after4, leaves_live m c t 5 (liveAt0_5 t), after5, leaves_live m c t 6 (liveAt0_6 t), after6, leaves_live m c t 7 (liveAt0_7 t), after7, leaves_live m c t 8 (liveAt0_8 t), after8, leaves_live m c t 9 (liveAt0_9 t), after9, leaves_live m c t 10 (liveAt0_10 t), after10, leaves_live m c t 11 (liveAt0_11 t), after11, leaves_live m c t 12 (liveAt0_12 t), after12, leaves_live m c t 13 (liveAt0_13 t), after13, leaves_live m c t 14 (liveAt0_14 t), after14, leaves_live m c t 15 (liveAt0_15 t), after15, leaves_live m c t 16 (liveAt0_16 t), after16, leaves_live m c t 17 (liveAt0_17 t), after17, leaves_live m c t 18 (liveAt0_18 t), after18, leaves_live m c t 19 (liveAt0_19 t), after19, leaves_live m c t 20 (liveAt0_20 t), after20, leaves_live m c t 24 (liveAt0_24 t), after24, leaves_live m c t 25 (liveAt0_25 t), after25, leaves_live m c t 26 (liveAt0_26 t), after26, leaves_live m c t 27 (liveAt0_27 t), after27]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, H21, H22, H23, ⟨%e24, H24⟩, ⟨%e25, H25⟩, ⟨%e26, H26⟩, ⟨%e27, H27⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact s0 _
      isplitl [HS1]
      · unfold owns; iexists _; isplitr
        swap; · iexact HS1
        ipureintro; exact s1 _
      unfold owns; iexists _; isplitr
      swap; · iexact HS2
      ipureintro; exact s2 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact q16 _
  isplitl [H17]
  · unfold owns; iexists _; isplitr
    swap; · iexact H17
    ipureintro; exact q17 _
  isplitl [H18]
  · unfold owns; iexists _; isplitr
    swap; · iexact H18
    ipureintro; exact q18 _
  isplitl [H19]
  · unfold owns; iexists _; isplitr
    swap; · iexact H19
    ipureintro; exact q19 _
  isplitl [H20]
  · unfold owns; iexists _; isplitr
    swap; · iexact H20
    ipureintro; exact q20 _
  isplitl [H21]; · iexists _; iexact H21
  isplitl [H22]; · iexists _; iexact H22
  isplitl [H23]; · iexists _; iexact H23
  isplitl [H24]
  · unfold owns; iexists _; isplitr
    swap; · iexact H24
    ipureintro; exact q24 _
  isplitl [H25]
  · unfold owns; iexists _; isplitr
    swap; · iexact H25
    ipureintro; exact q25 _
  isplitl [H26]
  · unfold owns; iexists _; isplitr
    swap; · iexact H26
    ipureintro; exact q26 _
  unfold owns; iexists _; isplitr
  swap; · iexact H27
  ipureintro; exact q27 _

set_option maxHeartbeats 4000000 in
/-- The body at a point between the first and the last. -/
theorem soundB (h0 : ¬ cond0_0 (grid0.coords t)) (h1 : ¬ cond0_1 (grid0.coords t)) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hz : t.val ≠ 0 := fun hz => h0 ((hcond0_0 t).mpr (by omega))
  have hacc : acc m c (t.val + 1) = (ins m c t).step (acc m c t.val) := acc_succ m c t
  obtain ⟨L16, L17, L18, L19, L20, L24, L25, L26, L27, LS0, LS1, LS2, ⟨q16, q17, q18, q19, q20, q24, q25, q26, q27, s0, s1, s2⟩, run⟩ := pointB c t h0 h1 (ins m c t) (acc m c t.val) hacc
  unfold bodyPre bodyPost
  simp only [before0, before1, before2, before3, before4, before5, before6, before7, before8, before9, before10, before11, before12, before13, before14, before15, before24 m c t hz, before25 m c t hz, before26 m c t hz, before27 m c t hz]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [PhiS_castSucc m c t, PhiS_pos m c _ _ hz]
  rw [Dat.leavesExact_idle (dats m 0 c) 21 t (idleAt0_21_B t h0 h1) (noFlush0_21_B t h0 h1)]
  rw [Dat.leavesExact_idle (dats m 0 c) 22 t (idleAt0_22_B t h0 h1) (noFlush0_22_B t h0 h1)]
  rw [Dat.leavesExact_idle (dats m 0 c) 23 t (idleAt0_23_B t h0 h1) (noFlush0_23_B t h0 h1)]
  rw [leaves_live m c t 0 (liveAt0_0 t), after0, leaves_live m c t 1 (liveAt0_1 t), after1, leaves_live m c t 2 (liveAt0_2 t), after2, leaves_live m c t 3 (liveAt0_3 t), after3, leaves_live m c t 4 (liveAt0_4 t), after4, leaves_live m c t 5 (liveAt0_5 t), after5, leaves_live m c t 6 (liveAt0_6 t), after6, leaves_live m c t 7 (liveAt0_7 t), after7, leaves_live m c t 8 (liveAt0_8 t), after8, leaves_live m c t 9 (liveAt0_9 t), after9, leaves_live m c t 10 (liveAt0_10 t), after10, leaves_live m c t 11 (liveAt0_11 t), after11, leaves_live m c t 12 (liveAt0_12 t), after12, leaves_live m c t 13 (liveAt0_13 t), after13, leaves_live m c t 14 (liveAt0_14 t), after14, leaves_live m c t 15 (liveAt0_15 t), after15, leaves_live m c t 16 (liveAt0_16 t), after16, leaves_live m c t 17 (liveAt0_17 t), after17, leaves_live m c t 18 (liveAt0_18 t), after18, leaves_live m c t 19 (liveAt0_19 t), after19, leaves_live m c t 20 (liveAt0_20 t), after20, leaves_live m c t 24 (liveAt0_24 t), after24, leaves_live m c t 25 (liveAt0_25 t), after25, leaves_live m c t 26 (liveAt0_26 t), after26, leaves_live m c t 27 (liveAt0_27 t), after27]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, H21, H22, H23, ⟨%e24, H24⟩, ⟨%e25, H25⟩, ⟨%e26, H26⟩, ⟨%e27, H27⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact s0 _
      isplitl [HS1]
      · unfold owns; iexists _; isplitr
        swap; · iexact HS1
        ipureintro; exact s1 _
      unfold owns; iexists _; isplitr
      swap; · iexact HS2
      ipureintro; exact s2 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact q16 _
  isplitl [H17]
  · unfold owns; iexists _; isplitr
    swap; · iexact H17
    ipureintro; exact q17 _
  isplitl [H18]
  · unfold owns; iexists _; isplitr
    swap; · iexact H18
    ipureintro; exact q18 _
  isplitl [H19]
  · unfold owns; iexists _; isplitr
    swap; · iexact H19
    ipureintro; exact q19 _
  isplitl [H20]
  · unfold owns; iexists _; isplitr
    swap; · iexact H20
    ipureintro; exact q20 _
  isplitl [H21]; · iexists _; iexact H21
  isplitl [H22]; · iexists _; iexact H22
  isplitl [H23]; · iexists _; iexact H23
  isplitl [H24]
  · unfold owns; iexists _; isplitr
    swap; · iexact H24
    ipureintro; exact q24 _
  isplitl [H25]
  · unfold owns; iexists _; isplitr
    swap; · iexact H25
    ipureintro; exact q25 _
  isplitl [H26]
  · unfold owns; iexists _; isplitr
    swap; · iexact H26
    ipureintro; exact q26 _
  unfold owns; iexists _; isplitr
  swap; · iexact H27
  ipureintro; exact q27 _

set_option maxHeartbeats 4000000 in
/-- The body at the last point. -/
theorem soundC (h0 : ¬ cond0_0 (grid0.coords t)) (h1 : cond0_1 (grid0.coords t)) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hz : t.val ≠ 0 := fun hz => h0 ((hcond0_0 t).mpr (by omega))
  have hacc : acc m c (t.val + 1) = (ins m c t).step (acc m c t.val) := acc_succ m c t
  obtain ⟨L16, L17, L18, L19, L20, L21, L22, L23, L24, L25, L26, L27, LS0, LS1, LS2, ⟨q16, q17, q18, q19, q20, q21, q22, q23, q24, q25, q26, q27, s0, s1, s2⟩, run⟩ := pointC c t h0 h1 (ins m c t) (acc m c t.val) hacc
  unfold bodyPre bodyPost
  simp only [before0, before1, before2, before3, before4, before5, before6, before7, before8, before9, before10, before11, before12, before13, before14, before15, before24 m c t hz, before25 m c t hz, before26 m c t hz, before27 m c t hz]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [PhiS_castSucc m c t, PhiS_pos m c _ _ hz]
  rw [leaves_live m c t 0 (liveAt0_0 t), after0, leaves_live m c t 1 (liveAt0_1 t), after1, leaves_live m c t 2 (liveAt0_2 t), after2, leaves_live m c t 3 (liveAt0_3 t), after3, leaves_live m c t 4 (liveAt0_4 t), after4, leaves_live m c t 5 (liveAt0_5 t), after5, leaves_live m c t 6 (liveAt0_6 t), after6, leaves_live m c t 7 (liveAt0_7 t), after7, leaves_live m c t 8 (liveAt0_8 t), after8, leaves_live m c t 9 (liveAt0_9 t), after9, leaves_live m c t 10 (liveAt0_10 t), after10, leaves_live m c t 11 (liveAt0_11 t), after11, leaves_live m c t 12 (liveAt0_12 t), after12, leaves_live m c t 13 (liveAt0_13 t), after13, leaves_live m c t 14 (liveAt0_14 t), after14, leaves_live m c t 15 (liveAt0_15 t), after15, leaves_live m c t 16 (liveAt0_16 t), after16, leaves_live m c t 17 (liveAt0_17 t), after17, leaves_live m c t 18 (liveAt0_18 t), after18, leaves_live m c t 19 (liveAt0_19 t), after19, leaves_live m c t 20 (liveAt0_20 t), after20, leaves_live m c t 21 (liveAt0_21_C t h0 h1), after21, leaves_live m c t 22 (liveAt0_22_C t h0 h1), after22, leaves_live m c t 23 (liveAt0_23_C t h0 h1), after23, leaves_live m c t 24 (liveAt0_24 t), after24, leaves_live m c t 25 (liveAt0_25 t), after25, leaves_live m c t 26 (liveAt0_26 t), after26, leaves_live m c t 27 (liveAt0_27 t), after27]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexact H24
  isplitl [H25]; · iexact H25
  isplitl [H26]; · iexact H26
  isplitl [H27]; · iexact H27
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact s0 _
      isplitl [HS1]
      · unfold owns; iexists _; isplitr
        swap; · iexact HS1
        ipureintro; exact s1 _
      unfold owns; iexists _; isplitr
      swap; · iexact HS2
      ipureintro; exact s2 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact q16 _
  isplitl [H17]
  · unfold owns; iexists _; isplitr
    swap; · iexact H17
    ipureintro; exact q17 _
  isplitl [H18]
  · unfold owns; iexists _; isplitr
    swap; · iexact H18
    ipureintro; exact q18 _
  isplitl [H19]
  · unfold owns; iexists _; isplitr
    swap; · iexact H19
    ipureintro; exact q19 _
  isplitl [H20]
  · unfold owns; iexists _; isplitr
    swap; · iexact H20
    ipureintro; exact q20 _
  isplitl [H21]
  · unfold owns; iexists _; isplitr
    swap; · iexact H21
    ipureintro; exact q21 _
  isplitl [H22]
  · unfold owns; iexists _; isplitr
    swap; · iexact H22
    ipureintro; exact q22 _
  isplitl [H23]
  · unfold owns; iexists _; isplitr
    swap; · iexact H23
    ipureintro; exact q23 _
  isplitl [H24]
  · unfold owns; iexists _; isplitr
    swap; · iexact H24
    ipureintro; exact q24 _
  isplitl [H25]
  · unfold owns; iexists _; isplitr
    swap; · iexact H25
    ipureintro; exact q25 _
  isplitl [H26]
  · unfold owns; iexists _; isplitr
    swap; · iexact H26
    ipureintro; exact q26 _
  unfold owns; iexists _; isplitr
  swap; · iexact H27
  ipureintro; exact q27 _

/-- The body at any point. -/
theorem sound_body :
    bodyPre m c t ⊢ wp frame (wpE (defs₀ (F := F)) Variants.none c none) Set.univ (bodyAt0 t) (fun _ => bodyPost m c t) := by
  by_cases h0 : cond0_0 (grid0.coords t)
  · exact soundA m c t h0 fun h1 => by
      have := (hcond0_0 t).mp h0; have := (hcond0_1 t).mp h1; omega
  · by_cases h1 : cond0_1 (grid0.coords t)
    · exact soundC m c t h0 h1
    · exact soundB m c t h0 h1

end at_point

end Cert.Proof.Run

end
-- ==== Proof.Run.lean ====
/-
  The run of the whole kernel, over any float values: from what the body keeps at every grid point follow the pipeline's
  run, that the arguments are unchanged and that every counter ends at zero.
-/
module

public import proofs.«01_k».proof.Proof.Body

@[expose] public section

set_option maxRecDepth 16384

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof.Stage Cert.Proof.Points

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 32 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

-- the library theorem's implicit arguments are found by unfolding plain definitions in a metavariable's type
set_option backward.isDefEq.respectTransparency.types false in
/-- The whole run: every array of the pipeline ends at what the proof data says, and every counter at zero. -/
theorem run_main_quiescent :
    θ_run defs (onTc (τ := τ) (main (F := F))) (s₀ m ρ)
      (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments are unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ))
    ((θ_run defs _ _).mono (fun _ h => h.2) (run_main_quiescent m ρ))

end Cert.Proof.Run

end
-- ==== Proof.Tile.lean ====
/-
  One tile of 256 rows in the kernel's body: each value that the body computes, read at a row and a column, is the
  real function of that row that Spec.lean names. The tile's blocks are variables here, given by what they hold.
-/
module

public import proofs.«01_k».proof.Proof.Reals
public import proofs.«01_k».proof.Proof.Gen.KernelIdeal.Skeleton
public import Idealize.ShloMosaic.Lib.Pointwise

@[expose] public section

noncomputable section

namespace Cert.Proof.Tile

open Idealize.ShloMosaic Cert.KernelIdeal Cert.KernelIdeal.Gen Cert.Proof.Spec Cert.Proof.Reals

set_option maxRecDepth 16384

variable [Cert.KernelIdeal.Facts]

/-- The matrix holds these reals. -/
abbrev Is {n m : ℕ} (v : (⟨2, ![n, m]⟩ : Shape).Idx → EReal) (f : Fin n → Fin m → ℝ) : Prop :=
  ∀ (i : Fin n) (j : Fin m), v (ix2 i j) = ((f i j : ℝ) : EReal)

variable {P : Par} {R : Fin 256 → Row}

/-- Four pieces of 128 columns, one a head, read at a column: the piece of the column's head. -/
theorem ladder (j : Fin 512) (f : Fin 4 → EReal) :
    (if _h : j.val < 128 then f 0 else if _h : j.val - 128 < 128 then f 1
      else if _h : j.val - 128 - 128 < 128 then f 2 else f 3) = f (head j) := by
  have hj : j.val < 512 := j.isLt
  by_cases c0 : j.val < 128
  · rw [dif_pos c0, show head j = 0 from Fin.ext (by show j.val / 128 = 0; omega)]
  · rw [dif_neg c0]
    by_cases c1 : j.val - 128 < 128
    · rw [dif_pos c1, show head j = 1 from Fin.ext (by show j.val / 128 = 1; omega)]
    · rw [dif_neg c1]
      by_cases c2 : j.val - 128 - 128 < 128
      · rw [dif_pos c2, show head j = 2 from Fin.ext (by show j.val / 128 = 2; omega)]
      · rw [dif_neg c2, show head j = 3 from Fin.ext (by show j.val / 128 = 3; omega)]

section activations

variable {x : Vec Ideal S256x512 .bf16} {y : Vec Ideal S256x1024 .bf16} {f : Fin 256 → Fin 512 → ℝ} {g : Fin 256 → Fin 1024 → ℝ}

theorem pay20 (h : Is x f) : Is (k0_pay20 (F := Ideal) x) (fun i j => sg (f i j)) := by
  intro i j
  pointwise [k0_pay20, k0_pay19]
  rw [h i j, sg_sub]

theorem pay21 (h : Is x f) : Is (k0_pay21 (F := Ideal) x) (fun i j => silu (f i j)) := by
  intro i j
  pointwise [k0_pay21, k0_pay19]
  rw [pay20 h i j, h i j, ← EReal.coe_mul]; rfl

theorem pay22 (h : Is x f) : Is (k0_pay22 (F := Ideal) x) (fun i j => dsilu (f i j)) := by
  intro i j
  pointwise [k0_pay22, k0_pay19]
  rw [pay20 h i j, h i j, ← EReal.coe_one]
  simp only [← EReal.coe_mul, ← EReal.coe_add, ← EReal.coe_sub]; rfl

theorem pay24 (h : Is x f) : Is (k0_pay24 (F := Ideal) x) f := h

theorem pay25 (h : Is x f) : Is (k0_pay25 (F := Ideal) x) f := h

theorem pay26 (h : Is x f) : Is (k0_pay26 (F := Ideal) x) f := h

theorem pay28 {c : Ideal .f32} (hc : c = (1 : EReal)) (h : Is x f) :
    Is (k0_pay28 (F := Ideal) (k0_pay27 x) c) (fun i j => sg (f i j)) := by
  intro i j
  pointwise [k0_pay28, k0_pay27, k0_pay26]
  rw [hc, h i j, sg_sub]

theorem pay29 {c : Ideal .f32} (hc : c = (1 : EReal)) (h : Is x f) :
    Is (k0_pay29 (F := Ideal) (k0_pay26 x) (k0_pay27 x) c) (fun i j => silu (f i j)) := by
  intro i j
  pointwise [k0_pay29, k0_pay26]
  rw [pay28 hc h i j, h i j, ← EReal.coe_mul]; rfl

theorem pay30 {c : Ideal .f32} (hc : c = (1 : EReal)) (h : Is x f) :
    Is (k0_pay30 (F := Ideal) (k0_pay26 x) (k0_pay27 x) c) (fun i j => dsilu (f i j)) := by
  intro i j
  pointwise [k0_pay30, k0_pay26]
  rw [pay28 hc h i j, h i j, ← EReal.coe_one]
  simp only [← EReal.coe_mul, ← EReal.coe_add, ← EReal.coe_sub]; rfl

theorem pay34 (h : Is y g) : Is (k0_pay34 (F := Ideal) y) (fun i j => sg (g i j)) := by
  intro i j
  pointwise [k0_pay34]
  rw [h i j, sg_sub]

theorem pay35 (h : Is y g) : Is (k0_pay35 (F := Ideal) y) (fun i j => sg (g i j)) := by
  intro i j
  pointwise [k0_pay35]
  rw [h i j, sg_sub]

end activations

section heads

variable {x7 x8 : Vec Ideal S256x512 .bf16} {x12 : Vec Ideal S1x512 .f32}

theorem pay11 (h7 : Is x7 fun i => (R i).oF) (h8 : Is x8 fun i => (R i).oB) :
    Is (k0_pay11 (F := Ideal) x7 x8) (fun i => (R i).o) := by
  intro i j
  pointwise [k0_pay11]
  rw [h7 i j, h8 i j, ← EReal.coe_add]; rfl

/-- The root of one head's mean square, from the squares of its columns. -/
theorem head_root (r : Row) (h : Fin 4) (f : Fin 128 → Fin 512) (hf : ∀ d, f d = col h d) :
    Ideal.rsqrt (Ideal.div (∑ d, ((r.o (f d) : ℝ) : EReal) * ((r.o (f d) : ℝ) : EReal)) (Ideal.ofBits .f32 0x43000000#32)
      + Ideal.ofBits .f32 0x358637BD#32) = ((r.rr h : ℝ) : EReal) := by
  obtain rfl : f = col h := funext hf
  simp only [← EReal.coe_mul]
  rw [coe_sum, lit_128, lit_eps, div_128]
  exact rs_real (ms_nonneg r h)

theorem pay12 (h7 : Is x7 fun i => (R i).oF) (h8 : Is x8 fun i => (R i).oB) :
    Is (k0_pay12 (F := Ideal) x7 x8) (fun i _ => (R i).rr 0) := by
  intro i j
  pointwise [k0_pay12]
  simp only [pay11 h7 h8 _ _]
  exact head_root (R i) 0 _ (fun d => Fin.ext (by simp [col]))

theorem pay13 (h7 : Is x7 fun i => (R i).oF) (h8 : Is x8 fun i => (R i).oB) :
    Is (k0_pay13 (F := Ideal) x7 x8) (fun i _ => (R i).rr 1) := by
  intro i j
  pointwise [k0_pay13]
  simp only [pay11 h7 h8 _ _]
  exact head_root (R i) 1 _ (fun d => Fin.ext (by simp [col]))

theorem pay14 (h7 : Is x7 fun i => (R i).oF) (h8 : Is x8 fun i => (R i).oB) :
    Is (k0_pay14 (F := Ideal) x7 x8) (fun i _ => (R i).rr 2) := by
  intro i j
  pointwise [k0_pay14]
  simp only [pay11 h7 h8 _ _]
  exact head_root (R i) 2 _ (fun d => Fin.ext (by simp [col]))

theorem pay16 (h7 : Is x7 fun i => (R i).oF) (h8 : Is x8 fun i => (R i).oB) :
    Is (k0_pay16 (F := Ideal) (k0_pay12 x7 x8) (k0_pay13 x7 x8) (k0_pay14 x7 x8) (k0_pay15 x7 x8))
      (fun i c => (R i).rr (head c)) := by
  intro i j
  pointwise [k0_pay16, k0_pay15]
  simp only [pay11 h7 h8 _ _, pay12 h7 h8 _ _, pay13 h7 h8 _ _, pay14 h7 h8 _ _]
  have h3 := head_root (R i) 3 (fun d : Fin 128 => ⟨384 + d.val, by omega⟩) (fun d => Fin.ext (by simp [col]))
  rw [h3]
  exact ladder j fun h => (((R i).rr h : ℝ) : EReal)

end heads

section normed

variable {v7 : Vec Ideal S256x512 .f32} {v18 v29 v40 v42 : Vec Ideal S256x128 .f32} {x12 : Vec Ideal S1x512 .f32}
  {x2 : Vec Ideal S256x512 .bf16}

theorem pay17 (h7 : Is v7 fun i => (R i).o)
    (hr : Is (k0_pay16 (F := Ideal) v18 v29 v40 v42) fun i c => (R i).rr (head c)) :
    Is (k0_pay17 (F := Ideal) v7 v18 v29 v40 v42) (fun i => (R i).oh) := by
  intro i j
  pointwise [k0_pay17]
  rw [h7 i j, hr i j, ← EReal.coe_mul]; rfl

theorem pay18 (h7 : Is v7 fun i => (R i).o)
    (hr : Is (k0_pay16 (F := Ideal) v18 v29 v40 v42) fun i c => (R i).rr (head c)) (h12 : Is x12 fun _ => P.gbn) :
    Is (k0_pay18 (F := Ideal) v7 v18 v29 v40 v42 x12) (fun i => (R i).on P) := by
  intro i j
  pointwise [k0_pay18]
  rw [pay17 h7 hr i j, h12 0 j, ← EReal.coe_mul]; rfl

theorem pay23 (h7 : Is v7 fun i => (R i).o)
    (hr : Is (k0_pay16 (F := Ideal) v18 v29 v40 v42) fun i c => (R i).rr (head c)) (h12 : Is x12 fun _ => P.gbn)
    (h2 : Is x2 fun i => (R i).zb) :
    Is (k0_pay23 (F := Ideal) v7 v18 v29 v40 v42 x12 x2) (fun i => (R i).tb P) := by
  intro i j
  pointwise [k0_pay23]
  rw [pay18 h7 hr h12 i j, pay21 h2 i j, ← EReal.coe_mul]; rfl

end normed

section mixed

variable {v73 v75 v77 v79 v82 : Vec Ideal S256x512 .f32} {c : Ideal .f32}
  {w96 w99 : Vec Ideal S512x1024 .bf16} {x5 x6 : Vec Ideal S256x1024 .bf16}

theorem pay31 (h75 : Is v75 fun i => (R i).ua) (h77 : Is v77 fun i => (R i).sv)
    (h29 : Is (k0_pay29 (F := Ideal) v79 v82 c) fun i k => silu ((R i).za k)) :
    Is (k0_pay31 (F := Ideal) v75 v77 v79 v82 c) (fun i => (R i).ta) := by
  intro i j
  pointwise [k0_pay31]
  rw [h75 i j, h77 i j, h29 i j, ← EReal.coe_mul, ← EReal.coe_mul]; rfl

theorem pay32 (h31 : Is (k0_pay31 (F := Ideal) v75 v77 v79 v82 c) fun i => (R i).ta) (hw : Is w96 P.wpa) :
    Is (k0_pay32 (F := Ideal) v75 v77 v79 v82 c w96) (fun i => (R i).ya P) := by
  intro i j
  pointwise [k0_pay32]
  simp only [h31 _ _, hw _ _, ← EReal.coe_mul]
  rw [coe_sum]; rfl

theorem pay33 (h73 : Is v73 fun i => (R i).tb P) (hw : Is w99 P.wpb) :
    Is (k0_pay33 (F := Ideal) v73 w99) (fun i => (R i).yb P) := by
  intro i j
  pointwise [k0_pay33]
  simp only [h73 _ _, hw _ _, ← EReal.coe_mul]
  rw [coe_sum]; rfl

theorem pay36 (ha : Is (k0_pay32 (F := Ideal) v75 v77 v79 v82 c w96) fun i => (R i).ya P)
    (hb : Is (k0_pay33 (F := Ideal) v73 w99) fun i => (R i).yb P)
    (h5 : Is x5 fun i => (R i).g1) (h6 : Is x6 fun i => (R i).g2) :
    Is (k0_pay36 (F := Ideal) v73 v75 v77 v79 v82 c w96 w99 x5 x6) (fun i => (R i).mm P) := by
  intro i j
  pointwise [k0_pay36]
  rw [ha i j, hb i j, pay34 h5 i j, pay35 h6 i j]
  simp only [← EReal.coe_mul, ← EReal.coe_add]; rfl

end mixed

section loss

variable {v122 : Vec Ideal S256x1024 .f32} {w123 : Vec Ideal S1024x1024 .bf16} {x0 x1 : Vec Ideal S256x1024 .f32}
  {x10 x11 : Vec Ideal S1x1024 .f32}

theorem pay37 (hm : Is v122 fun i => (R i).mm P) (hw : Is w123 P.wout) :
    Is (k0_pay37 (F := Ideal) v122 w123) (fun i => (R i).y2 P) := by
  intro i j
  pointwise [k0_pay37]
  simp only [hm _ _, hw _ _, ← EReal.coe_mul]
  rw [coe_sum]; rfl

theorem pay38 (hm : Is v122 fun i => (R i).mm P) (hw : Is w123 P.wout) (h0 : Is x0 fun i => (R i).x)
    (h10 : Is x10 fun _ => P.gate) :
    Is (k0_pay38 (F := Ideal) v122 w123 x0 x10) (fun i => (R i).x1 P) := by
  intro i j
  pointwise [k0_pay38]
  rw [pay37 hm hw i j, h0 i j, h10 0 j, ← EReal.coe_mul, ← EReal.coe_add]; rfl

theorem pay39 (hm : Is v122 fun i => (R i).mm P) (hw : Is w123 P.wout) (h0 : Is x0 fun i => (R i).x)
    (h10 : Is x10 fun _ => P.gate) :
    Is (k0_pay39 (F := Ideal) v122 w123 x0 x10) (fun i _ => (R i).r1 P) := by
  intro i j
  pointwise [k0_pay39]
  simp only [pay38 hm hw h0 h10 _ _, ← EReal.coe_mul]
  rw [coe_sum, lit_1024, lit_eps, div_1024]
  exact rs_real (ms1_nonneg P (R i))

theorem pay40 (hm : Is v122 fun i => (R i).mm P) (hw : Is w123 P.wout) (h0 : Is x0 fun i => (R i).x)
    (h10 : Is x10 fun _ => P.gate) :
    Is (k0_pay40 (F := Ideal) v122 w123 x0 x10) (fun i => (R i).xn P) := by
  intro i j
  pointwise [k0_pay40]
  rw [pay38 hm hw h0 h10 i j, pay39 hm hw h0 h10 i 0, ← EReal.coe_mul]; rfl

theorem pay41 (hm : Is v122 fun i => (R i).mm P) (hw : Is w123 P.wout) (h0 : Is x0 fun i => (R i).x)
    (h10 : Is x10 fun _ => P.gate) (h11 : Is x11 fun _ => P.gf) (h1 : Is x1 fun i => (R i).t) :
    Is (k0_pay41 (F := Ideal) v122 w123 x0 x10 x11 x1) (fun i => (R i).err P) := by
  intro i j
  pointwise [k0_pay41]
  rw [pay40 hm hw h0 h10 i j, h11 0 j, h1 i j, ← EReal.coe_mul, ← EReal.coe_sub]; rfl

theorem pay42 (he : Is (k0_pay41 (F := Ideal) v122 w123 x0 x10 x11 x1) fun i => (R i).err P)
    {a : Vec Ideal S1x1 .f32} {A : Fin 1 → Fin 1 → ℝ} (ha : Is a A) :
    Is (k0_pay42 (F := Ideal) v122 w123 x0 x10 x11 x1 a) (fun i j => A i j + (∑ s, (R s).loss P) * (1 / 2048)) := by
  intro i j
  pointwise [k0_pay42]
  simp only [he _ _, ← EReal.coe_mul, coe_sum]
  rw [ha i j, lit_inv2048, ← EReal.coe_mul, ← EReal.coe_add]; rfl

theorem pay43 (he : Is (k0_pay41 (F := Ideal) v122 w123 x0 x10 x11 x1) fun i => (R i).err P) :
    Is (k0_pay43 (F := Ideal) v122 w123 x0 x10 x11 x1) (fun i => (R i).dout P) := by
  intro i j
  pointwise [k0_pay43]
  rw [he i j, lit_inv1024, ← EReal.coe_mul]; rfl

end loss

section stream

variable {v122 v125 v140 v158 : Vec Ideal S256x1024 .f32} {v138 : Vec Ideal S256x1 .f32} {x11 x10 : Vec Ideal S1x1024 .f32}

theorem pay44 (hn : Is v140 fun i => (R i).xn P) (hd : Is v158 fun i => (R i).dout P)
    {a : Vec Ideal S1x1024 .f32} {A : Fin 1 → Fin 1024 → ℝ} (ha : Is a A) :
    Is (k0_pay44 (F := Ideal) v140 v158 a) (fun i j => A i j + ∑ s, (R s).dout P j * (R s).xn P j) := by
  intro i j
  pointwise [k0_pay44]
  simp only [hn _ _, hd _ _, ← EReal.coe_mul, coe_sum]
  rw [ha i j, ← EReal.coe_add]

theorem pay45 (hr : Is v138 fun i _ => (R i).r1 P) (hn : Is v140 fun i => (R i).xn P)
    (hd : Is v158 fun i => (R i).dout P) (h11 : Is x11 fun _ => P.gf) :
    Is (k0_pay45 (F := Ideal) v138 v140 v158 x11) (fun i => (R i).dx P) := by
  intro i j
  pointwise [k0_pay45]
  simp only [hn _ _, hd _ _, hr _ _, h11 _ _, ← EReal.coe_mul, coe_sum]
  rw [lit_1024, div_1024]
  simp only [← EReal.coe_mul, ← EReal.coe_sub]; rfl

theorem pay46 (hx : Is (k0_pay45 (F := Ideal) v138 v140 v158 x11) fun i => (R i).dx P) (hy : Is v125 fun i => (R i).y2 P)
    {a : Vec Ideal S1x1024 .f32} {A : Fin 1 → Fin 1024 → ℝ} (ha : Is a A) :
    Is (k0_pay46 (F := Ideal) v125 v138 v140 v158 x11 a) (fun i j => A i j + ∑ s, (R s).dx P j * (R s).y2 P j) := by
  intro i j
  pointwise [k0_pay46]
  simp only [hx _ _, hy _ _, ← EReal.coe_mul, coe_sum]
  rw [ha i j, ← EReal.coe_add]

theorem pay47 (hx : Is (k0_pay45 (F := Ideal) v138 v140 v158 x11) fun i => (R i).dx P) (h10 : Is x10 fun _ => P.gate) :
    Is (k0_pay47 (F := Ideal) v138 v140 v158 x11 x10) (fun i => (R i).dy P) := by
  intro i j
  pointwise [k0_pay47]
  rw [hx i j, h10 0 j, ← EReal.coe_mul]; rfl

theorem pay48 (hm : Is v122 fun i => (R i).mm P)
    (hy : Is (k0_pay47 (F := Ideal) v138 v140 v158 x11 x10) fun i => (R i).dy P)
    {a : Vec Ideal S1024x1024 .f32} {A : Fin 1024 → Fin 1024 → ℝ} (ha : Is a A) :
    Is (k0_pay49 (F := Ideal) (k0_pay48 v122 v138 v140 v158 x11 x10 a))
      (fun i j => A i j + ∑ s, (R s).mm P i * (R s).dy P j) := by
  intro i j
  pointwise [k0_pay49, k0_pay48]
  simp only [hm _ _, hy _ _, ← EReal.coe_mul, coe_sum]
  rw [ha i j, ← EReal.coe_add]

end stream

section branches

variable {v98 v101 v110 v119 v189 : Vec Ideal S256x1024 .f32} {w198 : Vec Ideal S1024x1024 .bf16} {v95 v77 v87 v75 v93 : Vec Ideal S256x512 .f32}
  {w225 : Vec Ideal S512x1024 .bf16} {v227 : Vec Ideal S256x512 .f32}

theorem pay50 (hy : Is v189 fun i => (R i).dy P) (hw : Is w198 P.wout) :
    Is (k0_pay50 (F := Ideal) v189 w198) (fun i => (R i).dm P) := by
  intro i j
  pointwise [k0_pay50]
  simp only [hy _ _, hw _ _, ← EReal.coe_mul]
  rw [coe_sum]; rfl

theorem pay51 (hm : Is (k0_pay50 (F := Ideal) v189 w198) fun i => (R i).dm P) (hg : Is v110 fun i j => sg ((R i).g1 j)) :
    Is (k0_pay51 (F := Ideal) v110 v189 w198) (fun i => (R i).dya P) := by
  intro i j
  pointwise [k0_pay51]
  rw [hm i j, hg i j, ← EReal.coe_mul]; rfl

theorem pay52 (hm : Is (k0_pay50 (F := Ideal) v189 w198) fun i => (R i).dm P) (hg : Is v119 fun i j => sg ((R i).g2 j)) :
    Is (k0_pay52 (F := Ideal) v119 v189 w198) (fun i => (R i).dyb P) := by
  intro i j
  pointwise [k0_pay52]
  rw [hm i j, hg i j, ← EReal.coe_mul]; rfl

theorem pay53 (hm : Is (k0_pay50 (F := Ideal) v189 w198) fun i => (R i).dm P) (hg : Is v110 fun i j => sg ((R i).g1 j))
    (ha : Is v98 fun i => (R i).ya P) : Is (k0_pay53 (F := Ideal) v98 v110 v189 w198) (fun i => (R i).dg1 P) := by
  intro i j
  pointwise [k0_pay53]
  rw [hm i j, hg i j, ha i j, ← EReal.coe_one]
  simp only [← EReal.coe_mul, ← EReal.coe_sub]; rfl

theorem pay54 (hm : Is (k0_pay50 (F := Ideal) v189 w198) fun i => (R i).dm P) (hg : Is v119 fun i j => sg ((R i).g2 j))
    (ha : Is v101 fun i => (R i).yb P) : Is (k0_pay54 (F := Ideal) v101 v119 v189 w198) (fun i => (R i).dg2 P) := by
  intro i j
  pointwise [k0_pay54]
  rw [hm i j, hg i j, ha i j, ← EReal.coe_one]
  simp only [← EReal.coe_mul, ← EReal.coe_sub]; rfl

theorem pay55 (ht : Is v95 fun i => (R i).ta) (hy : Is (k0_pay51 (F := Ideal) v110 v189 w198) fun i => (R i).dya P)
    {a : Vec Ideal S512x1024 .f32} {A : Fin 512 → Fin 1024 → ℝ} (ha : Is a A) :
    Is (k0_pay55 (F := Ideal) v95 v110 v189 w198 a) (fun i j => A i j + ∑ s, (R s).ta i * (R s).dya P j) := by
  intro i j
  pointwise [k0_pay55]
  simp only [ht _ _, hy _ _, ← EReal.coe_mul, coe_sum]
  rw [ha i j, ← EReal.coe_add]

theorem pay56 (hy : Is (k0_pay51 (F := Ideal) v110 v189 w198) fun i => (R i).dya P) (hw : Is w225 P.wpa) :
    Is (k0_pay56 (F := Ideal) v110 v189 w198 w225) (fun i => (R i).dta P) := by
  intro i j
  pointwise [k0_pay56]
  simp only [hy _ _, hw _ _, ← EReal.coe_mul]
  rw [coe_sum]; rfl

theorem pay57 (hd : Is (k0_pay56 (F := Ideal) v110 v189 w198 w225) fun i => (R i).dta P) (hv : Is v77 fun i => (R i).sv)
    (hz : Is v87 fun i k => silu ((R i).za k)) :
    Is (k0_pay57 (F := Ideal) v77 v87 v110 v189 w198 w225) (fun i => (R i).dua P) := by
  intro i j
  pointwise [k0_pay57]
  rw [hd i j, hv i j, hz i j, ← EReal.coe_mul, ← EReal.coe_mul]; rfl

theorem pay58 (hd : Is v227 fun i => (R i).dta P) (hu : Is v75 fun i => (R i).ua) (hz : Is v87 fun i k => silu ((R i).za k)) :
    Is (k0_pay58 (F := Ideal) v75 v87 v227) (fun i => (R i).dsv P) := by
  intro i j
  pointwise [k0_pay58]
  rw [hd i j, hu i j, hz i j, ← EReal.coe_mul, ← EReal.coe_mul]; rfl

theorem pay59 (hd : Is v227 fun i => (R i).dta P) (hu : Is v75 fun i => (R i).ua) (hv : Is v77 fun i => (R i).sv)
    (hz : Is v93 fun i k => dsilu ((R i).za k)) :
    Is (k0_pay59 (F := Ideal) v75 v77 v93 v227) (fun i => (R i).dza P) := by
  intro i j
  pointwise [k0_pay59]
  rw [hd i j, hu i j, hv i j, hz i j, ← EReal.coe_mul, ← EReal.coe_mul, ← EReal.coe_mul]; rfl

end branches

section scans

variable {v73 v66 v56 v72 v53 v52 v252 : Vec Ideal S256x512 .f32} {v202 : Vec Ideal S256x1024 .f32}
  {w249 : Vec Ideal S512x1024 .bf16} {x12 : Vec Ideal S1x512 .f32}

theorem pay60 (ht : Is v73 fun i => (R i).tb P) (hy : Is v202 fun i => (R i).dyb P)
    {a : Vec Ideal S512x1024 .f32} {A : Fin 512 → Fin 1024 → ℝ} (ha : Is a A) :
    Is (k0_pay60 (F := Ideal) v73 v202 a) (fun i j => A i j + ∑ s, (R s).tb P i * (R s).dyb P j) := by
  intro i j
  pointwise [k0_pay60]
  simp only [ht _ _, hy _ _, ← EReal.coe_mul, coe_sum]
  rw [ha i j, ← EReal.coe_add]

theorem pay61 (hy : Is v202 fun i => (R i).dyb P) (hw : Is w249 P.wpb) :
    Is (k0_pay61 (F := Ideal) v202 w249) (fun i => (R i).dtb P) := by
  intro i j
  pointwise [k0_pay61]
  simp only [hy _ _, hw _ _, ← EReal.coe_mul]
  rw [coe_sum]; rfl

theorem pay62 (hy : Is v202 fun i => (R i).dyb P) (hw : Is w249 P.wpb) (hz : Is v66 fun i k => silu ((R i).zb k)) :
    Is (k0_pay62 (F := Ideal) v66 v202 w249) (fun i => (R i).don P) := by
  intro i j
  pointwise [k0_pay62]
  rw [pay61 hy hw i j, hz i j, ← EReal.coe_mul]; rfl

theorem pay63 (hy : Is v202 fun i => (R i).dyb P) (hw : Is w249 P.wpb) (ho : Is v56 fun i => (R i).on P)
    (hz : Is v72 fun i k => dsilu ((R i).zb k)) :
    Is (k0_pay63 (F := Ideal) v56 v72 v202 w249) (fun i => (R i).dzb P) := by
  intro i j
  pointwise [k0_pay63]
  rw [pay61 hy hw i j, ho i j, hz i j, ← EReal.coe_mul, ← EReal.coe_mul]; rfl

theorem pay64 (hd : Is (k0_pay62 (F := Ideal) v66 v202 w249) fun i => (R i).don P) (ho : Is v53 fun i => (R i).oh)
    {a : Vec Ideal S1x512 .f32} {A : Fin 1 → Fin 512 → ℝ} (ha : Is a A) :
    Is (k0_pay64 (F := Ideal) v53 v66 v202 w249 a) (fun i j => A i j + ∑ s, (R s).don P j * (R s).oh j) := by
  intro i j
  pointwise [k0_pay64]
  simp only [hd _ _, ho _ _, ← EReal.coe_mul, coe_sum]
  rw [ha i j, ← EReal.coe_add]

/-- One head's mean of `doh · oh`, from its columns. -/
theorem head_mean (r : Row) (h : Fin 4) (f : Fin 128 → Fin 512) (hf : ∀ d, f d = col h d) :
    Ideal.div (((∑ d, r.don P (f d) * P.gbn (f d) * r.oh (f d) : ℝ) : EReal)) (Ideal.ofBits .f32 0x43000000#32)
      = ((r.mh P h : ℝ) : EReal) := by
  obtain rfl : f = col h := funext hf
  rw [lit_128, div_128]; rfl

theorem pay65 (hr : Is v52 fun i k => (R i).rr (head k)) (ho : Is v53 fun i => (R i).oh) (hd : Is v252 fun i => (R i).don P)
    (h12 : Is x12 fun _ => P.gbn) : Is (k0_pay65 (F := Ideal) v52 v53 v252 x12) (fun i => (R i).dO P) := by
  intro i j
  pointwise [k0_pay65]
  simp only [hr _ _, ho _ _, hd _ _, h12 _ _, ← EReal.coe_mul, coe_sum]
  have h0 := head_mean (P := P) (R i) 0 (fun d : Fin 128 => ⟨d.val, by omega⟩) (fun d => Fin.ext (by simp [col]))
  have h1 := head_mean (P := P) (R i) 1 (fun d : Fin 128 => ⟨128 + d.val, by omega⟩) (fun d => Fin.ext (by simp [col]))
  have h2 := head_mean (P := P) (R i) 2 (fun d : Fin 128 => ⟨256 + d.val, by omega⟩) (fun d => Fin.ext (by simp [col]))
  have h3 := head_mean (P := P) (R i) 3 (fun d : Fin 128 => ⟨384 + d.val, by omega⟩) (fun d => Fin.ext (by simp [col]))
  rw [h0, h1, h2, h3]
  have h4 := ladder j fun h => (((R i).mh P h : ℝ) : EReal)
  rw [h4, ← EReal.coe_mul, ← EReal.coe_sub, ← EReal.coe_mul]; rfl

end scans

end Cert.Proof.Tile
-- ==== Proof.StageReal.lean ====
/-
  The body's values at one tile, and the sums that it carries from tile to tile, as the real functions of Spec.lean:
  `Holds X P R` says what the tile's blocks hold, `Sums a P R n` what the carried sums hold after `n` tiles.
-/
module

public import proofs.«01_k».proof.Proof.Stage
public import proofs.«01_k».proof.Proof.Tile
public import Idealize.ShloMosaic.Lib.Ring

@[expose] public section

noncomputable section

namespace Cert.Proof.StageReal

open Idealize.ShloMosaic Cert.KernelIdeal Cert.KernelIdeal.Gen Cert.Proof.Spec Cert.Proof.Reals Cert.Proof.Tile
open Cert.Proof.Stage

set_option maxRecDepth 16384

variable [Cert.KernelIdeal.Facts]

/-- The blocks of a tile hold these rows and these weights. -/
structure Holds (X : Ins Ideal) (P : Par) (R : Fin 256 → Row) : Prop where
  h0 : Is X.x0 fun i => (R i).x
  h1 : Is X.x1 fun i => (R i).t
  h2 : Is X.x2 fun i => (R i).zb
  h3 : Is X.x3 fun i => (R i).ua
  h4 : Is X.x4 fun i => (R i).za
  h5 : Is X.x5 fun i => (R i).g1
  h6 : Is X.x6 fun i => (R i).g2
  h7 : Is X.x7 fun i => (R i).oF
  h8 : Is X.x8 fun i => (R i).oB
  h9 : Is X.x9 fun i => (R i).sv
  h10 : Is X.x10 fun _ => P.gate
  h11 : Is X.x11 fun _ => P.gf
  h12 : Is X.x12 fun _ => P.gbn
  h13 : Is X.x13 P.wpa
  h14 : Is X.x14 P.wpb
  h15 : Is X.x15 P.wout

namespace Holds

variable {X : Ins Ideal} {P : Par} {R : Fin 256 → Row} (H : Holds X P R)

theorem one_eq : (Ins.one : Ideal .f32) = (1 : EReal) := lit_one.trans EReal.coe_one

include H

theorem o : Is X.o fun i => (R i).o := pay11 H.h7 H.h8
theorem rr : Is X.rr fun i c => (R i).rr (head c) := pay16 H.h7 H.h8
theorem oh : Is X.oh fun i => (R i).oh := pay17 H.o H.rr
theorem on : Is X.on fun i => (R i).on P := pay18 H.o H.rr H.h12
theorem szb : Is X.szb fun i k => silu ((R i).zb k) := pay21 H.h2
theorem dszb : Is X.dszb fun i k => dsilu ((R i).zb k) := pay22 H.h2
theorem tb : Is X.tb fun i => (R i).tb P := pay23 H.o H.rr H.h12 H.h2
theorem ua : Is X.ua fun i => (R i).ua := pay24 H.h3
theorem sv : Is X.sv fun i => (R i).sv := pay25 H.h9
theorem sza : Is X.sza fun i k => silu ((R i).za k) := pay29 one_eq H.h4
theorem dsza : Is X.dsza fun i k => dsilu ((R i).za k) := pay30 one_eq H.h4
theorem ta : Is X.ta fun i => (R i).ta := pay31 H.ua H.sv H.sza
theorem ya : Is X.ya fun i => (R i).ya P := pay32 H.ta H.h13
theorem yb : Is X.yb fun i => (R i).yb P := pay33 H.tb H.h14
theorem g1 : Is X.g1 fun i j => sg ((R i).g1 j) := pay34 H.h5
theorem g2 : Is X.g2 fun i j => sg ((R i).g2 j) := pay35 H.h6
theorem mm : Is X.mm fun i => (R i).mm P := pay36 H.ya H.yb H.h5 H.h6
theorem y2 : Is X.y2 fun i => (R i).y2 P := pay37 H.mm H.h15
theorem r1 : Is X.r1 fun i _ => (R i).r1 P := pay39 H.mm H.h15 H.h0 H.h10
theorem xn : Is X.xn fun i => (R i).xn P := pay40 H.mm H.h15 H.h0 H.h10
theorem err : Is (k0_pay41 X.mm X.x15 X.x0 X.x10 X.x11 X.x1) fun i => (R i).err P :=
  pay41 H.mm H.h15 H.h0 H.h10 H.h11 H.h1
theorem dout : Is X.dout fun i => (R i).dout P := pay43 H.err
theorem dx : Is X.dx fun i => (R i).dx P := pay45 H.r1 H.xn H.dout H.h11
theorem dy : Is X.dy fun i => (R i).dy P := pay47 H.dx H.h10
theorem dm : Is (k0_pay50 X.dy X.x15) fun i => (R i).dm P := pay50 H.dy H.h15
theorem dya : Is (k0_pay51 X.g1 X.dy X.x15) fun i => (R i).dya P := pay51 H.dm H.g1
theorem dyb : Is X.dyb fun i => (R i).dyb P := pay52 H.dm H.g2
theorem dg1 : Is X.dg1 fun i => (R i).dg1 P := pay53 H.dm H.g1 H.ya
theorem dg2 : Is X.dg2 fun i => (R i).dg2 P := pay54 H.dm H.g2 H.yb
theorem dta : Is X.dta fun i => (R i).dta P := pay56 H.dya H.h13
theorem dua : Is X.dua fun i => (R i).dua P := pay57 H.dta H.sv H.sza
theorem dsv : Is X.dsv fun i => (R i).dsv P := pay58 H.dta H.ua H.sza
theorem dza : Is X.dza fun i => (R i).dza P := pay59 H.dta H.ua H.sv H.dsza
theorem don : Is X.don fun i => (R i).don P := pay62 H.dyb H.h14 H.szb
theorem dzb : Is X.dzb fun i => (R i).dzb P := pay63 H.dyb H.h14 H.on H.dszb
theorem dO : Is X.dO fun i => (R i).dO P := pay65 H.rr H.oh H.don H.h12

omit H in
/-- An index of two axes, by its coordinates. -/
theorem eq_ix2 {n m : ℕ} {x : (⟨2, ![n, m]⟩ : Shape).Idx} (i : Fin n) (j : Fin m) (h0 : i.val = (x 0).val)
    (h1 : j.val = (x 1).val) : x = ix2 i j :=
  funext (Fin.forall_fin_two.mpr ⟨Fin.ext h0.symm, Fin.ext h1.symm⟩)

/-- The two stores of the recurrence-side columns fill their block. -/
theorem pB : Is X.pB fun i => (R i).zu P := by
  intro i j
  unfold Ins.pB
  canon_tiles x h using View.cover_of_tiledBy _ ![256, 512] (by sl_kernel_rfl) _
  all_goals
    have h0' : i.val = (x 0).val := h0
    show _ = (((R i).zu P j : ℝ) : EReal)
    unfold Row.zu
  · have h1' : j.val = (x 1).val := h1
    rw [dif_pos (by omega)]
    exact (congrArg X.dzb (eq_ix2 i ⟨j.val, by omega⟩ h0' h1')).trans (H.dzb _ _)
  · have h1' : j.val = 512 + (x 1).val := h1
    rw [dif_neg (by omega)]
    exact (congrArg X.dua (eq_ix2 i ⟨j.val - 512, by omega⟩ h0' (by dsimp only; omega))).trans (H.dua _ _)

/-- The three stores of the attention-side columns fill theirs. -/
theorem pG : Is X.pG fun i => (R i).zg P := by
  intro i j
  unfold Ins.pG
  canon_tiles x h using View.cover_of_tiledBy _ ![256, 512] (by sl_kernel_rfl) _
  all_goals
    have h0' : i.val = (x 0).val := h0
    show _ = (((R i).zg P j : ℝ) : EReal)
    unfold Row.zg
  · have h1' : j.val = (x 1).val := h1
    rw [dif_pos (by omega)]
    exact (congrArg X.dza (eq_ix2 i ⟨j.val, by omega⟩ h0' h1')).trans (H.dza _ _)
  · have h1' : j.val = 1536 + (x 1).val := h1
    rw [dif_neg (by omega), dif_neg (by omega)]
    exact (congrArg X.dg2 (eq_ix2 i ⟨j.val - 512 - 1024, by omega⟩ h0' (by dsimp only; omega))).trans (H.dg2 _ _)
  · have h1' : j.val = 512 + (x 1).val := h1
    rw [dif_neg (by omega), dif_pos (by omega)]
    exact (congrArg X.dg1 (eq_ix2 i ⟨j.val - 512, by omega⟩ h0' (by dsimp only; omega))).trans (H.dg1 _ _)

end Holds

/-! ### The sums over the tiles -/

/-- Row `s` of tile `t`. -/
def rowAt (t : ℕ) (s : Fin 256) : Fin 8192 := ⟨(256 * t + s.val) % 8192, Nat.mod_lt _ (by norm_num)⟩

/-- The sum of `f` over the rows of the first `n` tiles. -/
def part (f : Fin 8192 → ℝ) (n : ℕ) : ℝ := ∑ t ∈ Finset.range n, ∑ s : Fin 256, f (rowAt t s)

theorem part_zero (f : Fin 8192 → ℝ) : part f 0 = 0 := Finset.sum_range_zero _

theorem part_succ (f : Fin 8192 → ℝ) (n : ℕ) : part f (n + 1) = part f n + ∑ s : Fin 256, f (rowAt n s) :=
  Finset.sum_range_succ _ n

/-- All 32 tiles are all rows. -/
theorem part_all (f : Fin 8192 → ℝ) : part f 32 = ∑ s, f s := by
  unfold part
  rw [Finset.sum_range, ← Equiv.sum_comp (finProdFinEquiv (m := 32) (n := 256)) f, Fintype.sum_prod_type]
  refine Finset.sum_congr rfl fun t _ => Finset.sum_congr rfl fun s _ => congrArg f (Fin.ext ?_)
  show (256 * t.val + s.val) % 8192 = s.val + 256 * t.val
  omega

/-- What the carried sums hold after `n` tiles. -/
structure Sums (a : Acc Ideal) (P : Par) (R : Fin 8192 → Row) (n : ℕ) : Prop where
  gf : Is a.gf fun _ j => part (fun s => (R s).dout P j * (R s).xn P j) n
  gate : Is a.gate fun _ j => part (fun s => (R s).dx P j * (R s).y2 P j) n
  gbn : Is a.gbn fun _ j => part (fun s => (R s).don P j * (R s).oh j) n
  loss : Is a.loss fun _ _ => part (fun s => (R s).loss P) n * (1 / 2048)
  wout : Is a.wout fun i j => part (fun s => (R s).mm P i * (R s).dy P j) n
  wpa : Is a.wpa fun i j => part (fun s => (R s).ta i * (R s).dya P j) n
  wpb : Is a.wpb fun i j => part (fun s => (R s).tb P i * (R s).dyb P j) n

theorem sums_zero (P : Par) (R : Fin 8192 → Row) : Sums zero P R 0 where
  gf i j := by beta_reduce; rw [part_zero]; show k0_pay7 (F := Ideal) (ix2 i j) = _; pointwise [k0_pay7]; exact EReal.coe_zero.symm
  gate i j := by beta_reduce; rw [part_zero]; show k0_pay8 (F := Ideal) (ix2 i j) = _; pointwise [k0_pay8]; exact EReal.coe_zero.symm
  gbn i j := by beta_reduce; rw [part_zero]; show k0_pay9 (F := Ideal) (ix2 i j) = _; pointwise [k0_pay9]; exact EReal.coe_zero.symm
  loss i j := by beta_reduce; rw [part_zero, zero_mul]; show k0_pay10 (F := Ideal) (ix2 i j) = _; pointwise [k0_pay10]; exact EReal.coe_zero.symm
  wout i j := by beta_reduce; rw [part_zero]; show k0_pay4 (F := Ideal) (ix2 i j) = _; pointwise [k0_pay4]; exact EReal.coe_zero.symm
  wpa i j := by beta_reduce; rw [part_zero]; show k0_pay5 (F := Ideal) (ix2 i j) = _; pointwise [k0_pay5]; exact EReal.coe_zero.symm
  wpb i j := by beta_reduce; rw [part_zero]; show k0_pay6 (F := Ideal) (ix2 i j) = _; pointwise [k0_pay6]; exact EReal.coe_zero.symm

theorem Sums.step {X : Ins Ideal} {a : Acc Ideal} {P : Par} {R : Fin 8192 → Row} {n : ℕ} (h : Sums a P R n)
    (H : Holds X P fun s => R (rowAt n s)) : Sums (X.step a) P R (n + 1) where
  gf i j := (pay44 H.xn H.dout h.gf i j).trans (by beta_reduce; rw [part_succ])
  gate i j := (pay46 H.dx H.y2 h.gate i j).trans (by beta_reduce; rw [part_succ])
  gbn i j := (pay64 H.don H.oh h.gbn i j).trans (by beta_reduce; rw [part_succ])
  loss i j := (pay42 H.err h.loss i j).trans (by beta_reduce; rw [part_succ, add_mul])
  wout i j := (pay48 H.mm H.dy h.wout i j).trans (by beta_reduce; rw [part_succ])
  wpa i j := (pay55 H.ta H.dya h.wpa i j).trans (by beta_reduce; rw [part_succ])
  wpb i j := (pay60 H.tb H.dyb h.wpb i j).trans (by beta_reduce; rw [part_succ])

end Cert.Proof.StageReal

end
-- ==== Proof.Blocks.lean ====
/-
  The blocks that the body loads at a grid point, read off the argument arrays: point `t` sees the rows `256 t` to
  `256 t + 255`, five column ranges of the projection, and every weight whole.
-/
module

public import proofs.«01_k».proof.Proof.Body
public import proofs.«01_k».proof.Proof.StageReal
public import proofs.«01_k».proof.Proof.Ref
public import Idealize.ShloMosaic.Lib.Pipeline.ValueKit

@[expose] public section

set_option maxRecDepth 16384

noncomputable section

namespace Cert.Proof.Blocks

open Idealize.ShloMosaic Idealize.ShloMosaic.TcCoe Idealize.ShloMosaic.Tactic
open Cert.KernelIdeal Cert.KernelIdeal.Gen Cert.Proof.Spec Cert.Proof.Stage Cert.Proof.StageReal Cert.Proof.Run

/-- Where the blocks of the row inputs lie at a point, in blocks. -/
theorem idxX : ∀ t : Fin cfg0.N,
    win0_0.index t = ![t.val, 0]
      ∧ win0_1.index t = ![t.val, 0]
      ∧ win0_7.index t = ![t.val, 0]
      ∧ win0_8.index t = ![t.val, 0]
      ∧ win0_9.index t = ![t.val, 0] :=
  (by decide +kernel : ∀ t : Fin grid0.N, _)

/-- Where the blocks of the projection lie. -/
theorem idxP : ∀ t : Fin cfg0.N,
    win0_2.index t = ![t.val, 2]
      ∧ win0_3.index t = ![t.val, 3]
      ∧ win0_4.index t = ![t.val, 5]
      ∧ win0_5.index t = ![t.val, 3]
      ∧ win0_6.index t = ![t.val, 4] :=
  (by decide +kernel : ∀ t : Fin grid0.N, _)

/-- The weights are whole. -/
theorem idxW : ∀ t : Fin cfg0.N,
    win0_10.index t = ![0, 0]
      ∧ win0_11.index t = ![0, 0]
      ∧ win0_12.index t = ![0, 0]
      ∧ win0_13.index t = ![0, 0]
      ∧ win0_14.index t = ![0, 0]
      ∧ win0_15.index t = ![0, 0] :=
  (by decide +kernel : ∀ t : Fin grid0.N, _)

/-- Where the blocks of the row outputs lie. -/
theorem idxY : ∀ t : Fin cfg0.N,
    win0_16.index t = ![t.val, 0]
      ∧ win0_17.index t = ![t.val, 0]
      ∧ win0_18.index t = ![t.val, 0]
      ∧ win0_19.index t = ![t.val, 0]
      ∧ win0_20.index t = ![t.val, 0] :=
  (by decide +kernel : ∀ t : Fin grid0.N, _)

/-- The weights' gradients are whole. -/
theorem idxG : ∀ t : Fin cfg0.N,
    win0_21.index t = ![0, 0]
      ∧ win0_22.index t = ![0, 0]
      ∧ win0_23.index t = ![0, 0]
      ∧ win0_24.index t = ![0, 0]
      ∧ win0_25.index t = ![0, 0]
      ∧ win0_26.index t = ![0, 0]
      ∧ win0_27.index t = ![0, 0] :=
  (by decide +kernel : ∀ t : Fin grid0.N, _)

theorem rowAt_val (t : Fin cfg0.N) (s : Fin 256) : (rowAt t.val s).val = 256 * t.val + s.val := by
  have ht : t.val < 32 := Nat.lt_of_lt_of_eq t.isLt N_0
  show (256 * t.val + s.val) % 8192 = _
  omega

variable (m : (ℓ : Loc nD τ sig) → Buf (Elt Ideal) ℓ) (c : Dev nD)

/-- The argument arrays hold these rows and these weights. -/
abbrev Args (P : Par) (R : Fin 8192 → Row) : Prop :=
  Ref.In (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) P R

variable {P : Par} {R : Fin 8192 → Row} (H : Args m c P R) (t : Fin cfg0.N)

theorem blk0 (i : Fin 256) (j : Fin 1024) :
    iblk m c 0 t (ix2 i j) = m ((c : Thread nD τ).loc main_arg0) (ix2 (rowAt t.val i) j) := by
  have := rowAt_val t i
  blk_ext [iblk, V, idxX t]

theorem blk1 (i : Fin 256) (j : Fin 1024) :
    iblk m c 1 t (ix2 i j) = m ((c : Thread nD τ).loc main_arg1) (ix2 (rowAt t.val i) j) := by
  have := rowAt_val t i
  blk_ext [iblk, V, idxX t]

theorem blk7 (i : Fin 256) (j : Fin 512) :
    iblk m c 7 t (ix2 i j) = m ((c : Thread nD τ).loc main_arg3) (ix2 (rowAt t.val i) j) := by
  have := rowAt_val t i
  blk_ext [iblk, V, idxX t]

theorem blk8 (i : Fin 256) (j : Fin 512) :
    iblk m c 8 t (ix2 i j) = m ((c : Thread nD τ).loc main_arg4) (ix2 (rowAt t.val i) j) := by
  have := rowAt_val t i
  blk_ext [iblk, V, idxX t]

theorem blk9 (i : Fin 256) (j : Fin 512) :
    iblk m c 9 t (ix2 i j) = m ((c : Thread nD τ).loc main_arg5) (ix2 (rowAt t.val i) j) := by
  have := rowAt_val t i
  blk_ext [iblk, V, idxX t]

theorem blk2 (i : Fin 256) (j : Fin 512) :
    X0_2 m c t (ix2 i j) = m ((c : Thread nD τ).loc main_arg2) (ix2 (rowAt t.val i) ⟨1024 + j.val, by omega⟩) := by
  have := rowAt_val t i
  unfold X0_2 Pipeline.Window.fill
  rw [dif_pos (moved0_2 t _)]
  blk_ext [iblk, V, idxP t]

theorem blk3 (i : Fin 256) (j : Fin 512) :
    X0_3 m c t (ix2 i j) = m ((c : Thread nD τ).loc main_arg2) (ix2 (rowAt t.val i) ⟨1536 + j.val, by omega⟩) := by
  have := rowAt_val t i
  unfold X0_3 Pipeline.Window.fill
  rw [dif_pos (moved0_3 t _)]
  blk_ext [iblk, V, idxP t]

theorem blk4 (i : Fin 256) (j : Fin 512) :
    X0_4 m c t (ix2 i j) = m ((c : Thread nD τ).loc main_arg2) (ix2 (rowAt t.val i) ⟨2560 + j.val, by omega⟩) := by
  have := rowAt_val t i
  unfold X0_4 Pipeline.Window.fill
  rw [dif_pos (moved0_4 t _)]
  blk_ext [iblk, V, idxP t]

theorem blk5 (i : Fin 256) (j : Fin 1024) :
    X0_5 m c t (ix2 i j) = m ((c : Thread nD τ).loc main_arg2) (ix2 (rowAt t.val i) ⟨3072 + j.val, by omega⟩) := by
  have := rowAt_val t i
  unfold X0_5 Pipeline.Window.fill
  rw [dif_pos (moved0_5 t _)]
  blk_ext [iblk, V, idxP t]

theorem blk6 (i : Fin 256) (j : Fin 1024) :
    X0_6 m c t (ix2 i j) = m ((c : Thread nD τ).loc main_arg2) (ix2 (rowAt t.val i) ⟨4096 + j.val, by omega⟩) := by
  have := rowAt_val t i
  unfold X0_6 Pipeline.Window.fill
  rw [dif_pos (moved0_6 t _)]
  blk_ext [iblk, V, idxP t]

theorem blk10 (i : Fin 1) (j : Fin 1024) :
    iblk m c 10 t (ix2 i j) = m ((c : Thread nD τ).loc main_arg6) (ix2 i j) := by
  blk_ext [iblk, V, idxW t]

theorem blk11 (i : Fin 1) (j : Fin 1024) :
    iblk m c 11 t (ix2 i j) = m ((c : Thread nD τ).loc main_arg7) (ix2 i j) := by
  blk_ext [iblk, V, idxW t]

theorem blk12 (i : Fin 1) (j : Fin 512) :
    iblk m c 12 t (ix2 i j) = m ((c : Thread nD τ).loc main_arg8) (ix2 i j) := by
  blk_ext [iblk, V, idxW t]

theorem blk13 (i : Fin 512) (j : Fin 1024) :
    iblk m c 13 t (ix2 i j) = m ((c : Thread nD τ).loc main_arg9) (ix2 i j) := by
  blk_ext [iblk, V, idxW t]

theorem blk14 (i : Fin 512) (j : Fin 1024) :
    iblk m c 14 t (ix2 i j) = m ((c : Thread nD τ).loc main_arg10) (ix2 i j) := by
  blk_ext [iblk, V, idxW t]

theorem blk15 (i : Fin 1024) (j : Fin 1024) :
    iblk m c 15 t (ix2 i j) = m ((c : Thread nD τ).loc main_arg11) (ix2 i j) := by
  blk_ext [iblk, V, idxW t]

include H

/-- The blocks of point `t` hold the rows of tile `t` and the weights. -/
theorem holds : Holds (ins m c t) P (fun s => R (rowAt t.val s)) where
  h0 i j := (blk0 m c t i j).trans (H.hx _ _)
  h1 i j := (blk1 m c t i j).trans (H.ht _ _)
  h2 i j := (blk2 m c t i j).trans (H.hzb _ _)
  h3 i j := (blk3 m c t i j).trans (H.hua _ _)
  h4 i j := (blk4 m c t i j).trans (H.hza _ _)
  h5 i j := (blk5 m c t i j).trans (H.hg1 _ _)
  h6 i j := (blk6 m c t i j).trans (H.hg2 _ _)
  h7 i j := (blk7 m c t i j).trans (H.hoF _ _)
  h8 i j := (blk8 m c t i j).trans (H.hoB _ _)
  h9 i j := (blk9 m c t i j).trans (H.hsv _ _)
  h10 i j := (blk10 m c t i j).trans (H.hgate _ _)
  h11 i j := (blk11 m c t i j).trans (H.hgf _ _)
  h12 i j := (blk12 m c t i j).trans (H.hgbn _ _)
  h13 i j := (blk13 m c t i j).trans (H.hwpa _ _)
  h14 i j := (blk14 m c t i j).trans (H.hwpb _ _)
  h15 i j := (blk15 m c t i j).trans (H.hwout _ _)

/-- The carried sums before point `n`. -/
theorem sums (n : ℕ) (hn : n ≤ cfg0.N) : Sums (acc m c n) P R n := by
  induction n with
  | zero => exact sums_zero P R
  | succ n ih =>
    rw [acc_succ m c ⟨n, hn⟩]
    exact (ih (Nat.le_of_succ_le hn)).step (holds m c H ⟨n, hn⟩)

end Cert.Proof.Blocks

end
-- ==== Proof.Value.lean ====
/-
  The kernel's twelve result arrays after the run: each is any array that holds the real function of Spec.lean, so each
  is the reference's array.
-/
module

public import proofs.«01_k».proof.Proof.Blocks

@[expose] public section

set_option maxRecDepth 16384

noncomputable section

namespace Cert.Proof.Value

open Idealize.ShloMosaic Idealize.ShloMosaic.TcCoe Idealize.ShloMosaic.Tactic
open Cert.KernelIdeal Cert.KernelIdeal.Gen Cert.Proof.Spec Cert.Proof.Tile Cert.Proof.Stage Cert.Proof.StageReal Cert.Proof.Run
open Cert.Proof.Blocks

variable (m : (ℓ : Loc nD τ sig) → Buf (Elt Ideal) ℓ) (c : Dev nD)
variable {P : Par} {R : Fin 8192 → Row} (H : Args m c P R)

include H

/-- The gradient of the residual stream. -/
theorem final16 {G : Vec Ideal S8192x1024 .f32} (hG : Is G fun i => (R i).dx P) :
    (dats m 0 c).arrAt 16 (cfgs 0).N = G := by
  refine (dats m 0 c).arrAt_eq_of_covers 16 _ (by decide +kernel) fun t hf y => ?_
  blk_simp
  rw [after16]
  have e : ((cfg0.win 16).blk t).view.emb y = ix2 (rowAt t.val (y 0)) (y 1) := by
    have := rowAt_val t (y 0)
    blk_ext [idxY t]
  rw [e]
  exact ((congrArg (ins m c t).dx (eq_ix2 y)).trans ((holds m c H t).dx (y 0) (y 1))).trans
    (hG (rowAt t.val (y 0)) (y 1)).symm

/-- The gradient of the recurrence-side columns of the projection. -/
theorem final17 {G : Vec Ideal S8192x1024 .bf16} (hG : Is G fun i => (R i).zu P) :
    (dats m 0 c).arrAt 17 (cfgs 0).N = G := by
  refine (dats m 0 c).arrAt_eq_of_covers 17 _ (by decide +kernel) fun t hf y => ?_
  blk_simp
  rw [after17]
  have e : ((cfg0.win 17).blk t).view.emb y = ix2 (rowAt t.val (y 0)) (y 1) := by
    have := rowAt_val t (y 0)
    blk_ext [idxY t]
  rw [e]
  exact ((congrArg (ins m c t).pB (eq_ix2 y)).trans ((holds m c H t).pB (y 0) (y 1))).trans
    (hG (rowAt t.val (y 0)) (y 1)).symm

/-- The gradient of the attention-side columns and of the gates. -/
theorem final18 {G : Vec Ideal S8192x2560 .bf16} (hG : Is G fun i => (R i).zg P) :
    (dats m 0 c).arrAt 18 (cfgs 0).N = G := by
  refine (dats m 0 c).arrAt_eq_of_covers 18 _ (by decide +kernel) fun t hf y => ?_
  blk_simp
  rw [after18]
  have e : ((cfg0.win 18).blk t).view.emb y = ix2 (rowAt t.val (y 0)) (y 1) := by
    have := rowAt_val t (y 0)
    blk_ext [idxY t]
  rw [e]
  exact ((congrArg (ins m c t).pG (eq_ix2 y)).trans ((holds m c H t).pG (y 0) (y 1))).trans
    (hG (rowAt t.val (y 0)) (y 1)).symm

/-- The gradient of the attention's output. -/
theorem final19 {G : Vec Ideal S8192x512 .bf16} (hG : Is G fun i => (R i).dsv P) :
    (dats m 0 c).arrAt 19 (cfgs 0).N = G := by
  refine (dats m 0 c).arrAt_eq_of_covers 19 _ (by decide +kernel) fun t hf y => ?_
  blk_simp
  rw [after19]
  have e : ((cfg0.win 19).blk t).view.emb y = ix2 (rowAt t.val (y 0)) (y 1) := by
    have := rowAt_val t (y 0)
    blk_ext [idxY t]
  rw [e]
  exact ((congrArg (ins m c t).dsv (eq_ix2 y)).trans ((holds m c H t).dsv (y 0) (y 1))).trans
    (hG (rowAt t.val (y 0)) (y 1)).symm

/-- The gradient of the recurrence's output. -/
theorem final20 {G : Vec Ideal S8192x512 .bf16} (hG : Is G fun i => (R i).dO P) :
    (dats m 0 c).arrAt 20 (cfgs 0).N = G := by
  refine (dats m 0 c).arrAt_eq_of_covers 20 _ (by decide +kernel) fun t hf y => ?_
  blk_simp
  rw [after20]
  have e : ((cfg0.win 20).blk t).view.emb y = ix2 (rowAt t.val (y 0)) (y 1) := by
    have := rowAt_val t (y 0)
    blk_ext [idxY t]
  rw [e]
  exact ((congrArg (ins m c t).dO (eq_ix2 y)).trans ((holds m c H t).dO (y 0) (y 1))).trans
    (hG (rowAt t.val (y 0)) (y 1)).symm

/-- The gradient of the output matrix. -/
theorem final21 {G : Vec Ideal S1024x1024 .bf16} (hG : Is G fun i j => ∑ s, (R s).mm P i * (R s).dy P j) :
    (dats m 0 c).arrAt 21 (cfgs 0).N = G := by
  refine (dats m 0 c).arrAt_eq_of_covers 21 _ (by decide +kernel) fun t hf y => ?_
  blk_simp
  rw [after21]
  have ht : t.val + 1 = 32 := by
    have := (flush0_21 t).mp hf
    have := Nat.lt_of_lt_of_eq t.isLt N_0
    omega
  have e : ((cfg0.win 21).blk t).view.emb y = ix2 (y 0) (y 1) := by
    blk_ext [idxG t]
  rw [e]
  exact ((congrArg (acc m c (t.val + 1)).wout (eq_ix2 y)).trans ((sums m c H (t.val + 1) t.isLt).wout (y 0) (y 1))).trans
    ((congrArg (fun a : ℝ => (a : EReal)) (by beta_reduce; rw [ht, part_all])).trans (hG (y 0) (y 1)).symm)

/-- The gradient of the attention's output matrix. -/
theorem final22 {G : Vec Ideal S512x1024 .bf16} (hG : Is G fun i j => ∑ s, (R s).ta i * (R s).dya P j) :
    (dats m 0 c).arrAt 22 (cfgs 0).N = G := by
  refine (dats m 0 c).arrAt_eq_of_covers 22 _ (by decide +kernel) fun t hf y => ?_
  blk_simp
  rw [after22]
  have ht : t.val + 1 = 32 := by
    have := (flush0_22 t).mp hf
    have := Nat.lt_of_lt_of_eq t.isLt N_0
    omega
  have e : ((cfg0.win 22).blk t).view.emb y = ix2 (y 0) (y 1) := by
    blk_ext [idxG t]
  rw [e]
  exact ((congrArg (acc m c (t.val + 1)).wpa (eq_ix2 y)).trans ((sums m c H (t.val + 1) t.isLt).wpa (y 0) (y 1))).trans
    ((congrArg (fun a : ℝ => (a : EReal)) (by beta_reduce; rw [ht, part_all])).trans (hG (y 0) (y 1)).symm)

/-- The gradient of the recurrence's output matrix. -/
theorem final23 {G : Vec Ideal S512x1024 .bf16} (hG : Is G fun i j => ∑ s, (R s).tb P i * (R s).dyb P j) :
    (dats m 0 c).arrAt 23 (cfgs 0).N = G := by
  refine (dats m 0 c).arrAt_eq_of_covers 23 _ (by decide +kernel) fun t hf y => ?_
  blk_simp
  rw [after23]
  have ht : t.val + 1 = 32 := by
    have := (flush0_23 t).mp hf
    have := Nat.lt_of_lt_of_eq t.isLt N_0
    omega
  have e : ((cfg0.win 23).blk t).view.emb y = ix2 (y 0) (y 1) := by
    blk_ext [idxG t]
  rw [e]
  exact ((congrArg (acc m c (t.val + 1)).wpb (eq_ix2 y)).trans ((sums m c H (t.val + 1) t.isLt).wpb (y 0) (y 1))).trans
    ((congrArg (fun a : ℝ => (a : EReal)) (by beta_reduce; rw [ht, part_all])).trans (hG (y 0) (y 1)).symm)

/-- The gradient of the last norm's scale. -/
theorem final24 {G : Vec Ideal S1x1024 .f32} (hG : Is G fun i j => ∑ s, (R s).dout P j * (R s).xn P j) :
    (dats m 0 c).arrAt 24 (cfgs 0).N = G := by
  refine (dats m 0 c).arrAt_eq_of_covers 24 _ (by decide +kernel) fun t hf y => ?_
  blk_simp
  rw [after24]
  have ht : t.val + 1 = 32 := by
    have := (flush0_24 t).mp hf
    have := Nat.lt_of_lt_of_eq t.isLt N_0
    omega
  have e : ((cfg0.win 24).blk t).view.emb y = ix2 (y 0) (y 1) := by
    blk_ext [idxG t]
  rw [e]
  exact ((congrArg (acc m c (t.val + 1)).gf (eq_ix2 y)).trans ((sums m c H (t.val + 1) t.isLt).gf (y 0) (y 1))).trans
    ((congrArg (fun a : ℝ => (a : EReal)) (by beta_reduce; rw [ht, part_all])).trans (hG (y 0) (y 1)).symm)

/-- The gradient of the residual's gate. -/
theorem final25 {G : Vec Ideal S1x1024 .f32} (hG : Is G fun i j => ∑ s, (R s).dx P j * (R s).y2 P j) :
    (dats m 0 c).arrAt 25 (cfgs 0).N = G := by
  refine (dats m 0 c).arrAt_eq_of_covers 25 _ (by decide +kernel) fun t hf y => ?_
  blk_simp
  rw [after25]
  have ht : t.val + 1 = 32 := by
    have := (flush0_25 t).mp hf
    have := Nat.lt_of_lt_of_eq t.isLt N_0
    omega
  have e : ((cfg0.win 25).blk t).view.emb y = ix2 (y 0) (y 1) := by
    blk_ext [idxG t]
  rw [e]
  exact ((congrArg (acc m c (t.val + 1)).gate (eq_ix2 y)).trans ((sums m c H (t.val + 1) t.isLt).gate (y 0) (y 1))).trans
    ((congrArg (fun a : ℝ => (a : EReal)) (by beta_reduce; rw [ht, part_all])).trans (hG (y 0) (y 1)).symm)

/-- The gradient of the recurrence's norm scale. -/
theorem final26 {G : Vec Ideal S1x512 .f32} (hG : Is G fun i j => ∑ s, (R s).don P j * (R s).oh j) :
    (dats m 0 c).arrAt 26 (cfgs 0).N = G := by
  refine (dats m 0 c).arrAt_eq_of_covers 26 _ (by decide +kernel) fun t hf y => ?_
  blk_simp
  rw [after26]
  have ht : t.val + 1 = 32 := by
    have := (flush0_26 t).mp hf
    have := Nat.lt_of_lt_of_eq t.isLt N_0
    omega
  have e : ((cfg0.win 26).blk t).view.emb y = ix2 (y 0) (y 1) := by
    blk_ext [idxG t]
  rw [e]
  exact ((congrArg (acc m c (t.val + 1)).gbn (eq_ix2 y)).trans ((sums m c H (t.val + 1) t.isLt).gbn (y 0) (y 1))).trans
    ((congrArg (fun a : ℝ => (a : EReal)) (by beta_reduce; rw [ht, part_all])).trans (hG (y 0) (y 1)).symm)

/-- The loss. -/
theorem final27 {G : Vec Ideal S1x1 .f32} (hG : Is G fun i j => (∑ s, (R s).loss P) * (1 / 2048)) :
    (dats m 0 c).arrAt 27 (cfgs 0).N = G := by
  refine (dats m 0 c).arrAt_eq_of_covers 27 _ (by decide +kernel) fun t hf y => ?_
  blk_simp
  rw [after27]
  have ht : t.val + 1 = 32 := by
    have := (flush0_27 t).mp hf
    have := Nat.lt_of_lt_of_eq t.isLt N_0
    omega
  have e : ((cfg0.win 27).blk t).view.emb y = ix2 (y 0) (y 1) := by
    blk_ext [idxG t]
  rw [e]
  exact ((congrArg (acc m c (t.val + 1)).loss (eq_ix2 y)).trans ((sums m c H (t.val + 1) t.isLt).loss (y 0) (y 1))).trans
    ((congrArg (fun a : ℝ => (a : EReal)) (by beta_reduce; rw [ht, part_all])).trans (hG (y 0) (y 1)).symm)

end Cert.Proof.Value

end
-- ==== Proof.InTile.lean ====
/-
  The input projection, entry by entry over the extended reals: the modulated norm of a row and its product with the
  weights, as the version's body computes them on a tile of 512 rows and as the reference states them.
-/
module

public import proofs.«01_k».proof.Proof.Gen.InIdeal.Skeleton
public import proofs.«01_k».proof.Proof.Gen.InReferenceIdeal.Read
public import Idealize.ShloMosaic.Lib.Pointwise

@[expose] public section

set_option maxRecDepth 16384

noncomputable section

namespace Cert.InTile

open Idealize.ShloMosaic

/-- A row's root mean square norm, with the gain and the scale, and the shift. -/
def modulated (x g sc sh : Fin 1024 → EReal) (j : Fin 1024) : EReal :=
  x j * Ideal.rsqrt (Ideal.div (∑ k, x k * x k) (Ideal.ofBits .f32 0x44800000#32) + Ideal.ofBits .f32 0x358637BD#32)
    * (g j * (1 + sc j)) + sh j

section kernel

open Cert.InIdeal Cert.InIdeal.Gen

variable [Cert.InIdeal.Facts]

theorem pay2 (X : Vec Ideal S512x1024 .f32) (g sc sh : Vec Ideal S1x1024 .f32) (i : Fin 512) (j : Fin 1024) :
    k0_pay2 (F := Ideal) X g sc sh (ix2 i j)
      = modulated (fun k => X (ix2 i k)) (fun k => g (ix2 0 k)) (fun k => sc (ix2 0 k)) (fun k => sh (ix2 0 k)) j := by
  pointwise [k0_pay2]
  rfl

theorem pay1 (X : Vec Ideal S512x1024 .f32) (g sc sh : Vec Ideal S1x1024 .f32) (i : Fin 512) (j : Fin 1024) :
    k0_pay1 (F := Ideal) (k0_pay4 (F := Ideal) X g sc) (k0_pay5 (F := Ideal) sh) (ix2 i j)
      = modulated (fun k => X (ix2 i k)) (fun k => g (ix2 0 k)) (fun k => sc (ix2 0 k)) (fun k => sh (ix2 0 k)) j := by
  pointwise [k0_pay1, k0_pay4, k0_pay5]
  rfl

theorem pay3 (H : Vec Ideal S512x1024 .bf16) (W : Vec Ideal S1024x5248 .bf16) (i : Fin 512) (j : Fin 5248) :
    k0_pay3 (F := Ideal) H W (ix2 i j) = ∑ k : Fin 1024, H (ix2 i k) * W (ix2 k j) := by
  pointwise [k0_pay3]

end kernel

section reference

open Cert.InReferenceIdeal Cert.InReferenceIdeal.Gen Cert.InReferenceIdeal.Read

variable (x : Vec Ideal S8192x1024 .f32) (g sc sh : Vec Ideal S1x1024 .f32) (w : Vec Ideal S1024x5248 .bf16)

theorem v17 (i : Fin 8192) (j : Fin 1024) :
    val_main_v17 (F := Ideal) x g sc sh (ix2 i j)
      = modulated (fun k => x (ix2 i k)) (fun k => g (ix2 0 k)) (fun k => sc (ix2 0 k)) (fun k => sh (ix2 0 k)) j := by
  pointwise [val_main_v17, val_main_v16, val_main_v15, val_main_v14, val_main_v13, val_main_v12, val_main_cst_2,
    val_main_v11, val_main_v10, val_main_v9, val_main_v8, val_main_v7, val_main_v6, val_main_v5, val_main_cst_1,
    val_main_v4, val_main_v3, val_main_cst_0, val_main_v2, val_main_v1, val_main_cst, val_main_v0]
  simp only [modulated, mul_assoc]

theorem v21 (i : Fin 8192) (j : Fin 1024) :
    val_main_v21 (F := Ideal) x g sc sh (ix2 i j)
      = modulated (fun k => x (ix2 i k)) (fun k => g (ix2 0 k)) (fun k => sc (ix2 0 k)) (fun k => sh (ix2 0 k)) j :=
  v17 x g sc sh i j

theorem v20 (i : Fin 8192) (j : Fin 5248) :
    val_main_v20 (F := Ideal) x g sc sh w (ix2 i j)
      = ∑ k : Fin 1024, val_main_v21 (F := Ideal) x g sc sh (ix2 i k) * w (ix2 k j) := by
  refine (val_main_v20_apply (F := Ideal) x g sc sh w (ix2 i j)).trans ((val_main_v19_apply x g sc sh w (ix2 i j)).trans ?_)
  refine Finset.sum_congr rfl fun k _ => ?_
  have el : lidx_main_v19 (ix2 i j) k = ix2 i k := funext fun a => by match a with | ⟨0, _⟩ => rfl | ⟨1, _⟩ => rfl
  have er : ridx_main_v19 (ix2 i j) k = ix2 k j := funext fun a => by match a with | ⟨0, _⟩ => rfl | ⟨1, _⟩ => rfl
  rw [el, er]
  rfl

end reference

end Cert.InTile

end
-- ==== Proof.InValue.lean ====
/-
  The input projection's run, read: the version keeps the modulated norm of the next tile in scratch, so at every grid
  point the scratch holds the tile's own norm when the body starts, and the two results end at the reference's.
-/
module

public import proofs.«01_k».proof.Proof.InTile
public import proofs.«01_k».proof.Proof.Gen.InIdeal.Value
public import Idealize.ShloMosaic.Lib.Pointwise
public import Idealize.ShloMosaic.Lib.Pipeline.ValueKit

@[expose] public section

set_option maxRecDepth 16384

noncomputable section

namespace Cert.InValue

open Idealize.ShloMosaic Idealize.ShloMosaic.TcCoe Idealize.ShloMosaic.Tactic Idealize.SL.Sem
open Cert.InIdeal Cert.InIdeal.Gen Cert.InTile

section pieces

variable {F : FTy → Type} [FloatOps F]
variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S1x1024 .f32) (h4 : a4.IsWhole)
  (a5 : Memref sig .tc .vmem S1x1024 .f32) (h5 : a5.IsWhole) (a6 : Memref sig .tc .vmem S1024x5248 .bf16) (h6 : a6.IsWhole)
  (a7 : Memref sig .tc .vmem S512x5248 .bf16) (h7 : a7.IsWhole) (a8 : Memref sig .tc .vmem S512x1024 .bf16) (h8 : a8.IsWhole)
  (a9 : Memref sig .tc .vmem S512x1024 .bf16) (h9 : a9.IsWhole)
  (x0 x1 : Vec F S512x1024 .f32) (x2 x3 x4 : Vec F S1x1024 .f32) (x5 : Vec F S1024x5248 .bf16) (xs : Vec F S512x1024 .bf16)

theorem hz : (![0, 0] : Fin 2 → Nat) = fun _ => 0 := funext fun a => by fin_cases a <;> rfl

/-- Later points: the projection of the norm that the scratch holds. -/
theorem outB6 (hc : ¬cond0_0 i) :
    out0_B_6 c i a1 h1 a2 h2 a3 h3 a4 h4 a5 h5 a6 h6 a7 h7 a8 h8 a9 h9 hc x0 x1 x2 x3 x4 x5 xs = k0_pay3 xs x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xs)]
  unfold kernelRun0_B
  dsimp only
  sl_unfold_words
  rw [View.canon_unit_zero hz]
  simp only [View.readAt_eq_ld, h1.read_unread, h2.read_unread, h3.read_unread, h4.read_unread, h5.read_unread, h6.read_unread,
    h9.read_unread, View.ld_unit_zero (S := S512x1024) hz, View.ld_unit_zero (S := S1024x5248) hz, View.ld_unit_zero (S := S1x1024) hz,
    View.readCov_unit_zero (S := S512x1024) _ hz]

/-- Later points: the norm itself. -/
theorem outB7 (hc : ¬cond0_0 i) :
    out0_B_7 c i a1 h1 a2 h2 a3 h3 a4 h4 a5 h5 a6 h6 a7 h7 a8 h8 a9 h9 hc x0 x1 x2 x3 x4 x5 xs = xs := by
  unfold out0_B_7
  rw [View.read_writes_eq_canon _ _ _ (cover0_B_7 c i a1 h1 a2 h2 a3 h3 a4 h4 a5 h5 a6 h6 a7 h7 a8 h8 a9 h9 hc x0 x1 x2 x3 x4 x5 xs)]
  unfold kernelRun0_B
  dsimp only
  sl_unfold_words
  rw [View.canon_unit_zero hz]
  simp only [View.readAt_eq_ld, h9.read_unread, View.ld_unit_zero (S := S512x1024) hz]

/-- Later points: the next tile's norm goes to the scratch. -/
theorem soutB (hc : ¬cond0_0 i) :
    sout0_B_0 c i a1 h1 a2 h2 a3 h3 a4 h4 a5 h5 a6 h6 a7 h7 a8 h8 a9 h9 hc x0 x1 x2 x3 x4 x5 xs
      = k0_pay1 (k0_pay4 x1 x2 x3) (k0_pay5 x4) := by
  unfold sout0_B_0
  rw [View.read_writes_eq_canon _ _ _ (scover0_B_0 c i a1 h1 a2 h2 a3 h3 a4 h4 a5 h5 a6 h6 a7 h7 a8 h8 a9 h9 hc x0 x1 x2 x3 x4 x5 xs)]
  unfold kernelRun0_B
  dsimp only
  sl_unfold_words
  rw [View.canon_unit_zero hz]
  simp only [View.readAt_eq_ld, h1.read_unread, h2.read_unread, h3.read_unread, h4.read_unread, h5.read_unread, h6.read_unread,
    h9.read_unread, View.ld_unit_zero (S := S512x1024) hz, View.ld_unit_zero (S := S1x1024) hz]

/-- The first point: the norm of the first tile is made there. -/
theorem outA6 (hc : cond0_0 i) :
    out0_A_6 c i a1 h1 a2 h2 a3 h3 a4 h4 a5 h5 a6 h6 a7 h7 a8 h8 a9 h9 hc x0 x1 x2 x3 x4 x5 = k0_pay3 (k0_pay2 x0 x2 x3 x4) x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S512x1024) hz, View.ld_unit_zero (S := S1024x5248) hz, View.ld_unit_zero (S := S1x1024) hz,
    View.readCov_unit_zero (S := S512x1024) _ hz]

theorem outA7 (hc : cond0_0 i) :
    out0_A_7 c i a1 h1 a2 h2 a3 h3 a4 h4 a5 h5 a6 h6 a7 h7 a8 h8 a9 h9 hc x0 x1 x2 x3 x4 x5 = k0_pay2 x0 x2 x3 x4 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S512x1024) hz, View.ld_unit_zero (S := S1x1024) hz,
    View.readCov_unit_zero (S := S512x1024) _ hz]

theorem soutA (hc : cond0_0 i) :
    sout0_A_0 c i a1 h1 a2 h2 a3 h3 a4 h4 a5 h5 a6 h6 a7 h7 a8 h8 a9 h9 hc x0 x1 x2 x3 x4 x5
      = k0_pay1 (k0_pay4 x1 x2 x3) (k0_pay5 x4) := by
  unfold sout0_A_0
  rw [View.read_writes_eq_canon _ _ _ (scover0_A_0 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S512x1024) hz]
  simp only [View.readAt_eq_ld, h1.read_unread, h2.read_unread, h3.read_unread, h4.read_unread, h5.read_unread, h6.read_unread,
    View.ld_unit_zero (S := S512x1024) hz, View.ld_unit_zero (S := S1x1024) hz]

end pieces

/-- The row of the array that is row `s` of tile `n`. -/
def rowAt (n : ℕ) (s : Fin 512) : Fin 8192 := ⟨(512 * n + s.val) % 8192, Nat.mod_lt _ (by decide)⟩

/-- Where the blocks lie at a point, in blocks: of `x` the point's tile's successor (and the first tile). -/
theorem idxX : ∀ t : Fin cfg0.N,
    win0_0.index t = ![0, 0] ∧ win0_1.index t = ![min (t.val + 1) 15, 0] ∧ win0_2.index t = ![0, 0] ∧ win0_3.index t = ![0, 0]
      ∧ win0_4.index t = ![0, 0] ∧ win0_5.index t = ![0, 0] ∧ win0_6.index t = ![t.val, 0] ∧ win0_7.index t = ![t.val, 0] :=
  (by decide +kernel : ∀ t : Fin grid0.N, _)

theorem rowAt_val (n : ℕ) (hn : n < 16) (s : Fin 512) : (rowAt n s).val = 512 * n + s.val := by
  show (512 * n + s.val) % 8192 = _
  omega

variable (m : (ℓ : Loc nD τ sig) → Buf (Elt Ideal) ℓ) (c : Dev nD)

theorem blk0 (t : Fin cfg0.N) (i : Fin 512) (j : Fin 1024) :
    iblk m c 0 t (ix2 i j) = m ((c : Thread nD τ).loc main_arg0) (ix2 (rowAt 0 i) j) := by
  have := rowAt_val 0 (by decide) i
  blk_ext [iblk, V, idxX t]

theorem blk1 (t : Fin cfg0.N) (i : Fin 512) (j : Fin 1024) :
    iblk m c 1 t (ix2 i j) = m ((c : Thread nD τ).loc main_arg0) (ix2 (rowAt (min (t.val + 1) 15) i) j) := by
  have := rowAt_val (min (t.val + 1) 15) (by omega) i
  blk_ext [iblk, V, idxX t]

theorem blk2 (t : Fin cfg0.N) (i : Fin 1) (j : Fin 1024) :
    iblk m c 2 t (ix2 i j) = m ((c : Thread nD τ).loc main_arg1) (ix2 i j) := by
  blk_ext [iblk, V, idxX t]

theorem blk3 (t : Fin cfg0.N) (i : Fin 1) (j : Fin 1024) :
    iblk m c 3 t (ix2 i j) = m ((c : Thread nD τ).loc main_arg2) (ix2 i j) := by
  blk_ext [iblk, V, idxX t]

theorem blk4 (t : Fin cfg0.N) (i : Fin 1) (j : Fin 1024) :
    iblk m c 4 t (ix2 i j) = m ((c : Thread nD τ).loc main_arg3) (ix2 i j) := by
  blk_ext [iblk, V, idxX t]

theorem blk5 (t : Fin cfg0.N) (i : Fin 1024) (j : Fin 5248) :
    iblk m c 5 t (ix2 i j) = m ((c : Thread nD τ).loc main_arg4) (ix2 i j) := by
  blk_ext [iblk, V, idxX t]

/-- The modulated norm of row `r`, from the argument arrays. -/
def hrow (r : Fin 8192) : Fin 1024 → EReal :=
  modulated (fun k => m ((c : Thread nD τ).loc main_arg0) (ix2 r k)) (fun k => m ((c : Thread nD τ).loc main_arg1) (ix2 0 k))
    (fun k => m ((c : Thread nD τ).loc main_arg2) (ix2 0 k)) (fun k => m ((c : Thread nD τ).loc main_arg3) (ix2 0 k))

theorem first_tile (t : Fin cfg0.N) (i : Fin 512) (j : Fin 1024) :
    k0_pay2 (F := Ideal) (iblk m c 0 t) (iblk m c 2 t) (iblk m c 3 t) (iblk m c 4 t) (ix2 i j) = hrow m c (rowAt 0 i) j := by
  refine (pay2 (iblk m c 0 t) (iblk m c 2 t) (iblk m c 3 t) (iblk m c 4 t) i j).trans ?_
  simp only [blk0, blk2, blk3, blk4]
  rfl

theorem next_tile (t : Fin cfg0.N) (i : Fin 512) (j : Fin 1024) :
    k0_pay1 (F := Ideal) (k0_pay4 (F := Ideal) (iblk m c 1 t) (iblk m c 2 t) (iblk m c 3 t)) (k0_pay5 (F := Ideal) (iblk m c 4 t)) (ix2 i j)
      = hrow m c (rowAt (min (t.val + 1) 15) i) j := by
  refine (pay1 (iblk m c 1 t) (iblk m c 2 t) (iblk m c 3 t) (iblk m c 4 t) i j).trans ?_
  simp only [blk1, blk2, blk3, blk4]
  rfl

/-- What the outputs' buffers and the scratch hold after point `n`. -/
structure Holds (n : ℕ) (o : Vec Ideal S512x5248 .bf16 × Vec Ideal S512x1024 .bf16 × Vec Ideal S512x1024 .bf16) : Prop where
  proj : ∀ (i : Fin 512) (j : Fin 5248),
    o.1 (ix2 i j) = ∑ k : Fin 1024, hrow m c (rowAt n i) k * m ((c : Thread nD τ).loc main_arg4) (ix2 k j)
  norm : ∀ (i : Fin 512) (j : Fin 1024), o.2.1 (ix2 i j) = hrow m c (rowAt n i) j
  next : ∀ (i : Fin 512) (j : Fin 1024), o.2.2 (ix2 i j) = hrow m c (rowAt (min (n + 1) 15) i) j

theorem proj_of (t : Fin cfg0.N) (n : ℕ) (X : Vec Ideal S512x1024 .bf16) (h : ∀ (i : Fin 512) (j : Fin 1024), X (ix2 i j) = hrow m c (rowAt n i) j)
    (i : Fin 512) (j : Fin 5248) : k0_pay3 (F := Ideal) X (iblk m c 5 t) (ix2 i j)
      = ∑ k : Fin 1024, hrow m c (rowAt n i) k * m ((c : Thread nD τ).loc main_arg4) (ix2 k j) := by
  refine (pay3 X (iblk m c 5 t) i j).trans (Finset.sum_congr rfl fun k _ => ?_)
  rw [h i k, blk5]

theorem holds : ∀ (n : ℕ) (h : n < cfg0.N), Holds m c n (outsAt0 m c n h)
  | 0, h => by
    rw [outsAt0_A m c ⟨0, h⟩ rfl, outA6, outA7, soutA]
    exact ⟨proj_of m c ⟨0, h⟩ 0 _ (first_tile m c ⟨0, h⟩), first_tile m c ⟨0, h⟩, next_tile m c ⟨0, h⟩⟩
  | n + 1, h => by
    have hN : cfg0.N = 16 := N_0
    have hB : ¬(⟨n + 1, h⟩ : Fin cfg0.N).val % 16 = 0 := by dsimp only; omega
    have ih := holds n (Nat.lt_of_succ_lt h)
    have e : min (n + 1) 15 = n + 1 := by omega
    rw [outsAt0_B m c ⟨n + 1, h⟩ hB, outB6, outB7, soutB]
    have hs : ∀ (i : Fin 512) (j : Fin 1024),
        (outsAt0 m c ((⟨n + 1, h⟩ : Fin cfg0.N).val - 1) (Nat.lt_of_le_of_lt (Nat.sub_le _ _) h)).2.2 (ix2 i j) = hrow m c (rowAt (n + 1) i) j := by
      intro i j
      have := ih.next i j
      rw [e] at this
      exact this
    exact ⟨proj_of m c ⟨n + 1, h⟩ (n + 1) _ hs, hs, next_tile m c ⟨n + 1, h⟩⟩

/-- The projection's array. -/
theorem final6 : (dats m 0 c).arrAt 6 (cfgs 0).N
    = Cert.InReferenceIdeal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have ht : t.val < 16 := Nat.lt_of_lt_of_eq t.isLt N_0
  have e : ((cfg0.win 6).blk t).view.emb y = ix2 (rowAt t.val (y 0)) (y 1) := by
    have := rowAt_val t.val ht (y 0)
    blk_ext [idxX t]
  rw [e]
  refine ((congrArg (outsAt0 m c t.val t.isLt).1 (eq_ix2 y)).trans ((holds m c t.val t.isLt).proj (y 0) (y 1))).trans ?_
  refine Eq.trans ?_ (v20 _ _ _ _ _ _ _).symm
  refine Finset.sum_congr rfl fun k _ => ?_
  rw [v21]
  rfl

/-- The norm's array. -/
theorem final7 : (dats m 0 c).arrAt 7 (cfgs 0).N
    = Cert.InReferenceIdeal.Read.val_main_v21 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 7 _ (by decide +kernel) fun t hf y => ?_
  blk_simp
  rw [after0_7]
  have ht : t.val < 16 := Nat.lt_of_lt_of_eq t.isLt N_0
  have e : ((cfg0.win 7).blk t).view.emb y = ix2 (rowAt t.val (y 0)) (y 1) := by
    have := rowAt_val t.val ht (y 0)
    blk_ext [idxX t]
  rw [e]
  exact ((congrArg (outsAt0 m c t.val t.isLt).2.1 (eq_ix2 y)).trans ((holds m c t.val t.isLt).norm (y 0) (y 1))).trans
    (v21 _ _ _ _ _ _).symm

end Cert.InValue

end
-- ==== Proof.PartIn.lean ====
/-
  The claims of the forward input projection: the two frames and the reference's, and the value claim.
-/
module

public import proofs.«01_k».proof.Defs
public import proofs.«01_k».proof.Proof.InValue
public import proofs.«01_k».proof.Proof.Gen.In.Frame
public import proofs.«01_k».proof.Proof.Gen.InIdeal.Frame
public import proofs.«01_k».proof.Proof.Gen.InReferenceIdeal.Run

@[expose] public section

noncomputable section

namespace Cert.PartIn

open Idealize.ShloMosaic Idealize.SL.Sem Idealize.ShloMosaic.StableHlo

theorem frame_kernel : Cert.quiescent_In := fun m ρ _ => Cert.In.Gen.frame m ρ

theorem frame_ideal : Cert.quiescent_InIdeal := fun m ρ _ => Cert.InIdeal.Gen.frame m ρ

theorem frame_reference : Cert.quiescent_InReferenceIdeal := fun m ρ _ =>
  (θ_run Cert.InReferenceIdeal.defs _ _).mono
    (fun r h => ⟨fun c => (h c).2.2, sem_eq_zero_of_no_sems (by decide) r.2⟩)
    (Cert.InReferenceIdeal.Value.run (F := Ideal) m ρ)

open Cert.InReferenceIdeal.Read in
theorem algebraic : Cert.algebraic_InIdeal_InReferenceIdeal := by
  intro m g m' g' _ hag
  refine ⟨fun c => _, fun c => _,
    (θ_run _ _ _).mono (fun r h c => ⟨(h c).1.trans (InValue.final6 m c), (h c).2.1.trans (InValue.final7 m c), (h c).2.2⟩)
      (Cert.InIdeal.Value.run_blocks m g),
    (θ_run _ _ _).mono (fun r h c => ?_) (Cert.InReferenceIdeal.Value.run (F := Ideal) m' g')⟩
  obtain ⟨h0, h1, h2, h3, h4⟩ := hag c
  refine ⟨(h c).1.trans ((val_main_v20_eq _ _ _ _ _).trans ?_), (h c).2.1.trans ((val_main_v21_eq _ _ _ _).trans ?_), (h c).2.2⟩
  · rw [h0, h1, h2, h3, h4]
  · rw [h0, h1, h2, h3]

end Cert.PartIn

end
-- ==== Proof.BackTile.lean ====
/-
  The backward input projection, entry by entry over the extended reals: the gradient of a row of the norm's output, the
  gradient of the row itself, and the column sums of one tile, as the version's body computes them and as the reference
  states them.
-/
module

public import proofs.«01_k».proof.Proof.Gen.BackIdeal.Skeleton
public import proofs.«01_k».proof.Proof.Gen.BackReferenceIdeal.Read
public import Idealize.ShloMosaic.Lib.Pointwise

@[expose] public section

set_option maxRecDepth 16384

noncomputable section

namespace Cert.BackTile

open Idealize.ShloMosaic

/-- One entry of the gradient of the norm's output: five groups of columns times the matching columns of the weights. -/
def dhOf (a b : Fin 1024 → EReal) (v : Fin 512 → EReal) (z : Fin 2560 → EReal) (l : Fin 128 → EReal)
    (wa wb : Fin 1024 → EReal) (wv : Fin 512 → EReal) (wz : Fin 2560 → EReal) (wl : Fin 128 → EReal) : EReal :=
  (∑ k, a k * wa k) + (∑ k, b k * wb k) + (∑ k, v k * wv k) + (∑ k, z k * wz k) + ∑ k, l k * wl k

/-- The reciprocal root mean square of a row. -/
def rsOf (x : Fin 1024 → EReal) : EReal :=
  Ideal.rsqrt (Ideal.div (∑ k, x k * x k) (Ideal.ofBits .f32 0x44800000#32) + Ideal.ofBits .f32 0x358637BD#32)

/-- The gradient of a row of the input. -/
def gxOf (dx1 dh x g sc : Fin 1024 → EReal) (j : Fin 1024) : EReal :=
  dx1 j + rsOf x * (dh j * (g j * (1 + sc j))
    - x j * rsOf x * Ideal.div (∑ k, dh k * (g k * (1 + sc k)) * (x k * rsOf x)) (Ideal.ofBits .f32 0x44800000#32))

section kernel

open Cert.BackIdeal Cert.BackIdeal.Gen

variable [Cert.BackIdeal.Facts]

theorem pay5 (A : Vec Ideal S512x1024 .bf16) (WA : Vec Ideal S1024x1024 .bf16) (B : Vec Ideal S512x1024 .bf16) (WB : Vec Ideal S1024x1024 .bf16)
    (V : Vec Ideal S512x512 .bf16) (WV : Vec Ideal S1024x512 .bf16) (Z : Vec Ideal S512x2560 .bf16) (WZ : Vec Ideal S1024x2560 .bf16)
    (L : Vec Ideal S512x128 .bf16) (WL : Vec Ideal S1024x128 .bf16) (i : Fin 512) (j : Fin 1024) :
    k0_pay5 (F := Ideal) A WA B WB V WV Z WZ L WL (ix2 i j)
      = dhOf (fun k => A (ix2 i k)) (fun k => B (ix2 i k)) (fun k => V (ix2 i k)) (fun k => Z (ix2 i k)) (fun k => L (ix2 i k))
          (fun k => WA (ix2 j k)) (fun k => WB (ix2 j k)) (fun k => WV (ix2 j k)) (fun k => WZ (ix2 j k)) (fun k => WL (ix2 j k)) := by
  pointwise [k0_pay5]
  rfl

variable (D : FVec Ideal S512x1024 .f32) (X : Vec Ideal S512x1024 .f32) (G SC : Vec Ideal S1x1024 .f32)

theorem pay1 (DX : Vec Ideal S512x1024 .f32) (i : Fin 512) (j : Fin 1024) :
    k0_pay1 (F := Ideal) D (k0_pay8 (k0_pay6 X) k0_pay7) (k0_pay9 X (k0_pay6 X) k0_pay7) G SC k0_pay14 DX (ix2 i j)
      = gxOf (fun k => DX (ix2 i k)) (fun k => D (ix2 i k)) (fun k => X (ix2 i k)) (fun k => G (ix2 0 k)) (fun k => SC (ix2 0 k)) j := by
  pointwise [k0_pay1, k0_pay8, k0_pay9, k0_pay6, k0_pay7, k0_pay14]
  rfl

theorem pay11 (O : Vec Ideal S1x1024 .f32) (j : Fin 1024) :
    k0_pay11 (F := Ideal) D O (ix2 0 j) = O (ix2 0 j) + ∑ s : Fin 512, D (ix2 s j) := by
  pointwise [k0_pay11]

theorem pay12 (O : Vec Ideal S1x1024 .f32) (j : Fin 1024) :
    k0_pay12 (F := Ideal) D X (k0_pay6 X) k0_pay7 O G (ix2 0 j)
      = O (ix2 0 j) + (∑ s : Fin 512, D (ix2 s j) * (X (ix2 s j) * rsOf fun k => X (ix2 s k))) * G (ix2 0 j) := by
  pointwise [k0_pay12, k0_pay10, k0_pay8, k0_pay9, k0_pay6, k0_pay7]
  rfl

theorem pay13 (O : Vec Ideal S1x1024 .f32) (j : Fin 1024) :
    k0_pay13 (F := Ideal) D X (k0_pay6 X) k0_pay7 O SC (ix2 0 j)
      = O (ix2 0 j) + (∑ s : Fin 512, D (ix2 s j) * (X (ix2 s j) * rsOf fun k => X (ix2 s k))) * (1 + SC (ix2 0 j)) := by
  pointwise [k0_pay13, k0_pay10, k0_pay8, k0_pay9, k0_pay6, k0_pay7]
  rfl

theorem pay2 (j : Fin 1024) : k0_pay2 (F := Ideal) (ix2 0 j) = 0 := by
  pointwise [k0_pay2]

theorem pay3 (j : Fin 1024) : k0_pay3 (F := Ideal) (ix2 0 j) = 0 := by
  pointwise [k0_pay3]

theorem pay4 (j : Fin 1024) : k0_pay4 (F := Ideal) (ix2 0 j) = 0 := by
  pointwise [k0_pay4]

end kernel

section reference

open Cert.BackReferenceIdeal Cert.BackReferenceIdeal.Gen Cert.BackReferenceIdeal.Read

variable (x0 x1 : Vec Ideal S8192x1024 .f32) (x2 x3 : Vec Ideal S8192x1024 .bf16) (x4 : Vec Ideal S8192x512 .bf16)
  (x5 : Vec Ideal S8192x2560 .bf16) (x6 : Vec Ideal S8192x128 .bf16) (x7 : Vec Ideal S1024x5248 .bf16) (x8 x9 : Vec Ideal S1x1024 .f32)

/-- Row `i` of the gradient of the norm's output. -/
def dhRow (i : Fin 8192) (j : Fin 1024) : EReal :=
  dhOf (fun k => x2 (ix2 i k)) (fun k => x3 (ix2 i k)) (fun k => x4 (ix2 i k)) (fun k => x5 (ix2 i k)) (fun k => x6 (ix2 i k))
    (fun k => x7 (ix2 j ⟨k.val, by omega⟩)) (fun k => x7 (ix2 j ⟨1024 + k.val, by omega⟩)) (fun k => x7 (ix2 j ⟨2048 + k.val, by omega⟩))
    (fun k => x7 (ix2 j ⟨2560 + k.val, by omega⟩)) (fun k => x7 (ix2 j ⟨5120 + k.val, by omega⟩))

theorem v24 (i : Fin 8192) (j : Fin 1024) : val_main_v24 (F := Ideal) x2 x3 x4 x5 x6 x7 (ix2 i j) = dhRow x2 x3 x4 x5 x6 x7 i j := by
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0]
  rfl

theorem v32 (i : Fin 8192) : val_main_v32 (F := Ideal) x0 (ix2 i 0) = rsOf fun k => x0 (ix2 i k) := by
  pointwise [val_main_v32, val_main_v31, val_main_v30, val_main_cst_1, val_main_v29, val_main_v28, val_main_cst_0, val_main_v27,
    val_main_v26, val_main_cst, val_main_v25]
  rfl

theorem v34 (i : Fin 8192) (j : Fin 1024) :
    val_main_v34 (F := Ideal) x0 (ix2 i j) = x0 (ix2 i j) * rsOf fun k => x0 (ix2 i k) := by
  rw [← v32 x0 i]
  pointwise [val_main_v34, val_main_v33]

theorem v39 (j : Fin 1024) :
    val_main_v39 (F := Ideal) x2 x3 x4 x5 x6 x7 (ix2 0 j) = ∑ r : Fin 8192, dhRow x2 x3 x4 x5 x6 x7 r j := by
  refine Eq.trans ?_ (Finset.sum_congr rfl fun r _ => v24 x2 x3 x4 x5 x6 x7 r j)
  pointwise [val_main_v39, val_main_v38, val_main_cst_3]

theorem v37 (j : Fin 1024) :
    val_main_v37 (F := Ideal) x0 x2 x3 x4 x5 x6 x7 (ix2 0 j)
      = ∑ r : Fin 8192, dhRow x2 x3 x4 x5 x6 x7 r j * (x0 (ix2 r j) * rsOf fun k => x0 (ix2 r k)) := by
  refine Eq.trans ?_ (Finset.sum_congr rfl fun r _ => congrArg₂ (· * ·) (v24 x2 x3 x4 x5 x6 x7 r j) (v34 x0 r j))
  pointwise [val_main_v37, val_main_v36, val_main_cst_2, val_main_v35]

theorem v40 (j : Fin 1024) :
    val_main_v40 (F := Ideal) x0 x2 x3 x4 x5 x6 x7 x8 (ix2 0 j)
      = (∑ r : Fin 8192, dhRow x2 x3 x4 x5 x6 x7 r j * (x0 (ix2 r j) * rsOf fun k => x0 (ix2 r k))) * x8 (ix2 0 j) := by
  rw [← v37]
  pointwise [val_main_v40]

theorem v43 (j : Fin 1024) :
    val_main_v43 (F := Ideal) x0 x2 x3 x4 x5 x6 x7 x9 (ix2 0 j)
      = (∑ r : Fin 8192, dhRow x2 x3 x4 x5 x6 x7 r j * (x0 (ix2 r j) * rsOf fun k => x0 (ix2 r k))) * (1 + x9 (ix2 0 j)) := by
  rw [← v37]
  pointwise [val_main_v43, val_main_v42, val_main_v41, val_main_cst_4]

theorem v59 (i : Fin 8192) (j : Fin 1024) :
    val_main_v59 (F := Ideal) x0 x1 x2 x3 x4 x5 x6 x7 x8 x9 (ix2 i j)
      = gxOf (fun k => x1 (ix2 i k)) (fun k => dhRow x2 x3 x4 x5 x6 x7 i k) (fun k => x0 (ix2 i k)) (fun k => x8 (ix2 0 k))
          (fun k => x9 (ix2 0 k)) j := by
  unfold gxOf
  pointwise [val_main_v59, val_main_v58, val_main_v57, val_main_v56, val_main_v55, val_main_v54, val_main_v53, val_main_v52, val_main_cst_7,
    val_main_v51, val_main_v50, val_main_cst_6, val_main_v49, val_main_v48, val_main_v47, val_main_v46, val_main_v45, val_main_v44,
    val_main_cst_5]
  simp only [v24, v34, v32]

end reference

end Cert.BackTile

end
-- ==== Proof.BackValue.lean ====
/-
  The backward input projection's run, read: the gradient of the input goes out tile by tile, and three column sums
  accumulate over the grid in their output blocks, from zero.
-/
module

public import proofs.«01_k».proof.Proof.BackTile
public import proofs.«01_k».proof.Proof.Gen.BackIdeal.Value
public import Idealize.ShloMosaic.Lib.Pointwise
public import Idealize.ShloMosaic.Lib.Pipeline.ValueKit

@[expose] public section

set_option maxRecDepth 16384

noncomputable section

namespace Cert.BackValue

open Idealize.ShloMosaic Idealize.ShloMosaic.TcCoe Idealize.ShloMosaic.Tactic Idealize.SL.Sem
open Cert.BackIdeal Cert.BackIdeal.Gen Cert.BackTile

section pieces

variable {F : FTy → Type} [FloatOps F]
variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S512x1024 .bf16) (h3 : a3.IsWhole)
  (a4 : Memref sig .tc .vmem S512x1024 .bf16) (h4 : a4.IsWhole)
  (a5 : Memref sig .tc .vmem S512x512 .bf16) (h5 : a5.IsWhole)
  (a6 : Memref sig .tc .vmem S512x2560 .bf16) (h6 : a6.IsWhole)
  (a7 : Memref sig .tc .vmem S512x128 .bf16) (h7 : a7.IsWhole)
  (a8 : Memref sig .tc .vmem S1024x1024 .bf16) (h8 : a8.IsWhole)
  (a9 : Memref sig .tc .vmem S1024x1024 .bf16) (h9 : a9.IsWhole)
  (a10 : Memref sig .tc .vmem S1024x512 .bf16) (h10 : a10.IsWhole)
  (a11 : Memref sig .tc .vmem S1024x2560 .bf16) (h11 : a11.IsWhole)
  (a12 : Memref sig .tc .vmem S1024x128 .bf16) (h12 : a12.IsWhole)
  (a13 : Memref sig .tc .vmem S1x1024 .f32) (h13 : a13.IsWhole)
  (a14 : Memref sig .tc .vmem S1x1024 .f32) (h14 : a14.IsWhole)
  (a15 : Memref sig .tc .vmem S512x1024 .f32) (h15 : a15.IsWhole)
  (a16 : Memref sig .tc .vmem S1x1024 .f32) (h16 : a16.IsWhole)
  (a17 : Memref sig .tc .vmem S1x1024 .f32) (h17 : a17.IsWhole)
  (a18 : Memref sig .tc .vmem S1x1024 .f32) (h18 : a18.IsWhole)
  (x0 : Vec F S512x1024 .f32) (x1 : Vec F S512x1024 .f32) (x2 : Vec F S512x1024 .bf16) (x3 : Vec F S512x1024 .bf16) (x4 : Vec F S512x512 .bf16) (x5 : Vec F S512x2560 .bf16) (x6 : Vec F S512x128 .bf16) (x7 : Vec F S1024x1024 .bf16) (x8 : Vec F S1024x1024 .bf16) (x9 : Vec F S1024x512 .bf16) (x10 : Vec F S1024x2560 .bf16) (x11 : Vec F S1024x128 .bf16) (x12 : Vec F S1x1024 .f32) (x13 : Vec F S1x1024 .f32)
  (xo15 xo16 xo17 : Vec F S1x1024 .f32)

theorem hz : (![0, 0] : Fin 2 → Nat) = fun _ => 0 := funext fun a => by fin_cases a <;> rfl

theorem outA14 (hc : cond0_0 i) :
    out0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13
      = k0_pay1 (k0_pay5 x2 x7 x3 x8 x4 x9 x5 x10 x6 x11) (k0_pay8 (k0_pay6 x0) k0_pay7) (k0_pay9 x0 (k0_pay6 x0) k0_pay7) x12 x13 k0_pay14 x1 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S512x1024) hz, View.ld_unit_zero (S := S512x512) hz, View.ld_unit_zero (S := S512x2560) hz, View.ld_unit_zero (S := S512x128) hz, View.ld_unit_zero (S := S1024x1024) hz, View.ld_unit_zero (S := S1024x512) hz, View.ld_unit_zero (S := S1024x2560) hz, View.ld_unit_zero (S := S1024x128) hz, View.ld_unit_zero (S := S1x1024) hz]

theorem outA15 (hc : cond0_0 i) :
    out0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13
      = k0_pay11 (k0_pay5 x2 x7 x3 x8 x4 x9 x5 x10 x6 x11) k0_pay2 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13)]
  unfold kernelRun0_A
  dsimp only
  sl_unfold_words
  rw [View.canon_cons_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S512x1024) hz, View.ld_unit_zero (S := S512x512) hz, View.ld_unit_zero (S := S512x2560) hz, View.ld_unit_zero (S := S512x128) hz, View.ld_unit_zero (S := S1024x1024) hz, View.ld_unit_zero (S := S1024x512) hz, View.ld_unit_zero (S := S1024x2560) hz, View.ld_unit_zero (S := S1024x128) hz, View.ld_unit_zero (S := S1x1024) hz, View.readCov_unit_zero (S := S1x1024) _ hz]

theorem outA16 (hc : cond0_0 i) :
    out0_A_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13
      = k0_pay12 (k0_pay5 x2 x7 x3 x8 x4 x9 x5 x10 x6 x11) x0 (k0_pay6 x0) k0_pay7 k0_pay3 x12 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13)]
  unfold kernelRun0_A
  dsimp only
  sl_unfold_words
  rw [View.canon_cons_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S512x1024) hz, View.ld_unit_zero (S := S512x512) hz, View.ld_unit_zero (S := S512x2560) hz, View.ld_unit_zero (S := S512x128) hz, View.ld_unit_zero (S := S1024x1024) hz, View.ld_unit_zero (S := S1024x512) hz, View.ld_unit_zero (S := S1024x2560) hz, View.ld_unit_zero (S := S1024x128) hz, View.ld_unit_zero (S := S1x1024) hz, View.readCov_unit_zero (S := S1x1024) _ hz]

theorem outA17 (hc : cond0_0 i) :
    out0_A_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13
      = k0_pay13 (k0_pay5 x2 x7 x3 x8 x4 x9 x5 x10 x6 x11) x0 (k0_pay6 x0) k0_pay7 k0_pay4 x13 := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13)]
  unfold kernelRun0_A
  dsimp only
  sl_unfold_words
  rw [View.canon_cons_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S512x1024) hz, View.ld_unit_zero (S := S512x512) hz, View.ld_unit_zero (S := S512x2560) hz, View.ld_unit_zero (S := S512x128) hz, View.ld_unit_zero (S := S1024x1024) hz, View.ld_unit_zero (S := S1024x512) hz, View.ld_unit_zero (S := S1024x2560) hz, View.ld_unit_zero (S := S1024x128) hz, View.ld_unit_zero (S := S1x1024) hz, View.readCov_unit_zero (S := S1x1024) _ hz]

theorem outB14 (hc : ¬cond0_0 i) :
    out0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo15 xo16 xo17
      = k0_pay1 (k0_pay5 x2 x7 x3 x8 x4 x9 x5 x10 x6 x11) (k0_pay8 (k0_pay6 x0) k0_pay7) (k0_pay9 x0 (k0_pay6 x0) k0_pay7) x12 x13 k0_pay14 x1 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo15 xo16 xo17)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S512x1024) hz, View.ld_unit_zero (S := S512x512) hz, View.ld_unit_zero (S := S512x2560) hz, View.ld_unit_zero (S := S512x128) hz, View.ld_unit_zero (S := S1024x1024) hz, View.ld_unit_zero (S := S1024x512) hz, View.ld_unit_zero (S := S1024x2560) hz, View.ld_unit_zero (S := S1024x128) hz, View.ld_unit_zero (S := S1x1024) hz]

theorem outB15 (hc : ¬cond0_0 i) :
    out0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo15 xo16 xo17
      = k0_pay11 (k0_pay5 x2 x7 x3 x8 x4 x9 x5 x10 x6 x11) xo15 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo15 xo16 xo17)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S512x1024) hz, View.ld_unit_zero (S := S512x512) hz, View.ld_unit_zero (S := S512x2560) hz, View.ld_unit_zero (S := S512x128) hz, View.ld_unit_zero (S := S1024x1024) hz, View.ld_unit_zero (S := S1024x512) hz, View.ld_unit_zero (S := S1024x2560) hz, View.ld_unit_zero (S := S1024x128) hz, View.ld_unit_zero (S := S1x1024) hz]

theorem outB16 (hc : ¬cond0_0 i) :
    out0_B_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo15 xo16 xo17
      = k0_pay12 (k0_pay5 x2 x7 x3 x8 x4 x9 x5 x10 x6 x11) x0 (k0_pay6 x0) k0_pay7 xo16 x12 := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo15 xo16 xo17)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S512x1024) hz, View.ld_unit_zero (S := S512x512) hz, View.ld_unit_zero (S := S512x2560) hz, View.ld_unit_zero (S := S512x128) hz, View.ld_unit_zero (S := S1024x1024) hz, View.ld_unit_zero (S := S1024x512) hz, View.ld_unit_zero (S := S1024x2560) hz, View.ld_unit_zero (S := S1024x128) hz, View.ld_unit_zero (S := S1x1024) hz]

theorem outB17 (hc : ¬cond0_0 i) :
    out0_B_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo15 xo16 xo17
      = k0_pay13 (k0_pay5 x2 x7 x3 x8 x4 x9 x5 x10 x6 x11) x0 (k0_pay6 x0) k0_pay7 xo17 x13 := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo15 xo16 xo17)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S512x1024) hz, View.ld_unit_zero (S := S512x512) hz, View.ld_unit_zero (S := S512x2560) hz, View.ld_unit_zero (S := S512x128) hz, View.ld_unit_zero (S := S1024x1024) hz, View.ld_unit_zero (S := S1024x512) hz, View.ld_unit_zero (S := S1024x2560) hz, View.ld_unit_zero (S := S1024x128) hz, View.ld_unit_zero (S := S1x1024) hz]

end pieces

/-- The row of the array that is row `s` of tile `n`. -/
def rowAt (n : ℕ) (s : Fin 512) : Fin 8192 := ⟨(512 * n + s.val) % 8192, Nat.mod_lt _ (by decide)⟩

theorem rowAt_val (n : ℕ) (hn : n < 16) (s : Fin 512) : (rowAt n s).val = 512 * n + s.val := by
  show (512 * n + s.val) % 8192 = _
  omega

/-- The sixteen tiles' rows are all the rows. -/
theorem rows_sum (f : Fin 8192 → EReal) : ∑ t ∈ Finset.range 16, ∑ s : Fin 512, f (rowAt t s) = ∑ r, f r := by
  rw [Finset.sum_range, ← Equiv.sum_comp (finProdFinEquiv (m := 16) (n := 512)) f, Fintype.sum_prod_type]
  refine Finset.sum_congr rfl fun t _ => Finset.sum_congr rfl fun s _ => congrArg f (Fin.ext ?_)
  show (512 * t.val + s.val) % 8192 = s.val + 512 * t.val
  omega

/-- Where the blocks lie at a point, in blocks. -/
theorem idxX : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] :=
  (by decide +kernel : ∀ t : Fin grid0.N, _)

theorem idxW : ∀ t : Fin cfg0.N,
    win0_7.index t = ![0, 0] ∧ win0_8.index t = ![0, 1] ∧ win0_9.index t = ![0, 4] ∧ win0_10.index t = ![0, 1]
      ∧ win0_11.index t = ![0, 40] ∧ win0_12.index t = ![0, 0] ∧ win0_13.index t = ![0, 0] :=
  (by decide +kernel : ∀ t : Fin grid0.N, _)

theorem idxO : ∀ t : Fin cfg0.N,
    win0_14.index t = ![t.val, 0] ∧ win0_15.index t = ![0, 0] ∧ win0_16.index t = ![0, 0] ∧ win0_17.index t = ![0, 0] :=
  (by decide +kernel : ∀ t : Fin grid0.N, _)

variable (m : (ℓ : Loc nD τ sig) → Buf (Elt Ideal) ℓ) (c : Dev nD)

theorem blk0 (t : Fin cfg0.N) (i : Fin 512) (j : Fin 1024) :
    iblk m c 0 t (ix2 i j) = m ((c : Thread nD τ).loc main_arg0) (ix2 (rowAt t.val i) j) := by
  have := rowAt_val t.val (Nat.lt_of_lt_of_eq t.isLt N_0) i
  blk_ext [iblk, V, idxX t]

theorem blk1 (t : Fin cfg0.N) (i : Fin 512) (j : Fin 1024) :
    iblk m c 1 t (ix2 i j) = m ((c : Thread nD τ).loc main_arg1) (ix2 (rowAt t.val i) j) := by
  have := rowAt_val t.val (Nat.lt_of_lt_of_eq t.isLt N_0) i
  blk_ext [iblk, V, idxX t]

theorem blk2 (t : Fin cfg0.N) (i : Fin 512) (j : Fin 1024) :
    iblk m c 2 t (ix2 i j) = m ((c : Thread nD τ).loc main_arg2) (ix2 (rowAt t.val i) j) := by
  have := rowAt_val t.val (Nat.lt_of_lt_of_eq t.isLt N_0) i
  blk_ext [iblk, V, idxX t]

theorem blk3 (t : Fin cfg0.N) (i : Fin 512) (j : Fin 1024) :
    iblk m c 3 t (ix2 i j) = m ((c : Thread nD τ).loc main_arg3) (ix2 (rowAt t.val i) j) := by
  have := rowAt_val t.val (Nat.lt_of_lt_of_eq t.isLt N_0) i
  blk_ext [iblk, V, idxX t]

theorem blk4 (t : Fin cfg0.N) (i : Fin 512) (j : Fin 512) :
    iblk m c 4 t (ix2 i j) = m ((c : Thread nD τ).loc main_arg4) (ix2 (rowAt t.val i) j) := by
  have := rowAt_val t.val (Nat.lt_of_lt_of_eq t.isLt N_0) i
  blk_ext [iblk, V, idxX t]

theorem blk5 (t : Fin cfg0.N) (i : Fin 512) (j : Fin 2560) :
    iblk m c 5 t (ix2 i j) = m ((c : Thread nD τ).loc main_arg5) (ix2 (rowAt t.val i) j) := by
  have := rowAt_val t.val (Nat.lt_of_lt_of_eq t.isLt N_0) i
  blk_ext [iblk, V, idxX t]

theorem blk6 (t : Fin cfg0.N) (i : Fin 512) (j : Fin 128) :
    iblk m c 6 t (ix2 i j) = m ((c : Thread nD τ).loc main_arg6) (ix2 (rowAt t.val i) j) := by
  have := rowAt_val t.val (Nat.lt_of_lt_of_eq t.isLt N_0) i
  blk_ext [iblk, V, idxX t]

theorem blk7 (t : Fin cfg0.N) (i : Fin 1024) (j : Fin 1024) :
    X0_7 m c t (ix2 i j) = m ((c : Thread nD τ).loc main_arg7) (ix2 i ⟨j.val, by omega⟩) := by
  unfold X0_7 Pipeline.Window.fill
  rw [dif_pos (moved0_7 t (ix2 i j))]
  blk_ext [iblk, V, idxW t]

theorem blk8 (t : Fin cfg0.N) (i : Fin 1024) (j : Fin 1024) :
    X0_8 m c t (ix2 i j) = m ((c : Thread nD τ).loc main_arg7) (ix2 i ⟨1024 + j.val, by omega⟩) := by
  unfold X0_8 Pipeline.Window.fill
  rw [dif_pos (moved0_8 t (ix2 i j))]
  blk_ext [iblk, V, idxW t]

theorem blk9 (t : Fin cfg0.N) (i : Fin 1024) (j : Fin 512) :
    X0_9 m c t (ix2 i j) = m ((c : Thread nD τ).loc main_arg7) (ix2 i ⟨2048 + j.val, by omega⟩) := by
  unfold X0_9 Pipeline.Window.fill
  rw [dif_pos (moved0_9 t (ix2 i j))]
  blk_ext [iblk, V, idxW t]

theorem blk10 (t : Fin cfg0.N) (i : Fin 1024) (j : Fin 2560) :
    X0_10 m c t (ix2 i j) = m ((c : Thread nD τ).loc main_arg7) (ix2 i ⟨2560 + j.val, by omega⟩) := by
  unfold X0_10 Pipeline.Window.fill
  rw [dif_pos (moved0_10 t (ix2 i j))]
  blk_ext [iblk, V, idxW t]

theorem blk11 (t : Fin cfg0.N) (i : Fin 1024) (j : Fin 128) :
    iblk m c 11 t (ix2 i j) = m ((c : Thread nD τ).loc main_arg7) (ix2 i ⟨5120 + j.val, by omega⟩) := by
  blk_ext [iblk, V, idxW t]

theorem blk12 (t : Fin cfg0.N) (i : Fin 1) (j : Fin 1024) :
    iblk m c 12 t (ix2 i j) = m ((c : Thread nD τ).loc main_arg8) (ix2 i j) := by
  blk_ext [iblk, V, idxW t]

theorem blk13 (t : Fin cfg0.N) (i : Fin 1) (j : Fin 1024) :
    iblk m c 13 t (ix2 i j) = m ((c : Thread nD τ).loc main_arg9) (ix2 i j) := by
  blk_ext [iblk, V, idxW t]

/-- Row `r` of the gradient of the norm's output, from the argument arrays. -/
def dh (r : Fin 8192) (j : Fin 1024) : EReal :=
  dhRow (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r j

/-- Row `r` of the norm before gain and shift. -/
def nrm (r : Fin 8192) (j : Fin 1024) : EReal :=
  (fun x : Fin 1024 → EReal => x j * rsOf x) fun k => m ((c : Thread nD τ).loc main_arg0) (ix2 r k)

/-- The tile's gradient of the norm's output. -/
def dhT (t : Fin cfg0.N) : Vec Ideal S512x1024 .f32 :=
  k0_pay5 (F := Ideal) (iblk m c 2 t) (X0_7 m c t) (iblk m c 3 t) (X0_8 m c t) (iblk m c 4 t) (X0_9 m c t) (iblk m c 5 t) (X0_10 m c t) (iblk m c 6 t) (iblk m c 11 t)

/-- The tiles of the other arguments, at their shapes. -/
def xT (t : Fin cfg0.N) : Vec Ideal S512x1024 .f32 := iblk m c 0 t
def dT (t : Fin cfg0.N) : Vec Ideal S512x1024 .f32 := iblk m c 1 t
def gT (t : Fin cfg0.N) : Vec Ideal S1x1024 .f32 := iblk m c 12 t
def cT (t : Fin cfg0.N) : Vec Ideal S1x1024 .f32 := iblk m c 13 t

theorem xT_at (t : Fin cfg0.N) (i : Fin 512) (j : Fin 1024) : xT m c t (ix2 i j) = m ((c : Thread nD τ).loc main_arg0) (ix2 (rowAt t.val i) j) :=
  blk0 m c t i j
theorem dT_at (t : Fin cfg0.N) (i : Fin 512) (j : Fin 1024) : dT m c t (ix2 i j) = m ((c : Thread nD τ).loc main_arg1) (ix2 (rowAt t.val i) j) :=
  blk1 m c t i j
theorem gT_at (t : Fin cfg0.N) (i : Fin 1) (j : Fin 1024) : gT m c t (ix2 i j) = m ((c : Thread nD τ).loc main_arg8) (ix2 i j) := blk12 m c t i j
theorem cT_at (t : Fin cfg0.N) (i : Fin 1) (j : Fin 1024) : cT m c t (ix2 i j) = m ((c : Thread nD τ).loc main_arg9) (ix2 i j) := blk13 m c t i j

theorem tile (t : Fin cfg0.N) (i : Fin 512) (j : Fin 1024) : dhT m c t (ix2 i j) = dh m c (rowAt t.val i) j := by
  refine (pay5 (iblk m c 2 t) (X0_7 m c t) (iblk m c 3 t) (X0_8 m c t) (iblk m c 4 t) (X0_9 m c t) (iblk m c 5 t) (X0_10 m c t) (iblk m c 6 t) (iblk m c 11 t) i j).trans ?_
  simp only [blk2, blk3, blk4, blk5, blk6, blk7, blk8, blk9, blk10, blk11]
  rfl

/-- One tile's column sums. -/
def s15 (t : ℕ) (j : Fin 1024) : EReal := ∑ s : Fin 512, dh m c (rowAt t s) j
def s16 (t : ℕ) (j : Fin 1024) : EReal := ∑ s : Fin 512, dh m c (rowAt t s) j * nrm m c (rowAt t s) j

theorem add15 (t : Fin cfg0.N) (O : Vec Ideal S1x1024 .f32) (j : Fin 1024) :
    k0_pay11 (F := Ideal) (dhT m c t) O (ix2 0 j) = O (ix2 0 j) + s15 m c t.val j := by
  refine (pay11 (dhT m c t) O j).trans ?_
  simp only [tile]
  rfl

theorem add16 (t : Fin cfg0.N) (O : Vec Ideal S1x1024 .f32) (j : Fin 1024) :
    k0_pay12 (F := Ideal) (dhT m c t) (xT m c t) (k0_pay6 (xT m c t)) k0_pay7 O (gT m c t) (ix2 0 j)
      = O (ix2 0 j) + s16 m c t.val j * (m ((c : Thread nD τ).loc main_arg8)) (ix2 0 j) := by
  refine (pay12 (dhT m c t) (xT m c t) (gT m c t) O j).trans ?_
  simp only [tile, xT_at, gT_at]
  rfl

theorem add17 (t : Fin cfg0.N) (O : Vec Ideal S1x1024 .f32) (j : Fin 1024) :
    k0_pay13 (F := Ideal) (dhT m c t) (xT m c t) (k0_pay6 (xT m c t)) k0_pay7 O (cT m c t) (ix2 0 j)
      = O (ix2 0 j) + s16 m c t.val j * (1 + (m ((c : Thread nD τ).loc main_arg9)) (ix2 0 j)) := by
  refine (pay13 (dhT m c t) (xT m c t) (cT m c t) O j).trans ?_
  simp only [tile, xT_at, cT_at]
  rfl

/-- Row `r` of the gradient of the input. -/
def gx (r : Fin 8192) (j : Fin 1024) : EReal :=
  gxOf (fun k => (m ((c : Thread nD τ).loc main_arg1)) (ix2 r k)) (fun k => dh m c r k) (fun k => (m ((c : Thread nD τ).loc main_arg0)) (ix2 r k)) (fun k => (m ((c : Thread nD τ).loc main_arg8)) (ix2 0 k))
    (fun k => (m ((c : Thread nD τ).loc main_arg9)) (ix2 0 k)) j

/-- The tile the call writes for it. -/
def outT (t : Fin cfg0.N) : Vec Ideal S512x1024 .f32 :=
  k0_pay1 (F := Ideal) (dhT m c t) (k0_pay8 (k0_pay6 (xT m c t)) k0_pay7) (k0_pay9 (xT m c t) (k0_pay6 (xT m c t)) k0_pay7) (gT m c t) (cT m c t) k0_pay14 (dT m c t)

theorem out14 (t : Fin cfg0.N) (i : Fin 512) (j : Fin 1024) : outT m c t (ix2 i j) = gx m c (rowAt t.val i) j := by
  refine (pay1 (dhT m c t) (xT m c t) (gT m c t) (cT m c t) (dT m c t) i j).trans ?_
  simp only [tile, xT_at, dT_at, gT_at, cT_at]
  rfl

/-- One point's outputs: the first point starts from zero, … -/
theorem outs_A (t : Fin cfg0.N) (h : t.val % 16 = 0) : outsAt0 m c t.val t.isLt
    = (outT m c t, k0_pay11 (F := Ideal) (dhT m c t) (k0_pay2 (F := Ideal)), k0_pay12 (F := Ideal) (dhT m c t) (xT m c t) (k0_pay6 (xT m c t)) k0_pay7 (k0_pay3 (F := Ideal)) (gT m c t),
        k0_pay13 (F := Ideal) (dhT m c t) (xT m c t) (k0_pay6 (xT m c t)) k0_pay7 (k0_pay4 (F := Ideal)) (cT m c t)) := by
  rw [outsAt0_A m c t h, outA14, outA15, outA16, outA17]
  rfl

/-- … a later one adds to what the one before left. -/
theorem outs_B (t : Fin cfg0.N) (h : ¬t.val % 16 = 0) : outsAt0 m c t.val t.isLt
    = (outT m c t, k0_pay11 (F := Ideal) (dhT m c t) (outsAt0 m c (t.val - 1) (by omega)).2.1,
        k0_pay12 (F := Ideal) (dhT m c t) (xT m c t) (k0_pay6 (xT m c t)) k0_pay7 (outsAt0 m c (t.val - 1) (by omega)).2.2.1 (gT m c t),
        k0_pay13 (F := Ideal) (dhT m c t) (xT m c t) (k0_pay6 (xT m c t)) k0_pay7 (outsAt0 m c (t.val - 1) (by omega)).2.2.2 (cT m c t)) := by
  rw [outsAt0_B m c t h, outB14, outB15, outB16, outB17]
  rfl

/-- What the outputs' buffers hold after point `n`. -/
structure Holds (n : ℕ) (o : Vec Ideal S512x1024 .f32 × Vec Ideal S1x1024 .f32 × Vec Ideal S1x1024 .f32 × Vec Ideal S1x1024 .f32) : Prop where
  gx : ∀ (i : Fin 512) (j : Fin 1024), o.1 (ix2 i j) = gx m c (rowAt n i) j
  sh : ∀ j : Fin 1024, o.2.1 (ix2 0 j) = ∑ t ∈ Finset.range (n + 1), s15 m c t j
  sc : ∀ j : Fin 1024, o.2.2.1 (ix2 0 j) = ∑ t ∈ Finset.range (n + 1), s16 m c t j * (m ((c : Thread nD τ).loc main_arg8)) (ix2 0 j)
  g : ∀ j : Fin 1024, o.2.2.2 (ix2 0 j) = ∑ t ∈ Finset.range (n + 1), s16 m c t j * (1 + (m ((c : Thread nD τ).loc main_arg9)) (ix2 0 j))

theorem holds : ∀ (n : ℕ) (h : n < cfg0.N), Holds m c n (outsAt0 m c n h)
  | 0, h => by
    rw [outs_A m c ⟨0, h⟩ rfl]
    refine ⟨out14 m c ⟨0, h⟩, fun j => ?_, fun j => ?_, fun j => ?_⟩
    · refine (add15 m c ⟨0, h⟩ (k0_pay2 (F := Ideal)) j).trans ?_
      rw [pay2, zero_add, Finset.sum_range_one]
    · refine (add16 m c ⟨0, h⟩ (k0_pay3 (F := Ideal)) j).trans ?_
      rw [pay3, zero_add, Finset.sum_range_one]
    · refine (add17 m c ⟨0, h⟩ (k0_pay4 (F := Ideal)) j).trans ?_
      rw [pay4, zero_add, Finset.sum_range_one]
  | n + 1, h => by
    have hN : cfg0.N = 16 := N_0
    have hB : ¬(⟨n + 1, h⟩ : Fin cfg0.N).val % 16 = 0 := by dsimp only; omega
    have ih := holds n (Nat.lt_of_succ_lt h)
    rw [outs_B m c ⟨n + 1, h⟩ hB]
    refine ⟨out14 m c ⟨n + 1, h⟩, fun j => ?_, fun j => ?_, fun j => ?_⟩
    · refine (add15 m c ⟨n + 1, h⟩ _ j).trans ?_
      rw [Finset.sum_range_succ _ (n + 1)]
      exact congrArg (· + s15 m c (n + 1) j) (ih.sh j)
    · refine (add16 m c ⟨n + 1, h⟩ _ j).trans ?_
      rw [Finset.sum_range_succ _ (n + 1)]
      exact congrArg (· + s16 m c (n + 1) j * _) (ih.sc j)
    · refine (add17 m c ⟨n + 1, h⟩ _ j).trans ?_
      rw [Finset.sum_range_succ _ (n + 1)]
      exact congrArg (· + s16 m c (n + 1) j * _) (ih.g j)

/-- The gradient of the input. -/
theorem final14 : (dats m 0 c).arrAt 14 (cfgs 0).N
    = Cert.BackReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t hf y => ?_
  blk_simp
  rw [after0_14]
  have ht : t.val < 16 := Nat.lt_of_lt_of_eq t.isLt N_0
  have e : ((cfg0.win 14).blk t).view.emb y = ix2 (rowAt t.val (y 0)) (y 1) := by
    have := rowAt_val t.val ht (y 0)
    blk_ext [idxO t]
  rw [e]
  exact ((congrArg (outsAt0 m c t.val t.isLt).1 (eq_ix2 y)).trans ((holds m c t.val t.isLt).gx (y 0) (y 1))).trans
    (v59 _ _ _ _ _ _ _ _ _ _ _ _).symm

/-- The sum in output 15, when the reference's array has the same entries. -/
theorem final15 {G : Vec Ideal S1x1024 .f32} (hG : ∀ j : Fin 1024, ∑ t ∈ Finset.range 16, s15 m c t j = G (ix2 0 j)) :
    (dats m 0 c).arrAt 15 (cfgs 0).N = G := by
  refine (dats m 0 c).arrAt_eq_of_covers 15 _ (by decide +kernel) fun t hf y => ?_
  blk_simp
  rw [after0_15]
  have ht : t.val + 1 = 16 := by
    have := (flush0_15 t).mp hf
    have := Nat.lt_of_lt_of_eq t.isLt N_0
    omega
  have e : ((cfg0.win 15).blk t).view.emb y = ix2 (y 0) (y 1) := by
    blk_ext [idxO t]
  have h0 : y 0 = (0 : Fin 1) := Subsingleton.elim (α := Fin 1) _ _
  rw [e]
  refine (congrArg (outsAt0 m c t.val t.isLt).2.1 (eq_ix2 y)).trans ?_
  rw [h0]
  refine ((holds m c t.val t.isLt).sh (y 1)).trans ?_
  rw [ht]
  exact hG (y 1)

/-- The sum in output 16, when the reference's array has the same entries. -/
theorem final16 {G : Vec Ideal S1x1024 .f32} (hG : ∀ j : Fin 1024, ∑ t ∈ Finset.range 16, s16 m c t j * (m ((c : Thread nD τ).loc main_arg8)) (ix2 0 j) = G (ix2 0 j)) :
    (dats m 0 c).arrAt 16 (cfgs 0).N = G := by
  refine (dats m 0 c).arrAt_eq_of_covers 16 _ (by decide +kernel) fun t hf y => ?_
  blk_simp
  rw [after0_16]
  have ht : t.val + 1 = 16 := by
    have := (flush0_16 t).mp hf
    have := Nat.lt_of_lt_of_eq t.isLt N_0
    omega
  have e : ((cfg0.win 16).blk t).view.emb y = ix2 (y 0) (y 1) := by
    blk_ext [idxO t]
  have h0 : y 0 = (0 : Fin 1) := Subsingleton.elim (α := Fin 1) _ _
  rw [e]
  refine (congrArg (outsAt0 m c t.val t.isLt).2.2.1 (eq_ix2 y)).trans ?_
  rw [h0]
  refine ((holds m c t.val t.isLt).sc (y 1)).trans ?_
  rw [ht]
  exact hG (y 1)

/-- The sum in output 17, when the reference's array has the same entries. -/
theorem final17 {G : Vec Ideal S1x1024 .f32} (hG : ∀ j : Fin 1024, ∑ t ∈ Finset.range 16, s16 m c t j * (1 + (m ((c : Thread nD τ).loc main_arg9)) (ix2 0 j)) = G (ix2 0 j)) :
    (dats m 0 c).arrAt 17 (cfgs 0).N = G := by
  refine (dats m 0 c).arrAt_eq_of_covers 17 _ (by decide +kernel) fun t hf y => ?_
  blk_simp
  rw [after0_17]
  have ht : t.val + 1 = 16 := by
    have := (flush0_17 t).mp hf
    have := Nat.lt_of_lt_of_eq t.isLt N_0
    omega
  have e : ((cfg0.win 17).blk t).view.emb y = ix2 (y 0) (y 1) := by
    blk_ext [idxO t]
  have h0 : y 0 = (0 : Fin 1) := Subsingleton.elim (α := Fin 1) _ _
  rw [e]
  refine (congrArg (outsAt0 m c t.val t.isLt).2.2.2 (eq_ix2 y)).trans ?_
  rw [h0]
  refine ((holds m c t.val t.isLt).g (y 1)).trans ?_
  rw [ht]
  exact hG (y 1)

/-- The first column sum is the reference's as it stands. -/
theorem total15 (j : Fin 1024) : ∑ t ∈ Finset.range 16, s15 m c t j
    = Cert.BackReferenceIdeal.Read.val_main_v39 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 0 j) :=
  (rows_sum fun r => dh m c r j).trans (v39 _ _ _ _ _ _ j).symm

/-- A real sum times a real number: each tile's sum may be multiplied, or the whole. -/
theorem total (u : Fin 8192 → EReal) (y : EReal) (hu : ∀ r, ∃ a : ℝ, u r = a) (hy : ∃ b : ℝ, y = b) :
    ∑ t ∈ Finset.range 16, (∑ s : Fin 512, u (rowAt t s)) * y = (∑ r, u r) * y := by
  choose a ha using hu
  obtain ⟨b, rfl⟩ := hy
  obtain rfl : u = fun r => (a r : EReal) := funext ha
  rw [← rows_sum]
  have e : ∀ (S : Finset ℕ) (f : ℕ → ℝ), ∑ i ∈ S, ((f i : ℝ) : EReal) = ((∑ i ∈ S, f i : ℝ) : EReal) := fun S f =>
    (map_sum (⟨⟨fun z : ℝ => (z : EReal), EReal.coe_zero⟩, EReal.coe_add⟩ : ℝ →+ EReal) f S).symm
  have e' : ∀ t, ∑ s : Fin 512, (a (rowAt t s) : EReal) = ((∑ s : Fin 512, a (rowAt t s) : ℝ) : EReal) := fun t =>
    (map_sum (⟨⟨fun z : ℝ => (z : EReal), EReal.coe_zero⟩, EReal.coe_add⟩ : ℝ →+ EReal) (fun s => a (rowAt t s)) Finset.univ).symm
  simp only [e', ← EReal.coe_mul, e]
  rw [Finset.sum_mul]

/-- The second and the third, at real entries. -/
theorem total16 (j : Fin 1024) (hu : ∀ r : Fin 8192, ∃ a : ℝ, dh m c r j * nrm m c r j = a) (hy : ∃ b : ℝ, (m ((c : Thread nD τ).loc main_arg8)) (ix2 0 j) = (b : EReal)) :
    ∑ t ∈ Finset.range 16, s16 m c t j * (m ((c : Thread nD τ).loc main_arg8)) (ix2 0 j)
      = Cert.BackReferenceIdeal.Read.val_main_v40 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 0 j) :=
  (total (fun r => dh m c r j * nrm m c r j) _ hu hy).trans (v40 _ _ _ _ _ _ _ _ j).symm

theorem total17 (j : Fin 1024) (hu : ∀ r : Fin 8192, ∃ a : ℝ, dh m c r j * nrm m c r j = a) (hy : ∃ b : ℝ, (m ((c : Thread nD τ).loc main_arg9)) (ix2 0 j) = (b : EReal)) :
    ∑ t ∈ Finset.range 16, s16 m c t j * (1 + (m ((c : Thread nD τ).loc main_arg9)) (ix2 0 j))
      = Cert.BackReferenceIdeal.Read.val_main_v43 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (ix2 0 j) := by
  refine (total (fun r => dh m c r j * nrm m c r j) _ hu ?_).trans (v43 _ _ _ _ _ _ _ _ j).symm
  obtain ⟨b, hb⟩ := hy
  exact ⟨1 + b, by rw [hb, ← EReal.coe_one, ← EReal.coe_add]⟩

end Cert.BackValue

end
-- ==== Proof.BackReal.lean ====
/-
  Under the precondition of the backward input projection the arguments it reads are real, and so are each row of the
  gradient of the norm's output and each row of the norm.
-/
module

public import proofs.«01_k».proof.Proof.BackTile
public import proofs.«01_k».proof.Proof.Reals
public import proofs.«01_k».proof.Proof.Pre
public import proofs.«01_k».proof.Proof.Gen.Pre_finite_back

@[expose] public section

noncomputable section

namespace Cert.BackReal

open Idealize.ShloMosaic Cert.BackTile Cert.Proof Cert.Pre_finite_back

theorem sum_real {ι : Type*} (s : Finset ι) (f : ι → EReal) (h : ∀ k, ∃ a : ℝ, f k = a) : ∃ a : ℝ, ∑ k ∈ s, f k = a := by
  choose a ha using h
  exact ⟨∑ k ∈ s, a k, (Finset.sum_congr rfl fun k _ => ha k).trans (Reals.coe_sum s a)⟩

theorem mul_real {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

theorem add_real {x y : EReal} (hx : ∃ a : ℝ, x = a) (hy : ∃ a : ℝ, y = a) : ∃ a : ℝ, x + y = a := by
  obtain ⟨a, rfl⟩ := hx
  obtain ⟨b, rfl⟩ := hy
  exact ⟨a + b, (EReal.coe_add a b).symm⟩

/-- A sum of products of reals. -/
theorem dot_real {n : ℕ} (f g : Fin n → EReal) (hf : ∀ k, ∃ a : ℝ, f k = a) (hg : ∀ k, ∃ a : ℝ, g k = a) : ∃ a : ℝ, ∑ k, f k * g k = a :=
  sum_real _ _ fun k => mul_real (hf k) (hg k)

/-- The reciprocal root mean square of a real row. -/
theorem rs_real (x : Fin 1024 → EReal) (h : ∀ k, ∃ a : ℝ, x k = a) : ∃ a : ℝ, rsOf x = a := by
  choose a ha using h
  obtain rfl : x = fun k => (a k : EReal) := funext ha
  refine ⟨Spec.rs ((∑ k, a k * a k) * (1 / 1024)), ?_⟩
  unfold rsOf
  simp only [← EReal.coe_mul]
  rw [Reals.coe_sum, Reals.lit_1024, Reals.lit_eps, Reals.div_1024]
  exact Reals.rs_real (mul_nonneg (Finset.sum_nonneg fun k _ => mul_self_nonneg _) (by norm_num))

variable {x0 x1 : FVec Ideal S8192x1024 .f32} {x2 x3 : FVec Ideal S8192x1024 .bf16} {x4 : FVec Ideal S8192x512 .bf16}
  {x5 : FVec Ideal S8192x2560 .bf16} {x6 : FVec Ideal S8192x128 .bf16} {x7 : FVec Ideal S1024x5248 .bf16} {x8 x9 : FVec Ideal S1x1024 .f32}

/-- A row of the norm. -/
theorem nrm_real (h : (fn (F := Ideal) x0 x1 x2 x3 x4 x5 x6 x7 x8 x9).1 = fun _ => 1#1) (r : Fin 8192) (j : Fin 1024) :
    ∃ a : ℝ, (fun x : Fin 1024 → EReal => x j * rsOf x) (fun k => x0 (ix2 r k)) = a :=
  mul_real ⟨_, Pre.real_of_cmp h (ix2 r j)⟩ (rs_real _ fun k => ⟨_, Pre.real_of_cmp h (ix2 r k)⟩)

/-- A row of the gradient of the norm's output. -/
theorem dh_real (h2 : (fn (F := Ideal) x0 x1 x2 x3 x4 x5 x6 x7 x8 x9).2.1 = fun _ => 1#1)
    (h3 : (fn (F := Ideal) x0 x1 x2 x3 x4 x5 x6 x7 x8 x9).2.2.1 = fun _ => 1#1)
    (h4 : (fn (F := Ideal) x0 x1 x2 x3 x4 x5 x6 x7 x8 x9).2.2.2.1 = fun _ => 1#1)
    (h5 : (fn (F := Ideal) x0 x1 x2 x3 x4 x5 x6 x7 x8 x9).2.2.2.2.1 = fun _ => 1#1)
    (h6 : (fn (F := Ideal) x0 x1 x2 x3 x4 x5 x6 x7 x8 x9).2.2.2.2.2.1 = fun _ => 1#1)
    (h7 : (fn (F := Ideal) x0 x1 x2 x3 x4 x5 x6 x7 x8 x9).2.2.2.2.2.2.1 = fun _ => 1#1) (r : Fin 8192) (j : Fin 1024) :
    ∃ a : ℝ, dhRow x2 x3 x4 x5 x6 x7 r j = a :=
  have w (k : Fin 5248) : ∃ a : ℝ, (x7 (ix2 j k) : EReal) = a := ⟨_, Pre.real_of_cmp h7 (ix2 j k)⟩
  add_real (add_real (add_real (add_real (dot_real _ _ (fun k => ⟨_, Pre.real_of_cmp h2 (ix2 r k)⟩) fun k => w _)
    (dot_real _ _ (fun k => ⟨_, Pre.real_of_cmp h3 (ix2 r k)⟩) fun k => w _)) (dot_real _ _ (fun k => ⟨_, Pre.real_of_cmp h4 (ix2 r k)⟩) fun k => w _))
    (dot_real _ _ (fun k => ⟨_, Pre.real_of_cmp h5 (ix2 r k)⟩) fun k => w _)) (dot_real _ _ (fun k => ⟨_, Pre.real_of_cmp h6 (ix2 r k)⟩) fun k => w _)

/-- The gain and the scale. -/
theorem gain_real (h : (fn (F := Ideal) x0 x1 x2 x3 x4 x5 x6 x7 x8 x9).2.2.2.2.2.2.2.1 = fun _ => 1#1) (j : Fin 1024) :
    ∃ a : ℝ, (x8 (ix2 0 j) : EReal) = a := ⟨_, Pre.real_of_cmp h (ix2 0 j)⟩

theorem scale_real (h : (fn (F := Ideal) x0 x1 x2 x3 x4 x5 x6 x7 x8 x9).2.2.2.2.2.2.2.2 = fun _ => 1#1) (j : Fin 1024) :
    ∃ a : ℝ, (x9 (ix2 0 j) : EReal) = a := ⟨_, Pre.real_of_cmp h (ix2 0 j)⟩

end Cert.BackReal

end
-- ==== Proof.PartBack.lean ====
/-
  The claims of the backward input projection: the frames, and the value claim under the precondition.
-/
module

public import proofs.«01_k».proof.Defs
public import proofs.«01_k».proof.Proof.BackValue
public import proofs.«01_k».proof.Proof.BackReal
public import proofs.«01_k».proof.Proof.Gen.Back.Frame
public import proofs.«01_k».proof.Proof.Gen.BackIdeal.Frame
public import proofs.«01_k».proof.Proof.Gen.BackReferenceIdeal.Run

@[expose] public section

noncomputable section

namespace Cert.PartBack

open Idealize.ShloMosaic Idealize.SL.Sem Idealize.ShloMosaic.StableHlo

theorem frame_kernel : Cert.quiescent_Back := fun m ρ _ => Cert.Back.Gen.frame m ρ

theorem frame_ideal : Cert.quiescent_BackIdeal := fun m ρ _ => Cert.BackIdeal.Gen.frame m ρ

theorem frame_reference : Cert.quiescent_BackReferenceIdeal := fun m ρ _ =>
  (θ_run Cert.BackReferenceIdeal.defs _ _).mono
    (fun r h => ⟨fun c => (h c).2.2.2.2, sem_eq_zero_of_no_sems (by decide) r.2⟩)
    (Cert.BackReferenceIdeal.Value.run (F := Ideal) m ρ)

open Cert.BackReferenceIdeal.Read in
theorem algebraic : Cert.algebraic_BackIdeal_BackReferenceIdeal_pre_finite_back := by
  intro m g m' g' hpre hag
  have hu (c : Dev Cert.BackIdeal.nD) (j : Fin 1024) : ∀ r, ∃ a : ℝ, BackValue.dh m c r j * BackValue.nrm m c r j = a := fun r => by
    obtain ⟨p0, p2, p3, p4, p5, p6, p7, _, _⟩ := hpre c
    exact BackReal.mul_real (BackReal.dh_real p2 p3 p4 p5 p6 p7 r j) (BackReal.nrm_real p0 r j)
  have h8 (c : Dev Cert.BackIdeal.nD) (j : Fin 1024) := BackReal.gain_real (hpre c).2.2.2.2.2.2.2.1 j
  have h9 (c : Dev Cert.BackIdeal.nD) (j : Fin 1024) := BackReal.scale_real (hpre c).2.2.2.2.2.2.2.2 j
  refine ⟨fun c => _, fun c => _, fun c => _, fun c => _,
    (θ_run _ _ _).mono (fun r h c => ⟨(h c).1.trans (BackValue.final14 m c), (h c).2.1.trans (BackValue.final15 m c (BackValue.total15 m c)),
        (h c).2.2.1.trans (BackValue.final16 m c fun j => BackValue.total16 m c j (hu c j) (h8 c j)),
        (h c).2.2.2.1.trans (BackValue.final17 m c fun j => BackValue.total17 m c j (hu c j) (h9 c j)), (h c).2.2.2.2⟩)
      (Cert.BackIdeal.Value.run_blocks m g),
    (θ_run _ _ _).mono (fun r h c => ?_) (Cert.BackReferenceIdeal.Value.run (F := Ideal) m' g')⟩
  obtain ⟨a0, a1, a2, a3, a4, a5, a6, a7, a8, a9⟩ := hag c
  refine ⟨(h c).1.trans ((val_main_v59_eq m' c).trans ?_), (h c).2.1.trans ((val_main_v39_eq _ _ _ _ _ _).trans ?_),
    (h c).2.2.1.trans ((val_main_v40_eq _ _ _ _ _ _ _ _).trans ?_), (h c).2.2.2.1.trans ((val_main_v43_eq _ _ _ _ _ _ _ _).trans ?_), (h c).2.2.2.2⟩
  · rw [a0, a1, a2, a3, a4, a5, a6, a7, a8, a9]
  · rw [a2, a3, a4, a5, a6, a7]
  · rw [a0, a2, a3, a4, a5, a6, a7, a8]
  · rw [a0, a2, a3, a4, a5, a6, a7, a9]

end Cert.PartBack

end
-- ==== Proof.Adam.lean ====
/-
  The AdamW step on one entry, over the extended reals, and the one law that the optimiser calls need: the version multiplies
  by the reciprocals of the two bias corrections where the reference divides by them.
-/
module

public import Idealize.ShloMosaic.PureOps.Ideal.Laws
public import Idealize.ShloMosaic.PureOps.IdealRules

@[expose] public section

noncomputable section

namespace Cert.Adam

open Idealize.ShloMosaic

/-- The bias correction of the first moment, as the float word the reference divides by. -/
theorem word_b1 : Ideal.ofBits .f32 0x3F26BD02#32 = ((5463681 / 8388608 : ℝ) : EReal) := by
  simp [Ideal.ofBits, Ideal.ieee, -EReal.coe_mul]; norm_num

/-- The bias correction of the second moment, likewise. -/
theorem word_b2 : Ideal.ofBits .f32 0x3C231ACC#32 = ((2672307 / 268435456 : ℝ) : EReal) := by
  simp [Ideal.ofBits, Ideal.ieee, -EReal.coe_mul]; norm_num

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The weight's update, the two moments divided by their bias corrections. -/
def delta (g w m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- The same with the two products. -/
def scaled (c1 c2 g w m v : EReal) : EReal :=
  Ideal.ofBits .f32 0xBA83126F#32 *
    (Ideal.div (first g m * c1) (Ideal.sqrt (second g v * c2) + Ideal.ofBits .f32 0x322BCC77#32)
      + Ideal.ofBits .f32 0x3C23D70A#32 * w)

/-- Multiplying by the reciprocals of the bias corrections is dividing by them. -/
theorem scaled_eq (g w m v : EReal) :
    scaled ((8388608 / 5463681 : ℝ) : EReal) ((268435456 / 2672307 : ℝ) : EReal) g w m v = delta g w m v := by
  unfold scaled delta
  rw [word_b1, word_b2, Ideal.div_coe (by norm_num), Ideal.div_coe (by norm_num)]
  norm_num

/-- A sum over eight parts, written out from the left. -/
theorem eight (x : Fin 8 → EReal) : 0 + ∑ k : Fin 8, x k = x 0 + x 1 + x 2 + x 3 + x 4 + x 5 + x 6 + x 7 := by
  rw [Fin.sum_univ_eight, zero_add]

end Cert.Adam

end
-- ==== Proof.PartProj.lean ====
/-
  The optimiser call of the two branch projections and the output projection: entry by entry, what the version leaves in its
  twelve results is what the reference states.  The version adds the eight devices' parts one after the other, the reference
  sums over them; the rest is the AdamW step of Adam.lean.
-/
module

public import proofs.«01_k».proof.Proof.Gen.ProjIdeal.Value
public import proofs.«01_k».proof.Proof.Gen.ProjReferenceIdeal.Read
public import proofs.«01_k».proof.Proof.Adam

@[expose] public section

noncomputable section

namespace Cert.PartProj

open Idealize.ShloMosaic Cert.Adam
open Cert.ProjIdeal Cert.ProjIdeal.Gen Cert.ProjIdeal.Value Cert.ProjReferenceIdeal.Read

/-- The reciprocal of the first bias correction. -/
theorem named1 : Named.named (F := Ideal) Cert.ProjIdeal.κ "c1" (φ := .f32) 0x3FC48605#32 = ((8388608 / 5463681 : ℝ) : EReal) :=
  IdealRules.named_const.ideal_named_scalar _ _ _ _ rfl

/-- The reciprocal of the second. -/
theorem named2 : Named.named (F := Ideal) Cert.ProjIdeal.κ "c2" (φ := .f32) 0x42C8E6D3#32 = ((268435456 / 2672307 : ℝ) : EReal) :=
  IdealRules.named_const.ideal_named_scalar _ _ _ _ rfl

/-- The word of zero. -/
theorem word_zero : Ideal.ofBits .f32 0x00000000#32 = 0 := by
  simp [Ideal.ofBits, Ideal.ieee]

/-! ## Weight `pa` -/

/-- The summed gradient. -/
theorem grad_pa (X : Vec Ideal S8x512x128 .bf16) : k0_pay1 (F := Ideal) (View.ld X r0_0) (View.ld X r0_1) (View.ld X r0_2) (View.ld X r0_3) (View.ld X r0_4) (View.ld X r0_5) (View.ld X r0_6) (View.ld X r0_7) = val_main_v2 (F := Ideal) X := by
  funext i
  refine (piece12_0 (View.ld X r0_0) (View.ld X r0_1) (View.ld X r0_2) (View.ld X r0_3) (View.ld X r0_4) (View.ld X r0_5) (View.ld X r0_6) (View.ld X r0_7) i).trans ?_
  have h0 : r0_0.idx (ix12_0 (r0_8.idx i)) = idx_main_v1 (idx_main_v2 i) 0 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h1 : r0_1.idx (ix12_1 (r0_8.idx i)) = idx_main_v1 (idx_main_v2 i) 1 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h2 : r0_2.idx (ix12_2 (r0_8.idx i)) = idx_main_v1 (idx_main_v2 i) 2 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h3 : r0_3.idx (ix12_3 (r0_8.idx i)) = idx_main_v1 (idx_main_v2 i) 3 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h4 : r0_4.idx (ix12_4 (r0_8.idx i)) = idx_main_v1 (idx_main_v2 i) 4 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h5 : r0_5.idx (ix12_5 (r0_8.idx i)) = idx_main_v1 (idx_main_v2 i) 5 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h6 : r0_6.idx (ix12_6 (r0_8.idx i)) = idx_main_v1 (idx_main_v2 i) 6 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h7 : r0_7.idx (ix12_7 (r0_8.idx i)) = idx_main_v1 (idx_main_v2 i) 7 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  rw [val_main_v2_apply, val_main_v1_apply]
  refine Eq.trans ?_ (congrArg₂ (· + ·) word_zero.symm rfl)
  rw [eight]
  show X (r0_0.idx (ix12_0 (r0_8.idx i))) + X (r0_1.idx (ix12_1 (r0_8.idx i))) + X (r0_2.idx (ix12_2 (r0_8.idx i))) + X (r0_3.idx (ix12_3 (r0_8.idx i))) + X (r0_4.idx (ix12_4 (r0_8.idx i))) + X (r0_5.idx (ix12_5 (r0_8.idx i))) + X (r0_6.idx (ix12_6 (r0_8.idx i))) + X (r0_7.idx (ix12_7 (r0_8.idx i))) = _
  rw [h0, h1, h2, h3, h4, h5, h6, h7]
  rfl

/-- The new first moment. -/
theorem first_pa (X : Vec Ideal S8x512x128 .bf16) (m : Vec Ideal S1x512x128 .f32) :
    k0_pay2 (F := Ideal) (val_main_v2 (F := Ideal) X) m = val_main_v13 (F := Ideal) X m := by
  funext i
  exact (show _ = first (val_main_v2 (F := Ideal) X i) (m i) from rfl).trans rfl

/-- The new second moment. -/
theorem second_pa (X : Vec Ideal S8x512x128 .bf16) (v : Vec Ideal S1x512x128 .f32) :
    k0_pay3 (F := Ideal) (val_main_v2 (F := Ideal) X) v = val_main_v19 (F := Ideal) X v := by
  funext i
  exact (show _ = second (val_main_v2 (F := Ideal) X i) (v i) from rfl).trans rfl

/-- The update. -/
theorem delta_pa (X : Vec Ideal S8x512x128 .bf16) (w m v : Vec Ideal S1x512x128 .f32) :
    k0_pay4 (F := Ideal) (val_main_v2 (F := Ideal) X) m v w = val_main_v32 (F := Ideal) X w m v := by
  funext i
  refine (show _ = scaled (Named.named (F := Ideal) Cert.ProjIdeal.κ "c1" (φ := .f32) 0x3FC48605#32)
    (Named.named (F := Ideal) Cert.ProjIdeal.κ "c2" (φ := .f32) 0x42C8E6D3#32)
    (val_main_v2 (F := Ideal) X i) (w i) (m i) (v i) from rfl).trans ?_
  rw [named1, named2, scaled_eq]
  rfl

/-! ## Weight `pb` -/

/-- The summed gradient. -/
theorem grad_pb (X : Vec Ideal S8x512x128 .bf16) : k0_pay5 (F := Ideal) (View.ld X r0_0) (View.ld X r0_1) (View.ld X r0_2) (View.ld X r0_3) (View.ld X r0_4) (View.ld X r0_5) (View.ld X r0_6) (View.ld X r0_7) = val_main_v5 (F := Ideal) X := by
  funext i
  refine (piece13_0 (View.ld X r0_0) (View.ld X r0_1) (View.ld X r0_2) (View.ld X r0_3) (View.ld X r0_4) (View.ld X r0_5) (View.ld X r0_6) (View.ld X r0_7) i).trans ?_
  have h0 : r0_0.idx (ix13_0 (r0_8.idx i)) = idx_main_v4 (idx_main_v5 i) 0 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h1 : r0_1.idx (ix13_1 (r0_8.idx i)) = idx_main_v4 (idx_main_v5 i) 1 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h2 : r0_2.idx (ix13_2 (r0_8.idx i)) = idx_main_v4 (idx_main_v5 i) 2 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h3 : r0_3.idx (ix13_3 (r0_8.idx i)) = idx_main_v4 (idx_main_v5 i) 3 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h4 : r0_4.idx (ix13_4 (r0_8.idx i)) = idx_main_v4 (idx_main_v5 i) 4 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h5 : r0_5.idx (ix13_5 (r0_8.idx i)) = idx_main_v4 (idx_main_v5 i) 5 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h6 : r0_6.idx (ix13_6 (r0_8.idx i)) = idx_main_v4 (idx_main_v5 i) 6 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h7 : r0_7.idx (ix13_7 (r0_8.idx i)) = idx_main_v4 (idx_main_v5 i) 7 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  rw [val_main_v5_apply, val_main_v4_apply]
  refine Eq.trans ?_ (congrArg₂ (· + ·) word_zero.symm rfl)
  rw [eight]
  show X (r0_0.idx (ix13_0 (r0_8.idx i))) + X (r0_1.idx (ix13_1 (r0_8.idx i))) + X (r0_2.idx (ix13_2 (r0_8.idx i))) + X (r0_3.idx (ix13_3 (r0_8.idx i))) + X (r0_4.idx (ix13_4 (r0_8.idx i))) + X (r0_5.idx (ix13_5 (r0_8.idx i))) + X (r0_6.idx (ix13_6 (r0_8.idx i))) + X (r0_7.idx (ix13_7 (r0_8.idx i))) = _
  rw [h0, h1, h2, h3, h4, h5, h6, h7]
  rfl

/-- The new first moment. -/
theorem first_pb (X : Vec Ideal S8x512x128 .bf16) (m : Vec Ideal S1x512x128 .f32) :
    k0_pay6 (F := Ideal) (val_main_v5 (F := Ideal) X) m = val_main_v37 (F := Ideal) X m := by
  funext i
  exact (show _ = first (val_main_v5 (F := Ideal) X i) (m i) from rfl).trans rfl

/-- The new second moment. -/
theorem second_pb (X : Vec Ideal S8x512x128 .bf16) (v : Vec Ideal S1x512x128 .f32) :
    k0_pay7 (F := Ideal) (val_main_v5 (F := Ideal) X) v = val_main_v43 (F := Ideal) X v := by
  funext i
  exact (show _ = second (val_main_v5 (F := Ideal) X i) (v i) from rfl).trans rfl

/-- The update. -/
theorem delta_pb (X : Vec Ideal S8x512x128 .bf16) (w m v : Vec Ideal S1x512x128 .f32) :
    k0_pay8 (F := Ideal) (val_main_v5 (F := Ideal) X) m v w = val_main_v56 (F := Ideal) X w m v := by
  funext i
  refine (show _ = scaled (Named.named (F := Ideal) Cert.ProjIdeal.κ "c1" (φ := .f32) 0x3FC48605#32)
    (Named.named (F := Ideal) Cert.ProjIdeal.κ "c2" (φ := .f32) 0x42C8E6D3#32)
    (val_main_v5 (F := Ideal) X i) (w i) (m i) (v i) from rfl).trans ?_
  rw [named1, named2, scaled_eq]
  rfl

/-! ## Weight `out` -/

/-- The summed gradient. -/
theorem grad_out (X : Vec Ideal S8x128x1024 .bf16) : k0_pay9 (F := Ideal) (View.ld X r0_9) (View.ld X r0_10) (View.ld X r0_11) (View.ld X r0_12) (View.ld X r0_13) (View.ld X r0_14) (View.ld X r0_15) (View.ld X r0_16) = val_main_v8 (F := Ideal) X := by
  funext i
  refine (piece14_0 (View.ld X r0_9) (View.ld X r0_10) (View.ld X r0_11) (View.ld X r0_12) (View.ld X r0_13) (View.ld X r0_14) (View.ld X r0_15) (View.ld X r0_16) i).trans ?_
  have h0 : r0_9.idx (ix14_0 (r0_17.idx i)) = idx_main_v7 (idx_main_v8 i) 0 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h1 : r0_10.idx (ix14_1 (r0_17.idx i)) = idx_main_v7 (idx_main_v8 i) 1 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h2 : r0_11.idx (ix14_2 (r0_17.idx i)) = idx_main_v7 (idx_main_v8 i) 2 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h3 : r0_12.idx (ix14_3 (r0_17.idx i)) = idx_main_v7 (idx_main_v8 i) 3 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h4 : r0_13.idx (ix14_4 (r0_17.idx i)) = idx_main_v7 (idx_main_v8 i) 4 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h5 : r0_14.idx (ix14_5 (r0_17.idx i)) = idx_main_v7 (idx_main_v8 i) 5 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h6 : r0_15.idx (ix14_6 (r0_17.idx i)) = idx_main_v7 (idx_main_v8 i) 6 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  have h7 : r0_16.idx (ix14_7 (r0_17.idx i)) = idx_main_v7 (idx_main_v8 i) 7 := funext fun a => Fin.ext (by
    match a with
    | ⟨0, _⟩ => rfl
    | ⟨1, _⟩ => show 0 + 1 * (0 + 1 * (i 1).val) = (i 1).val; omega
    | ⟨2, _⟩ => show 0 + 1 * (0 + 1 * (i 2).val) = (i 2).val; omega)
  rw [val_main_v8_apply, val_main_v7_apply]
  refine Eq.trans ?_ (congrArg₂ (· + ·) word_zero.symm rfl)
  rw [eight]
  show X (r0_9.idx (ix14_0 (r0_17.idx i))) + X (r0_10.idx (ix14_1 (r0_17.idx i))) + X (r0_11.idx (ix14_2 (r0_17.idx i))) + X (r0_12.idx (ix14_3 (r0_17.idx i))) + X (r0_13.idx (ix14_4 (r0_17.idx i))) + X (r0_14.idx (ix14_5 (r0_17.idx i))) + X (r0_15.idx (ix14_6 (r0_17.idx i))) + X (r0_16.idx (ix14_7 (r0_17.idx i))) = _
  rw [h0, h1, h2, h3, h4, h5, h6, h7]
  rfl

/-- The new first moment. -/
theorem first_out (X : Vec Ideal S8x128x1024 .bf16) (m : Vec Ideal S1x128x1024 .f32) :
    k0_pay10 (F := Ideal) (val_main_v8 (F := Ideal) X) m = val_main_v61 (F := Ideal) X m := by
  funext i
  exact (show _ = first (val_main_v8 (F := Ideal) X i) (m i) from rfl).trans rfl

/-- The new second moment. -/
theorem second_out (X : Vec Ideal S8x128x1024 .bf16) (v : Vec Ideal S1x128x1024 .f32) :
    k0_pay11 (F := Ideal) (val_main_v8 (F := Ideal) X) v = val_main_v67 (F := Ideal) X v := by
  funext i
  exact (show _ = second (val_main_v8 (F := Ideal) X i) (v i) from rfl).trans rfl

/-- The update. -/
theorem delta_out (X : Vec Ideal S8x128x1024 .bf16) (w m v : Vec Ideal S1x128x1024 .f32) :
    k0_pay12 (F := Ideal) (val_main_v8 (F := Ideal) X) m v w = val_main_v80 (F := Ideal) X w m v := by
  funext i
  refine (show _ = scaled (Named.named (F := Ideal) Cert.ProjIdeal.κ "c1" (φ := .f32) 0x3FC48605#32)
    (Named.named (F := Ideal) Cert.ProjIdeal.κ "c2" (φ := .f32) 0x42C8E6D3#32)
    (val_main_v8 (F := Ideal) X i) (w i) (m i) (v i) from rfl).trans ?_
  rw [named1, named2, scaled_eq]
  rfl

end Cert.PartProj

end
-- ==== Proof.ProjClaim.lean ====
/-
  The claims of the optimiser call of the two branch projections and the output projection: the frames, the two named
  constants, and the value claim.
-/
module

public import proofs.«01_k».proof.Defs
public import proofs.«01_k».proof.Proof.PartProj
public import proofs.«01_k».proof.Proof.Gen.Proj.Frame
public import proofs.«01_k».proof.Proof.Gen.ProjIdeal.Frame
public import proofs.«01_k».proof.Proof.Gen.ProjReferenceIdeal.Run

@[expose] public section

noncomputable section

namespace Cert.ProjClaim

open Idealize.ShloMosaic Idealize.SL.Sem Idealize.ShloMosaic.StableHlo

theorem frame_kernel : Cert.quiescent_Proj := fun m ρ _ => Cert.Proj.Gen.frame m ρ

theorem frame_ideal : Cert.quiescent_ProjIdeal := fun m ρ _ => Cert.ProjIdeal.Gen.frame m ρ

theorem frame_reference : Cert.quiescent_ProjReferenceIdeal := fun m ρ _ =>
  (θ_run Cert.ProjReferenceIdeal.defs _ _).mono
    (fun r h => ⟨fun c => (h c).2.2.2.2.2.2.2.2.2.2.2.2, sem_eq_zero_of_no_sems (by decide) r.2⟩)
    (Cert.ProjReferenceIdeal.Value.run (F := Ideal) m ρ)

/-- The two named reciprocals are the machine words' values up to rounding. -/
theorem preserves : Cert.preserves_Proj_ProjIdeal :=
  ⟨IdealRules.named_const.statement Cert.ProjIdeal.κ "c1" .f32 0x3FC48605#32 ((8388608 / 5463681 : ℝ) : EReal) rfl,
    IdealRules.named_const.statement Cert.ProjIdeal.κ "c2" .f32 0x42C8E6D3#32 ((268435456 / 2672307 : ℝ) : EReal) rfl⟩

section outputs

open Cert.ProjIdeal Cert.ProjIdeal.Gen Cert.ProjIdeal.Value Cert.ProjReferenceIdeal.Read Cert.PartProj

variable (a0 : Vec Ideal S8x512x128 .bf16) (a1 : Vec Ideal S8x512x128 .bf16) (a2 : Vec Ideal S8x128x1024 .bf16) (a3 : Vec Ideal S1x512x128 .f32) (a4 : Vec Ideal S1x512x128 .f32) (a5 : Vec Ideal S1x128x1024 .f32) (a6 : Vec Ideal S1x512x128 .f32) (a7 : Vec Ideal S1x512x128 .f32) (a8 : Vec Ideal S1x128x1024 .f32) (a9 : Vec Ideal S1x512x128 .f32) (a10 : Vec Ideal S1x512x128 .f32) (a11 : Vec Ideal S1x128x1024 .f32)

theorem out12 : G12 (F := Ideal) a0 a1 a2 a3 a4 a5 a6 a7 a8 a9 a10 a11 = val_main_v2 (F := Ideal) a0 := grad_pa a0

theorem out13 : G13 (F := Ideal) a0 a1 a2 a3 a4 a5 a6 a7 a8 a9 a10 a11 = val_main_v5 (F := Ideal) a1 := grad_pb a1

theorem out14 : G14 (F := Ideal) a0 a1 a2 a3 a4 a5 a6 a7 a8 a9 a10 a11 = val_main_v8 (F := Ideal) a2 := grad_out a2

theorem out15 : G15 (F := Ideal) a0 a1 a2 a3 a4 a5 a6 a7 a8 a9 a10 a11 = val_main_v32 (F := Ideal) a0 a3 a6 a9 :=
  (congrArg (fun g => k0_pay4 (F := Ideal) g a6 a9 a3) (grad_pa a0)).trans (delta_pa a0 a3 a6 a9)

theorem out16 : G16 (F := Ideal) a0 a1 a2 a3 a4 a5 a6 a7 a8 a9 a10 a11 = val_main_v56 (F := Ideal) a1 a4 a7 a10 :=
  (congrArg (fun g => k0_pay8 (F := Ideal) g a7 a10 a4) (grad_pb a1)).trans (delta_pb a1 a4 a7 a10)

theorem out17 : G17 (F := Ideal) a0 a1 a2 a3 a4 a5 a6 a7 a8 a9 a10 a11 = val_main_v80 (F := Ideal) a2 a5 a8 a11 :=
  (congrArg (fun g => k0_pay12 (F := Ideal) g a8 a11 a5) (grad_out a2)).trans (delta_out a2 a5 a8 a11)

theorem out18 : G18 (F := Ideal) a0 a1 a2 a3 a4 a5 a6 a7 a8 a9 a10 a11 = val_main_v13 (F := Ideal) a0 a6 :=
  (congrArg (fun g => k0_pay2 (F := Ideal) g a6) (grad_pa a0)).trans (first_pa a0 a6)

theorem out19 : G19 (F := Ideal) a0 a1 a2 a3 a4 a5 a6 a7 a8 a9 a10 a11 = val_main_v37 (F := Ideal) a1 a7 :=
  (congrArg (fun g => k0_pay6 (F := Ideal) g a7) (grad_pb a1)).trans (first_pb a1 a7)

theorem out20 : G20 (F := Ideal) a0 a1 a2 a3 a4 a5 a6 a7 a8 a9 a10 a11 = val_main_v61 (F := Ideal) a2 a8 :=
  (congrArg (fun g => k0_pay10 (F := Ideal) g a8) (grad_out a2)).trans (first_out a2 a8)

theorem out21 : G21 (F := Ideal) a0 a1 a2 a3 a4 a5 a6 a7 a8 a9 a10 a11 = val_main_v19 (F := Ideal) a0 a9 :=
  (congrArg (fun g => k0_pay3 (F := Ideal) g a9) (grad_pa a0)).trans (second_pa a0 a9)

theorem out22 : G22 (F := Ideal) a0 a1 a2 a3 a4 a5 a6 a7 a8 a9 a10 a11 = val_main_v43 (F := Ideal) a1 a10 :=
  (congrArg (fun g => k0_pay7 (F := Ideal) g a10) (grad_pb a1)).trans (second_pb a1 a10)

theorem out23 : G23 (F := Ideal) a0 a1 a2 a3 a4 a5 a6 a7 a8 a9 a10 a11 = val_main_v67 (F := Ideal) a2 a11 :=
  (congrArg (fun g => k0_pay11 (F := Ideal) g a11) (grad_out a2)).trans (second_out a2 a11)

end outputs

open Cert.ProjReferenceIdeal.Read in
theorem algebraic : Cert.algebraic_ProjIdeal_ProjReferenceIdeal := by
  intro m g m' g' _ hag
  refine ⟨fun c => _, fun c => _, fun c => _, fun c => _, fun c => _, fun c => _, fun c => _, fun c => _, fun c => _, fun c => _, fun c => _, fun c => _,
    (θ_run _ _ _).mono (fun r h c => ⟨(h c).1.trans (out12 _ _ _ _ _ _ _ _ _ _ _ _),
        (h c).2.1.trans (out13 _ _ _ _ _ _ _ _ _ _ _ _),
        (h c).2.2.1.trans (out14 _ _ _ _ _ _ _ _ _ _ _ _),
        (h c).2.2.2.1.trans (out15 _ _ _ _ _ _ _ _ _ _ _ _),
        (h c).2.2.2.2.1.trans (out16 _ _ _ _ _ _ _ _ _ _ _ _),
        (h c).2.2.2.2.2.1.trans (out17 _ _ _ _ _ _ _ _ _ _ _ _),
        (h c).2.2.2.2.2.2.1.trans (out18 _ _ _ _ _ _ _ _ _ _ _ _),
        (h c).2.2.2.2.2.2.2.1.trans (out19 _ _ _ _ _ _ _ _ _ _ _ _),
        (h c).2.2.2.2.2.2.2.2.1.trans (out20 _ _ _ _ _ _ _ _ _ _ _ _),
        (h c).2.2.2.2.2.2.2.2.2.1.trans (out21 _ _ _ _ _ _ _ _ _ _ _ _),
        (h c).2.2.2.2.2.2.2.2.2.2.1.trans (out22 _ _ _ _ _ _ _ _ _ _ _ _),
        (h c).2.2.2.2.2.2.2.2.2.2.2.1.trans (out23 _ _ _ _ _ _ _ _ _ _ _ _), (h c).2.2.2.2.2.2.2.2.2.2.2.2⟩)
      (Cert.ProjIdeal.Value.run m g),
    (θ_run _ _ _).mono (fun r h c => ?_) (Cert.ProjReferenceIdeal.Value.run (F := Ideal) m' g')⟩
  obtain ⟨e0, e1, e2, e3, e4, e5, e6, e7, e8, e9, e10, e11⟩ := hag c
  refine ⟨(h c).1.trans ((val_main_v2_eq _).trans ?_),
    (h c).2.1.trans ((val_main_v5_eq _).trans ?_),
    (h c).2.2.1.trans ((val_main_v8_eq _).trans ?_),
    (h c).2.2.2.1.trans ((val_main_v32_eq _ _ _ _).trans ?_),
    (h c).2.2.2.2.1.trans ((val_main_v56_eq _ _ _ _).trans ?_),
    (h c).2.2.2.2.2.1.trans ((val_main_v80_eq _ _ _ _).trans ?_),
    (h c).2.2.2.2.2.2.1.trans ((val_main_v13_eq _ _).trans ?_),
    (h c).2.2.2.2.2.2.2.1.trans ((val_main_v37_eq _ _).trans ?_),
    (h c).2.2.2.2.2.2.2.2.1.trans ((val_main_v61_eq _ _).trans ?_),
    (h c).2.2.2.2.2.2.2.2.2.1.trans ((val_main_v19_eq _ _).trans ?_),
    (h c).2.2.2.2.2.2.2.2.2.2.1.trans ((val_main_v43_eq _ _).trans ?_),
    (h c).2.2.2.2.2.2.2.2.2.2.2.1.trans ((val_main_v67_eq _ _).trans ?_), (h c).2.2.2.2.2.2.2.2.2.2.2.2⟩
  · rw [e0]
  · rw [e1]
  · rw [e2]
  · rw [e0, e3, e6, e9]
  · rw [e1, e4, e7, e10]
  · rw [e2, e5, e8, e11]
  · rw [e0, e6]
  · rw [e1, e7]
  · rw [e2, e8]
  · rw [e0, e9]
  · rw [e1, e10]
  · rw [e2, e11]

end Cert.ProjClaim

end
-- ==== Proof.PartMod.lean ====
/-
  The optimiser call of the modulation's weight, bias and context vector and of the input norm's gain: entry by entry, what
  the version leaves in its twelve results is the AdamW step that the reference states.
-/
module

public import proofs.«01_k».proof.Proof.Gen.ModIdeal.Skeleton
public import proofs.«01_k».proof.Proof.Gen.ModReferenceIdeal.Read
public import proofs.«01_k».proof.Proof.Adam

@[expose] public section

noncomputable section

namespace Cert.PartMod

open Idealize.ShloMosaic Cert.Adam
open Cert.ModIdeal Cert.ModIdeal.Gen Cert.ModReferenceIdeal.Read

/-- The reciprocal of the first bias correction. -/
theorem named1 : Named.named (F := Ideal) Cert.ModIdeal.κ "c1" (φ := .f32) 0x3FC48605#32 = ((8388608 / 5463681 : ℝ) : EReal) :=
  IdealRules.named_const.ideal_named_scalar _ _ _ _ rfl

/-- The reciprocal of the second. -/
theorem named2 : Named.named (F := Ideal) Cert.ModIdeal.κ "c2" (φ := .f32) 0x42C8E6D3#32 = ((268435456 / 2672307 : ℝ) : EReal) :=
  IdealRules.named_const.ideal_named_scalar _ _ _ _ rfl

/-! ## `w_mod` -/

/-- The new first moment. -/
theorem first_wm (g m : Vec Ideal S1x1024x384 .f32) : k0_pay2 (F := Ideal) g m = val_main_v4 (F := Ideal) g m := by
  funext i
  exact (show _ = first (g i) (m i) from rfl).trans rfl

/-- The new second moment. -/
theorem second_wm (g v : Vec Ideal S1x1024x384 .f32) : k0_pay3 (F := Ideal) g v = val_main_v10 (F := Ideal) g v := by
  funext i
  exact (show _ = second (g i) (v i) from rfl).trans rfl

/-- The update. -/
theorem delta_wm (g w m v : Vec Ideal S1x1024x384 .f32) :
    k0_pay6 (F := Ideal) (k0_pay4 (F := Ideal) g m v) (k0_pay5 (F := Ideal) w)
      = val_main_v23 (F := Ideal) g w m v := by
  funext i
  refine (show _ = scaled (Named.named (F := Ideal) Cert.ModIdeal.κ "c1" (φ := .f32) 0x3FC48605#32)
    (Named.named (F := Ideal) Cert.ModIdeal.κ "c2" (φ := .f32) 0x42C8E6D3#32) (g i) (w i) (m i) (v i) from rfl).trans ?_
  rw [named1, named2, scaled_eq]
  rfl

/-! ## `norm_g` -/

/-- The new first moment. -/
theorem first_ng (g m : Vec Ideal S1x1024 .f32) : k0_pay7 (F := Ideal) g m = val_main_v28 (F := Ideal) g m := by
  funext i
  exact (show _ = first (g i) (m i) from rfl).trans rfl

/-- The new second moment. -/
theorem second_ng (g v : Vec Ideal S1x1024 .f32) : k0_pay8 (F := Ideal) g v = val_main_v34 (F := Ideal) g v := by
  funext i
  exact (show _ = second (g i) (v i) from rfl).trans rfl

/-- The update. -/
theorem delta_ng (g w m v : Vec Ideal S1x1024 .f32) :
    k0_pay10 (F := Ideal) (k0_pay9 (F := Ideal) g m v) w (Scalar.ofBits .f32 0x3C23D70A#32)
      = val_main_v47 (F := Ideal) g w m v := by
  funext i
  refine (show _ = scaled (Named.named (F := Ideal) Cert.ModIdeal.κ "c1" (φ := .f32) 0x3FC48605#32)
    (Named.named (F := Ideal) Cert.ModIdeal.κ "c2" (φ := .f32) 0x42C8E6D3#32) (g i) (w i) (m i) (v i) from rfl).trans ?_
  rw [named1, named2, scaled_eq]
  rfl

/-! ## `b_mod` -/

/-- The new first moment. -/
theorem first_bm (g m : Vec Ideal S1x3072 .f32) : k0_pay11 (F := Ideal) g m = val_main_v52 (F := Ideal) g m := by
  funext i
  exact (show _ = first (g i) (m i) from rfl).trans rfl

/-- The new second moment. -/
theorem second_bm (g v : Vec Ideal S1x3072 .f32) : k0_pay12 (F := Ideal) g v = val_main_v58 (F := Ideal) g v := by
  funext i
  exact (show _ = second (g i) (v i) from rfl).trans rfl

/-- The update. -/
theorem delta_bm (g w m v : Vec Ideal S1x3072 .f32) :
    k0_pay14 (F := Ideal) (k0_pay13 (F := Ideal) g m v) w
      = val_main_v71 (F := Ideal) g w m v := by
  funext i
  refine (show _ = scaled (Named.named (F := Ideal) Cert.ModIdeal.κ "c1" (φ := .f32) 0x3FC48605#32)
    (Named.named (F := Ideal) Cert.ModIdeal.κ "c2" (φ := .f32) 0x42C8E6D3#32) (g i) (w i) (m i) (v i) from rfl).trans ?_
  rw [named1, named2, scaled_eq]
  rfl

/-! ## `c_ctx` -/

/-- The new first moment. -/
theorem first_cc (g m : Vec Ideal S1x1024 .f32) : k0_pay15 (F := Ideal) g m = val_main_v76 (F := Ideal) g m := by
  funext i
  exact (show _ = first (g i) (m i) from rfl).trans rfl

/-- The new second moment. -/
theorem second_cc (g v : Vec Ideal S1x1024 .f32) : k0_pay16 (F := Ideal) g v = val_main_v82 (F := Ideal) g v := by
  funext i
  exact (show _ = second (g i) (v i) from rfl).trans rfl

/-- The update. -/
theorem delta_cc (g w m v : Vec Ideal S1x1024 .f32) :
    k0_pay1 (F := Ideal) (k0_pay17 (F := Ideal) g m v) w
      = val_main_v95 (F := Ideal) g w m v := by
  funext i
  refine (show _ = scaled (Named.named (F := Ideal) Cert.ModIdeal.κ "c1" (φ := .f32) 0x3FC48605#32)
    (Named.named (F := Ideal) Cert.ModIdeal.κ "c2" (φ := .f32) 0x42C8E6D3#32) (g i) (w i) (m i) (v i) from rfl).trans ?_
  rw [named1, named2, scaled_eq]
  rfl

end Cert.PartMod

end
-- ==== Proof.ModFrame.lean ====
/- The frame of the optimiser call: the generated text, with a larger budget. -/
module

public import proofs.«01_k».proof.Proof.Gen.ModIdeal.Launch
public import proofs.«01_k».proof.Proof.Gen.ModIdeal.Skeleton
public import proofs.«01_k».proof.Proof.Gen.ModIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384
set_option maxHeartbeats 4000000

noncomputable section

namespace Cert.ModIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1920000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ModIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c)))⟩) h

/-! ## The body's accesses -/

abbrev r0_0 : Rect S1x1024x384 := Rect.unit (s := S1x1024x384) ![0, 0, 0] S1x1024x384.size inb_S1x1024x384_S1x1024x384_0_0_0
abbrev r0_1 : Rect S1x1024 := Rect.unit (s := S1x1024) ![0, 0] S1x1024.size inb_S1x1024_S1x1024_0_0
abbrev r0_2 : Rect S1x3072 := Rect.unit (s := S1x3072) ![0, 0] S1x3072.size inb_S1x3072_S1x3072_0_0

/-! ## What the body leaves in each output window's buffer -/

/-- Window 16's staging buffer after the body, from the input windows' blocks: its 1 store as pieces, LAST
    FIRST (Lib/Pipeline/FrameBody.lean `View.canon`; the payloads are the skeleton's). -/
def out0_16 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024x384 .f32 :=
  View.canon [⟨r0_0, View.ld x0 r0_0⟩]

/-- Its stores tile the buffer (checked by evaluation), so they cover it. -/
theorem cover0_16 (p0 : Vec F S1x1024x384 .f32) (y : S1x1024x384.Idx) :
    ∃ pc ∈ ([⟨r0_0, p0⟩] : List (View.Piece (Elt F) S1x1024x384 .f32)), y ∈ pc.1.set :=
  View.cover_of_tiled [⟨r0_0, p0⟩] S1x1024x384.size (by rfl) y

/-- Window 17's staging buffer after the body, from the input windows' blocks: its 1 store as pieces, LAST
    FIRST (Lib/Pipeline/FrameBody.lean `View.canon`; the payloads are the skeleton's). -/
def out0_17 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024 .f32 :=
  View.canon [⟨r0_1, View.ld x1 r0_1⟩]

/-- Its stores tile the buffer (checked by evaluation), so they cover it. -/
theorem cover0_17 (p0 : Vec F S1x1024 .f32) (y : S1x1024.Idx) :
    ∃ pc ∈ ([⟨r0_1, p0⟩] : List (View.Piece (Elt F) S1x1024 .f32)), y ∈ pc.1.set :=
  View.cover_of_tiled [⟨r0_1, p0⟩] S1x1024.size (by rfl) y

/-- Window 18's staging buffer after the body, from the input windows' blocks: its 1 store as pieces, LAST
    FIRST (Lib/Pipeline/FrameBody.lean `View.canon`; the payloads are the skeleton's). -/
def out0_18 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x3072 .f32 :=
  View.canon [⟨r0_2, View.ld x2 r0_2⟩]

/-- Its stores tile the buffer (checked by evaluation), so they cover it. -/
theorem cover0_18 (p0 : Vec F S1x3072 .f32) (y : S1x3072.Idx) :
    ∃ pc ∈ ([⟨r0_2, p0⟩] : List (View.Piece (Elt F) S1x3072 .f32)), y ∈ pc.1.set :=
  View.cover_of_tiled [⟨r0_2, p0⟩] S1x3072.size (by rfl) y

/-- Window 19's staging buffer after the body, from the input windows' blocks: its 1 store as pieces, LAST
    FIRST (Lib/Pipeline/FrameBody.lean `View.canon`; the payloads are the skeleton's). -/
def out0_19 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024 .f32 :=
  View.canon [⟨r0_1, View.ld x3 r0_1⟩]

/-- Its stores tile the buffer (checked by evaluation), so they cover it. -/
theorem cover0_19 (p0 : Vec F S1x1024 .f32) (y : S1x1024.Idx) :
    ∃ pc ∈ ([⟨r0_1, p0⟩] : List (View.Piece (Elt F) S1x1024 .f32)), y ∈ pc.1.set :=
  View.cover_of_tiled [⟨r0_1, p0⟩] S1x1024.size (by rfl) y

/-- Window 20's staging buffer after the body, from the input windows' blocks: its 1 store as pieces, LAST
    FIRST (Lib/Pipeline/FrameBody.lean `View.canon`; the payloads are the skeleton's). -/
def out0_20 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024x384 .f32 :=
  View.canon [⟨r0_0, k0_pay6 (k0_pay4 (View.ld x0 r0_0) (View.ld x8 r0_0) (View.ld x12 r0_0)) (k0_pay5 (View.ld x4 r0_0))⟩]

/-- Its stores tile the buffer (checked by evaluation), so they cover it. -/
theorem cover0_20 (p0 : Vec F S1x1024x384 .f32) (y : S1x1024x384.Idx) :
    ∃ pc ∈ ([⟨r0_0, p0⟩] : List (View.Piece (Elt F) S1x1024x384 .f32)), y ∈ pc.1.set :=
  View.cover_of_tiled [⟨r0_0, p0⟩] S1x1024x384.size (by rfl) y

/-- Window 21's staging buffer after the body, from the input windows' blocks: its 1 store as pieces, LAST
    FIRST (Lib/Pipeline/FrameBody.lean `View.canon`; the payloads are the skeleton's). -/
def out0_21 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024 .f32 :=
  View.canon [⟨r0_1, k0_pay10 (k0_pay9 (View.ld x1 r0_1) (View.ld x9 r0_1) (View.ld x13 r0_1)) (View.ld x5 r0_1) (Scalar.ofBits .f32 0x3C23D70A#32)⟩]

/-- Its stores tile the buffer (checked by evaluation), so they cover it. -/
theorem cover0_21 (p0 : Vec F S1x1024 .f32) (y : S1x1024.Idx) :
    ∃ pc ∈ ([⟨r0_1, p0⟩] : List (View.Piece (Elt F) S1x1024 .f32)), y ∈ pc.1.set :=
  View.cover_of_tiled [⟨r0_1, p0⟩] S1x1024.size (by rfl) y

/-- Window 22's staging buffer after the body, from the input windows' blocks: its 1 store as pieces, LAST
    FIRST (Lib/Pipeline/FrameBody.lean `View.canon`; the payloads are the skeleton's). -/
def out0_22 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x3072 .f32 :=
  View.canon [⟨r0_2, k0_pay14 (k0_pay13 (View.ld x2 r0_2) (View.ld x10 r0_2) (View.ld x14 r0_2)) (View.ld x6 r0_2)⟩]

/-- Its stores tile the buffer (checked by evaluation), so they cover it. -/
theorem cover0_22 (p0 : Vec F S1x3072 .f32) (y : S1x3072.Idx) :
    ∃ pc ∈ ([⟨r0_2, p0⟩] : List (View.Piece (Elt F) S1x3072 .f32)), y ∈ pc.1.set :=
  View.cover_of_tiled [⟨r0_2, p0⟩] S1x3072.size (by rfl) y

/-- Window 23's staging buffer after the body, from the input windows' blocks: its 1 store as pieces, LAST
    FIRST (Lib/Pipeline/FrameBody.lean `View.canon`; the payloads are the skeleton's). -/
def out0_23 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024 .f32 :=
  View.canon [⟨r0_1, k0_pay1 (k0_pay17 (View.ld x3 r0_1) (View.ld x11 r0_1) (View.ld x15 r0_1)) (View.ld x7 r0_1)⟩]

/-- Its stores tile the buffer (checked by evaluation), so they cover it. -/
theorem cover0_23 (p0 : Vec F S1x1024 .f32) (y : S1x1024.Idx) :
    ∃ pc ∈ ([⟨r0_1, p0⟩] : List (View.Piece (Elt F) S1x1024 .f32)), y ∈ pc.1.set :=
  View.cover_of_tiled [⟨r0_1, p0⟩] S1x1024.size (by rfl) y

/-- Window 24's staging buffer after the body, from the input windows' blocks: its 1 store as pieces, LAST
    FIRST (Lib/Pipeline/FrameBody.lean `View.canon`; the payloads are the skeleton's). -/
def out0_24 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024x384 .f32 :=
  View.canon [⟨r0_0, k0_pay2 (View.ld x0 r0_0) (View.ld x8 r0_0)⟩]

/-- Its stores tile the buffer (checked by evaluation), so they cover it. -/
theorem cover0_24 (p0 : Vec F S1x1024x384 .f32) (y : S1x1024x384.Idx) :
    ∃ pc ∈ ([⟨r0_0, p0⟩] : List (View.Piece (Elt F) S1x1024x384 .f32)), y ∈ pc.1.set :=
  View.cover_of_tiled [⟨r0_0, p0⟩] S1x1024x384.size (by rfl) y

/-- Window 25's staging buffer after the body, from the input windows' blocks: its 1 store as pieces, LAST
    FIRST (Lib/Pipeline/FrameBody.lean `View.canon`; the payloads are the skeleton's). -/
def out0_25 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024 .f32 :=
  View.canon [⟨r0_1, k0_pay7 (View.ld x1 r0_1) (View.ld x9 r0_1)⟩]

/-- Its stores tile the buffer (checked by evaluation), so they cover it. -/
theorem cover0_25 (p0 : Vec F S1x1024 .f32) (y : S1x1024.Idx) :
    ∃ pc ∈ ([⟨r0_1, p0⟩] : List (View.Piece (Elt F) S1x1024 .f32)), y ∈ pc.1.set :=
  View.cover_of_tiled [⟨r0_1, p0⟩] S1x1024.size (by rfl) y

/-- Window 26's staging buffer after the body, from the input windows' blocks: its 1 store as pieces, LAST
    FIRST (Lib/Pipeline/FrameBody.lean `View.canon`; the payloads are the skeleton's). -/
def out0_26 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x3072 .f32 :=
  View.canon [⟨r0_2, k0_pay11 (View.ld x2 r0_2) (View.ld x10 r0_2)⟩]

/-- Its stores tile the buffer (checked by evaluation), so they cover it. -/
theorem cover0_26 (p0 : Vec F S1x3072 .f32) (y : S1x3072.Idx) :
    ∃ pc ∈ ([⟨r0_2, p0⟩] : List (View.Piece (Elt F) S1x3072 .f32)), y ∈ pc.1.set :=
  View.cover_of_tiled [⟨r0_2, p0⟩] S1x3072.size (by rfl) y

/-- Window 27's staging buffer after the body, from the input windows' blocks: its 1 store as pieces, LAST
    FIRST (Lib/Pipeline/FrameBody.lean `View.canon`; the payloads are the skeleton's). -/
def out0_27 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024 .f32 :=
  View.canon [⟨r0_1, k0_pay15 (View.ld x3 r0_1) (View.ld x11 r0_1)⟩]

/-- Its stores tile the buffer (checked by evaluation), so they cover it. -/
theorem cover0_27 (p0 : Vec F S1x1024 .f32) (y : S1x1024.Idx) :
    ∃ pc ∈ ([⟨r0_1, p0⟩] : List (View.Piece (Elt F) S1x1024 .f32)), y ∈ pc.1.set :=
  View.cover_of_tiled [⟨r0_1, p0⟩] S1x1024.size (by rfl) y

/-- Window 28's staging buffer after the body, from the input windows' blocks: its 1 store as pieces, LAST
    FIRST (Lib/Pipeline/FrameBody.lean `View.canon`; the payloads are the skeleton's). -/
def out0_28 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024x384 .f32 :=
  View.canon [⟨r0_0, k0_pay3 (View.ld x0 r0_0) (View.ld x12 r0_0)⟩]

/-- Its stores tile the buffer (checked by evaluation), so they cover it. -/
theorem cover0_28 (p0 : Vec F S1x1024x384 .f32) (y : S1x1024x384.Idx) :
    ∃ pc ∈ ([⟨r0_0, p0⟩] : List (View.Piece (Elt F) S1x1024x384 .f32)), y ∈ pc.1.set :=
  View.cover_of_tiled [⟨r0_0, p0⟩] S1x1024x384.size (by rfl) y

/-- Window 29's staging buffer after the body, from the input windows' blocks: its 1 store as pieces, LAST
    FIRST (Lib/Pipeline/FrameBody.lean `View.canon`; the payloads are the skeleton's). -/
def out0_29 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024 .f32 :=
  View.canon [⟨r0_1, k0_pay8 (View.ld x1 r0_1) (View.ld x13 r0_1)⟩]

/-- Its stores tile the buffer (checked by evaluation), so they cover it. -/
theorem cover0_29 (p0 : Vec F S1x1024 .f32) (y : S1x1024.Idx) :
    ∃ pc ∈ ([⟨r0_1, p0⟩] : List (View.Piece (Elt F) S1x1024 .f32)), y ∈ pc.1.set :=
  View.cover_of_tiled [⟨r0_1, p0⟩] S1x1024.size (by rfl) y

/-- Window 30's staging buffer after the body, from the input windows' blocks: its 1 store as pieces, LAST
    FIRST (Lib/Pipeline/FrameBody.lean `View.canon`; the payloads are the skeleton's). -/
def out0_30 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x3072 .f32 :=
  View.canon [⟨r0_2, k0_pay12 (View.ld x2 r0_2) (View.ld x14 r0_2)⟩]

/-- Its stores tile the buffer (checked by evaluation), so they cover it. -/
theorem cover0_30 (p0 : Vec F S1x3072 .f32) (y : S1x3072.Idx) :
    ∃ pc ∈ ([⟨r0_2, p0⟩] : List (View.Piece (Elt F) S1x3072 .f32)), y ∈ pc.1.set :=
  View.cover_of_tiled [⟨r0_2, p0⟩] S1x3072.size (by rfl) y

/-- Window 31's staging buffer after the body, from the input windows' blocks: its 1 store as pieces, LAST
    FIRST (Lib/Pipeline/FrameBody.lean `View.canon`; the payloads are the skeleton's). -/
def out0_31 (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) : Vec F S1x1024 .f32 :=
  View.canon [⟨r0_1, k0_pay16 (View.ld x3 r0_1) (View.ld x15 r0_1)⟩]

/-- Its stores tile the buffer (checked by evaluation), so they cover it. -/
theorem cover0_31 (p0 : Vec F S1x1024 .f32) (y : S1x1024.Idx) :
    ∃ pc ∈ ([⟨r0_1, p0⟩] : List (View.Piece (Elt F) S1x1024 .f32)), y ∈ pc.1.set :=
  View.cover_of_tiled [⟨r0_1, p0⟩] S1x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S1x1024x384 .f32) (harg0 : arg0.IsWhole) (arg1 : Memref sig .tc .vmem S1x1024 .f32) (harg1 : arg1.IsWhole) (arg2 : Memref sig .tc .vmem S1x3072 .f32) (harg2 : arg2.IsWhole) (arg3 : Memref sig .tc .vmem S1x1024 .f32) (harg3 : arg3.IsWhole) (arg4 : Memref sig .tc .vmem S1x1024x384 .f32) (harg4 : arg4.IsWhole) (arg5 : Memref sig .tc .vmem S1x1024 .f32) (harg5 : arg5.IsWhole) (arg6 : Memref sig .tc .vmem S1x3072 .f32) (harg6 : arg6.IsWhole) (arg7 : Memref sig .tc .vmem S1x1024 .f32) (harg7 : arg7.IsWhole) (arg8 : Memref sig .tc .vmem S1x1024x384 .f32) (harg8 : arg8.IsWhole) (arg9 : Memref sig .tc .vmem S1x1024 .f32) (harg9 : arg9.IsWhole) (arg10 : Memref sig .tc .vmem S1x3072 .f32) (harg10 : arg10.IsWhole) (arg11 : Memref sig .tc .vmem S1x1024 .f32) (harg11 : arg11.IsWhole) (arg12 : Memref sig .tc .vmem S1x1024x384 .f32) (harg12 : arg12.IsWhole) (arg13 : Memref sig .tc .vmem S1x1024 .f32) (harg13 : arg13.IsWhole) (arg14 : Memref sig .tc .vmem S1x3072 .f32) (harg14 : arg14.IsWhole) (arg15 : Memref sig .tc .vmem S1x1024 .f32) (harg15 : arg15.IsWhole) (arg16 : Memref sig .tc .vmem S1x1024x384 .f32) (harg16 : arg16.IsWhole) (arg17 : Memref sig .tc .vmem S1x1024 .f32) (harg17 : arg17.IsWhole) (arg18 : Memref sig .tc .vmem S1x3072 .f32) (harg18 : arg18.IsWhole) (arg19 : Memref sig .tc .vmem S1x1024 .f32) (harg19 : arg19.IsWhole) (arg20 : Memref sig .tc .vmem S1x1024x384 .f32) (harg20 : arg20.IsWhole) (arg21 : Memref sig .tc .vmem S1x1024 .f32) (harg21 : arg21.IsWhole) (arg22 : Memref sig .tc .vmem S1x3072 .f32) (harg22 : arg22.IsWhole) (arg23 : Memref sig .tc .vmem S1x1024 .f32) (harg23 : arg23.IsWhole) (arg24 : Memref sig .tc .vmem S1x1024x384 .f32) (harg24 : arg24.IsWhole) (arg25 : Memref sig .tc .vmem S1x1024 .f32) (harg25 : arg25.IsWhole) (arg26 : Memref sig .tc .vmem S1x3072 .f32) (harg26 : arg26.IsWhole) (arg27 : Memref sig .tc .vmem S1x1024 .f32) (harg27 : arg27.IsWhole) (arg28 : Memref sig .tc .vmem S1x1024x384 .f32) (harg28 : arg28.IsWhole) (arg29 : Memref sig .tc .vmem S1x1024 .f32) (harg29 : arg29.IsWhole) (arg30 : Memref sig .tc .vmem S1x3072 .f32) (harg30 : arg30.IsWhole) (arg31 : Memref sig .tc .vmem S1x1024 .f32) (harg31 : arg31.IsWhole)
    (x0 : Vec F S1x1024x384 .f32) (x1 : Vec F S1x1024 .f32) (x2 : Vec F S1x3072 .f32) (x3 : Vec F S1x1024 .f32) (x4 : Vec F S1x1024x384 .f32) (x5 : Vec F S1x1024 .f32) (x6 : Vec F S1x3072 .f32) (x7 : Vec F S1x1024 .f32) (x8 : Vec F S1x1024x384 .f32) (x9 : Vec F S1x1024 .f32) (x10 : Vec F S1x3072 .f32) (x11 : Vec F S1x1024 .f32) (x12 : Vec F S1x1024x384 .f32) (x13 : Vec F S1x1024 .f32) (x14 : Vec F S1x3072 .f32) (x15 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (out0_16 x0 x1 x2 x3 x4 x5 x6 x7 x8 x9 x10 x11 x12 x13 x14 x15) ∗ owns (c : Thread nD τ) arg17 fullShare (out0_17 x0 x1 x2 x3 x4 x5 x6 x7 x8 x9 x10 x11 x12 x13 x14 x15) ∗ owns (c : Thread nD τ) arg18 fullShare (out0_18 x0 x1 x2 x3 x4 x5 x6 x7 x8 x9 x10 x11 x12 x13 x14 x15) ∗ owns (c : Thread nD τ) arg19 fullShare (out0_19 x0 x1 x2 x3 x4 x5 x6 x7 x8 x9 x10 x11 x12 x13 x14 x15) ∗ owns (c : Thread nD τ) arg20 fullShare (out0_20 x0 x1 x2 x3 x4 x5 x6 x7 x8 x9 x10 x11 x12 x13 x14 x15) ∗ owns (c : Thread nD τ) arg21 fullShare (out0_21 x0 x1 x2 x3 x4 x5 x6 x7 x8 x9 x10 x11 x12 x13 x14 x15) ∗ owns (c : Thread nD τ) arg22 fullShare (out0_22 x0 x1 x2 x3 x4 x5 x6 x7 x8 x9 x10 x11 x12 x13 x14 x15) ∗ owns (c : Thread nD τ) arg23 fullShare (out0_23 x0 x1 x2 x3 x4 x5 x6 x7 x8 x9 x10 x11 x12 x13 x14 x15) ∗ owns (c : Thread nD τ) arg24 fullShare (out0_24 x0 x1 x2 x3 x4 x5 x6 x7 x8 x9 x10 x11 x12 x13 x14 x15) ∗ owns (c : Thread nD τ) arg25 fullShare (out0_25 x0 x1 x2 x3 x4 x5 x6 x7 x8 x9 x10 x11 x12 x13 x14 x15) ∗ owns (c : Thread nD τ) arg26 fullShare (out0_26 x0 x1 x2 x3 x4 x5 x6 x7 x8 x9 x10 x11 x12 x13 x14 x15) ∗ owns (c : Thread nD τ) arg27 fullShare (out0_27 x0 x1 x2 x3 x4 x5 x6 x7 x8 x9 x10 x11 x12 x13 x14 x15) ∗ owns (c : Thread nD τ) arg28 fullShare (out0_28 x0 x1 x2 x3 x4 x5 x6 x7 x8 x9 x10 x11 x12 x13 x14 x15) ∗ owns (c : Thread nD τ) arg29 fullShare (out0_29 x0 x1 x2 x3 x4 x5 x6 x7 x8 x9 x10 x11 x12 x13 x14 x15) ∗ owns (c : Thread nD τ) arg30 fullShare (out0_30 x0 x1 x2 x3 x4 x5 x6 x7 x8 x9 x10 x11 x12 x13 x14 x15) ∗ owns (c : Thread nD τ) arg31 fullShare (out0_31 x0 x1 x2 x3 x4 x5 x6 x7 x8 x9 x10 x11 x12 x13 x14 x15)) -∗ K ⟨⟩))
      ⊢ wp frame (wpE (defs₀ (F := F)) Variants.none c none) E (cc0_adam_mod arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_adam_mod_eq_skeleton]; unfold cc0_adam_mod_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (cover0_16 _)
  isplitl [H17]
  · iexists _; isplitr
    swap; · iexact H17
    ipureintro
    exact View.read_writes_eq_canon _ _ _ (cover0_17 _)
  isplitl [H18]
  · iexists _; isplitr
    swap; · iexact H18
    ipureintro
    exact View.read_writes_eq_canon _ _ _ (cover0_18 _)
  isplitl [H19]
  · iexists _; isplitr
    swap; · iexact H19
    ipureintro
    exact View.read_writes_eq_canon _ _ _ (cover0_19 _)
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_22 _)
  isplitl [H23]
  · iexists _; isplitr
    swap; · iexact H23
    ipureintro
    exact View.read_writes_eq_canon _ _ _ (cover0_23 _)
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  isplitl [H27]
  · iexists _; isplitr
    swap; · iexact H27
    ipureintro
    exact View.read_writes_eq_canon _ _ _ (cover0_27 _)
  isplitl [H28]
  · iexists _; isplitr
    swap; · iexact H28
    ipureintro
    exact View.read_writes_eq_canon _ _ _ (cover0_28 _)
  isplitl [H29]
  · iexists _; isplitr
    swap; · iexact H29
    ipureintro
    exact View.read_writes_eq_canon _ _ _ (cover0_29 _)
  isplitl [H30]
  · iexists _; isplitr
    swap; · iexact H30
    ipureintro
    exact View.read_writes_eq_canon _ _ _ (cover0_30 _)
  iexists _; isplitr
  swap; · iexact H31
  ipureintro
  exact View.read_writes_eq_canon _ _ _ (cover0_31 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 32, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.ModIdeal.Gen

end
-- ==== Proof.ModValue.lean ====
/-
  The optimiser call of the modulation's weight, bias and context vector and of the input norm's gain runs at one point, where
  every window is its whole array: what the run leaves in each of its twelve results, as a function of the arguments.
-/
module

public import proofs.«01_k».proof.Proof.ModFrame
public import Idealize.ShloMosaic.Lib.Pipeline.Value

@[expose] public section

noncomputable section

namespace Cert.ModValue

open Cert.ModIdeal Cert.ModIdeal.Gen Idealize.ShloMosaic Idealize.ShloMosaic.TcCoe Idealize.SL.Sem

variable {F : FTy → Type} [FloatOps F] [Named F]
variable (m : (ℓ : Loc nD τ sig) → Buf (Elt F) ℓ) (ρ : Dev nD → PrngReg) (c : Dev nD)

theorem zero2 : (![0, 0] : Fin 2 → Nat) = fun _ => 0 := funext fun a => by fin_cases a <;> rfl

theorem zero3 : (![0, 0, 0] : Fin 3 → Nat) = fun _ => 0 := funext fun a => by fin_cases a <;> rfl

/-! ## A window's block is its array -/

theorem place0 (t : Fin cfg0.N) (j : S1x1024x384.Idx) : ((cfg0.win 0).blk t).view.emb j = j := by
  obtain ⟨e0, e1, e2⟩ := (by decide +kernel : ∀ t : Fin grid0.N, win0_0.index t (0 : Fin 3) = 0 ∧ win0_0.index t (1 : Fin 3) = 0 ∧ win0_0.index t (2 : Fin 3) = 0) t
  funext a; apply Fin.ext
  match a with
  | ⟨0, _⟩ => show win0_0.index t (0 : Fin 3) * 1 + 1 * (j 0).val = (j 0).val; omega
  | ⟨1, _⟩ => show win0_0.index t (1 : Fin 3) * 1024 + 1 * (j 1).val = (j 1).val; omega
  | ⟨2, _⟩ => show win0_0.index t (2 : Fin 3) * 384 + 1 * (j 2).val = (j 2).val; omega

theorem input0 (t : Fin cfg0.N) : iblk m c 0 t = m ((c : Thread nD τ).loc main_arg0) := by
  rw [← V_main_arg0 m c]
  funext j; show V m c main_arg0 (((cfg0.win 0).blk t).view.emb j) = V m c main_arg0 j; rw [place0]

theorem place1 (t : Fin cfg0.N) (j : S1x1024.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem input1 (t : Fin cfg0.N) : iblk m c 1 t = m ((c : Thread nD τ).loc main_arg1) := by
  rw [← V_main_arg1 m c]
  funext j; show V m c main_arg1 (((cfg0.win 1).blk t).view.emb j) = V m c main_arg1 j; rw [place1]

theorem place2 (t : Fin cfg0.N) (j : S1x3072.Idx) : ((cfg0.win 2).blk t).view.emb j = j := by
  obtain ⟨e0, e1⟩ := (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 1 + 1 * (j 0).val = (j 0).val; omega
  | ⟨1, _⟩ => show win0_2.index t (1 : Fin 2) * 3072 + 1 * (j 1).val = (j 1).val; omega

theorem input2 (t : Fin cfg0.N) : iblk m c 2 t = m ((c : Thread nD τ).loc main_arg2) := by
  rw [← V_main_arg2 m c]
  funext j; show V m c main_arg2 (((cfg0.win 2).blk t).view.emb j) = V m c main_arg2 j; rw [place2]

theorem place3 (t : Fin cfg0.N) (j : S1x1024.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 1 + 1 * (j 0).val = (j 0).val; omega
  | ⟨1, _⟩ => show win0_3.index t (1 : Fin 2) * 1024 + 1 * (j 1).val = (j 1).val; omega

theorem input3 (t : Fin cfg0.N) : iblk m c 3 t = m ((c : Thread nD τ).loc main_arg3) := by
  rw [← V_main_arg3 m c]
  funext j; show V m c main_arg3 (((cfg0.win 3).blk t).view.emb j) = V m c main_arg3 j; rw [place3]

theorem place4 (t : Fin cfg0.N) (j : S1x1024x384.Idx) : ((cfg0.win 4).blk t).view.emb j = j := by
  obtain ⟨e0, e1, e2⟩ := (by decide +kernel : ∀ t : Fin grid0.N, win0_4.index t (0 : Fin 3) = 0 ∧ win0_4.index t (1 : Fin 3) = 0 ∧ win0_4.index t (2 : Fin 3) = 0) t
  funext a; apply Fin.ext
  match a with
  | ⟨0, _⟩ => show win0_4.index t (0 : Fin 3) * 1 + 1 * (j 0).val = (j 0).val; omega
  | ⟨1, _⟩ => show win0_4.index t (1 : Fin 3) * 1024 + 1 * (j 1).val = (j 1).val; omega
  | ⟨2, _⟩ => show win0_4.index t (2 : Fin 3) * 384 + 1 * (j 2).val = (j 2).val; omega

theorem input4 (t : Fin cfg0.N) : iblk m c 4 t = m ((c : Thread nD τ).loc main_arg4) := by
  rw [← V_main_arg4 m c]
  funext j; show V m c main_arg4 (((cfg0.win 4).blk t).view.emb j) = V m c main_arg4 j; rw [place4]

theorem place5 (t : Fin cfg0.N) (j : S1x1024.Idx) : ((cfg0.win 5).blk t).view.emb j = j := by
  obtain ⟨e0, e1⟩ := (by decide +kernel : ∀ t : Fin grid0.N, win0_5.index t (0 : Fin 2) = 0 ∧ win0_5.index t (1 : Fin 2) = 0) t
  funext a; apply Fin.ext
  match a with
  | ⟨0, _⟩ => show win0_5.index t (0 : Fin 2) * 1 + 1 * (j 0).val = (j 0).val; omega
  | ⟨1, _⟩ => show win0_5.index t (1 : Fin 2) * 1024 + 1 * (j 1).val = (j 1).val; omega

theorem input5 (t : Fin cfg0.N) : iblk m c 5 t = m ((c : Thread nD τ).loc main_arg5) := by
  rw [← V_main_arg5 m c]
  funext j; show V m c main_arg5 (((cfg0.win 5).blk t).view.emb j) = V m c main_arg5 j; rw [place5]

theorem place6 (t : Fin cfg0.N) (j : S1x3072.Idx) : ((cfg0.win 6).blk t).view.emb j = j := by
  obtain ⟨e0, e1⟩ := (by decide +kernel : ∀ t : Fin grid0.N, win0_6.index t (0 : Fin 2) = 0 ∧ win0_6.index t (1 : Fin 2) = 0) t
  funext a; apply Fin.ext
  match a with
  | ⟨0, _⟩ => show win0_6.index t (0 : Fin 2) * 1 + 1 * (j 0).val = (j 0).val; omega
  | ⟨1, _⟩ => show win0_6.index t (1 : Fin 2) * 3072 + 1 * (j 1).val = (j 1).val; omega

theorem input6 (t : Fin cfg0.N) : iblk m c 6 t = m ((c : Thread nD τ).loc main_arg6) := by
  rw [← V_main_arg6 m c]
  funext j; show V m c main_arg6 (((cfg0.win 6).blk t).view.emb j) = V m c main_arg6 j; rw [place6]

theorem place7 (t : Fin cfg0.N) (j : S1x1024.Idx) : ((cfg0.win 7).blk t).view.emb j = j := by
  obtain ⟨e0, e1⟩ := (by decide +kernel : ∀ t : Fin grid0.N, win0_7.index t (0 : Fin 2) = 0 ∧ win0_7.index t (1 : Fin 2) = 0) t
  funext a; apply Fin.ext
  match a with
  | ⟨0, _⟩ => show win0_7.index t (0 : Fin 2) * 1 + 1 * (j 0).val = (j 0).val; omega
  | ⟨1, _⟩ => show win0_7.index t (1 : Fin 2) * 1024 + 1 * (j 1).val = (j 1).val; omega

theorem input7 (t : Fin cfg0.N) : iblk m c 7 t = m ((c : Thread nD τ).loc main_arg7) := by
  rw [← V_main_arg7 m c]
  funext j; show V m c main_arg7 (((cfg0.win 7).blk t).view.emb j) = V m c main_arg7 j; rw [place7]

theorem place8 (t : Fin cfg0.N) (j : S1x1024x384.Idx) : ((cfg0.win 8).blk t).view.emb j = j := by
  obtain ⟨e0, e1, e2⟩ := (by decide +kernel : ∀ t : Fin grid0.N, win0_8.index t (0 : Fin 3) = 0 ∧ win0_8.index t (1 : Fin 3) = 0 ∧ win0_8.index t (2 : Fin 3) = 0) t
  funext a; apply Fin.ext
  match a with
  | ⟨0, _⟩ => show win0_8.index t (0 : Fin 3) * 1 + 1 * (j 0).val = (j 0).val; omega
  | ⟨1, _⟩ => show win0_8.index t (1 : Fin 3) * 1024 + 1 * (j 1).val = (j 1).val; omega
  | ⟨2, _⟩ => show win0_8.index t (2 : Fin 3) * 384 + 1 * (j 2).val = (j 2).val; omega

theorem input8 (t : Fin cfg0.N) : iblk m c 8 t = m ((c : Thread nD τ).loc main_arg8) := by
  rw [← V_main_arg8 m c]
  funext j; show V m c main_arg8 (((cfg0.win 8).blk t).view.emb j) = V m c main_arg8 j; rw [place8]

theorem place9 (t : Fin cfg0.N) (j : S1x1024.Idx) : ((cfg0.win 9).blk t).view.emb j = j := by
  obtain ⟨e0, e1⟩ := (by decide +kernel : ∀ t : Fin grid0.N, win0_9.index t (0 : Fin 2) = 0 ∧ win0_9.index t (1 : Fin 2) = 0) t
  funext a; apply Fin.ext
  match a with
  | ⟨0, _⟩ => show win0_9.index t (0 : Fin 2) * 1 + 1 * (j 0).val = (j 0).val; omega
  | ⟨1, _⟩ => show win0_9.index t (1 : Fin 2) * 1024 + 1 * (j 1).val = (j 1).val; omega

theorem input9 (t : Fin cfg0.N) : iblk m c 9 t = m ((c : Thread nD τ).loc main_arg9) := by
  rw [← V_main_arg9 m c]
  funext j; show V m c main_arg9 (((cfg0.win 9).blk t).view.emb j) = V m c main_arg9 j; rw [place9]

theorem place10 (t : Fin cfg0.N) (j : S1x3072.Idx) : ((cfg0.win 10).blk t).view.emb j = j := by
  obtain ⟨e0, e1⟩ := (by decide +kernel : ∀ t : Fin grid0.N, win0_10.index t (0 : Fin 2) = 0 ∧ win0_10.index t (1 : Fin 2) = 0) t
  funext a; apply Fin.ext
  match a with
  | ⟨0, _⟩ => show win0_10.index t (0 : Fin 2) * 1 + 1 * (j 0).val = (j 0).val; omega
  | ⟨1, _⟩ => show win0_10.index t (1 : Fin 2) * 3072 + 1 * (j 1).val = (j 1).val; omega

theorem input10 (t : Fin cfg0.N) : iblk m c 10 t = m ((c : Thread nD τ).loc main_arg10) := by
  rw [← V_main_arg10 m c]
  funext j; show V m c main_arg10 (((cfg0.win 10).blk t).view.emb j) = V m c main_arg10 j; rw [place10]

theorem place11 (t : Fin cfg0.N) (j : S1x1024.Idx) : ((cfg0.win 11).blk t).view.emb j = j := by
  obtain ⟨e0, e1⟩ := (by decide +kernel : ∀ t : Fin grid0.N, win0_11.index t (0 : Fin 2) = 0 ∧ win0_11.index t (1 : Fin 2) = 0) t
  funext a; apply Fin.ext
  match a with
  | ⟨0, _⟩ => show win0_11.index t (0 : Fin 2) * 1 + 1 * (j 0).val = (j 0).val; omega
  | ⟨1, _⟩ => show win0_11.index t (1 : Fin 2) * 1024 + 1 * (j 1).val = (j 1).val; omega

theorem input11 (t : Fin cfg0.N) : iblk m c 11 t = m ((c : Thread nD τ).loc main_arg11) := by
  rw [← V_main_arg11 m c]
  funext j; show V m c main_arg11 (((cfg0.win 11).blk t).view.emb j) = V m c main_arg11 j; rw [place11]

theorem place12 (t : Fin cfg0.N) (j : S1x1024x384.Idx) : ((cfg0.win 12).blk t).view.emb j = j := by
  obtain ⟨e0, e1, e2⟩ := (by decide +kernel : ∀ t : Fin grid0.N, win0_12.index t (0 : Fin 3) = 0 ∧ win0_12.index t (1 : Fin 3) = 0 ∧ win0_12.index t (2 : Fin 3) = 0) t
  funext a; apply Fin.ext
  match a with
  | ⟨0, _⟩ => show win0_12.index t (0 : Fin 3) * 1 + 1 * (j 0).val = (j 0).val; omega
  | ⟨1, _⟩ => show win0_12.index t (1 : Fin 3) * 1024 + 1 * (j 1).val = (j 1).val; omega
  | ⟨2, _⟩ => show win0_12.index t (2 : Fin 3) * 384 + 1 * (j 2).val = (j 2).val; omega

theorem input12 (t : Fin cfg0.N) : iblk m c 12 t = m ((c : Thread nD τ).loc main_arg12) := by
  rw [← V_main_arg12 m c]
  funext j; show V m c main_arg12 (((cfg0.win 12).blk t).view.emb j) = V m c main_arg12 j; rw [place12]

theorem place13 (t : Fin cfg0.N) (j : S1x1024.Idx) : ((cfg0.win 13).blk t).view.emb j = j := by
  obtain ⟨e0, e1⟩ := (by decide +kernel : ∀ t : Fin grid0.N, win0_13.index t (0 : Fin 2) = 0 ∧ win0_13.index t (1 : Fin 2) = 0) t
  funext a; apply Fin.ext
  match a with
  | ⟨0, _⟩ => show win0_13.index t (0 : Fin 2) * 1 + 1 * (j 0).val = (j 0).val; omega
  | ⟨1, _⟩ => show win0_13.index t (1 : Fin 2) * 1024 + 1 * (j 1).val = (j 1).val; omega

theorem input13 (t : Fin cfg0.N) : iblk m c 13 t = m ((c : Thread nD τ).loc main_arg13) := by
  rw [← V_main_arg13 m c]
  funext j; show V m c main_arg13 (((cfg0.win 13).blk t).view.emb j) = V m c main_arg13 j; rw [place13]

theorem place14 (t : Fin cfg0.N) (j : S1x3072.Idx) : ((cfg0.win 14).blk t).view.emb j = j := by
  obtain ⟨e0, e1⟩ := (by decide +kernel : ∀ t : Fin grid0.N, win0_14.index t (0 : Fin 2) = 0 ∧ win0_14.index t (1 : Fin 2) = 0) t
  funext a; apply Fin.ext
  match a with
  | ⟨0, _⟩ => show win0_14.index t (0 : Fin 2) * 1 + 1 * (j 0).val = (j 0).val; omega
  | ⟨1, _⟩ => show win0_14.index t (1 : Fin 2) * 3072 + 1 * (j 1).val = (j 1).val; omega

theorem input14 (t : Fin cfg0.N) : iblk m c 14 t = m ((c : Thread nD τ).loc main_arg14) := by
  rw [← V_main_arg14 m c]
  funext j; show V m c main_arg14 (((cfg0.win 14).blk t).view.emb j) = V m c main_arg14 j; rw [place14]

theorem place15 (t : Fin cfg0.N) (j : S1x1024.Idx) : ((cfg0.win 15).blk t).view.emb j = j := by
  obtain ⟨e0, e1⟩ := (by decide +kernel : ∀ t : Fin grid0.N, win0_15.index t (0 : Fin 2) = 0 ∧ win0_15.index t (1 : Fin 2) = 0) t
  funext a; apply Fin.ext
  match a with
  | ⟨0, _⟩ => show win0_15.index t (0 : Fin 2) * 1 + 1 * (j 0).val = (j 0).val; omega
  | ⟨1, _⟩ => show win0_15.index t (1 : Fin 2) * 1024 + 1 * (j 1).val = (j 1).val; omega

theorem input15 (t : Fin cfg0.N) : iblk m c 15 t = m ((c : Thread nD τ).loc main_arg15) := by
  rw [← V_main_arg15 m c]
  funext j; show V m c main_arg15 (((cfg0.win 15).blk t).view.emb j) = V m c main_arg15 j; rw [place15]

/-! ## The arrays after the run -/

theorem place20 (t : Fin cfg0.N) (j : S1x1024x384.Idx) : ((cfg0.win 20).blk t).view.emb j = j := by
  obtain ⟨e0, e1, e2⟩ := (by decide +kernel : ∀ t : Fin grid0.N, win0_20.index t (0 : Fin 3) = 0 ∧ win0_20.index t (1 : Fin 3) = 0 ∧ win0_20.index t (2 : Fin 3) = 0) t
  funext a; apply Fin.ext
  match a with
  | ⟨0, _⟩ => show win0_20.index t (0 : Fin 3) * 1 + 1 * (j 0).val = (j 0).val; omega
  | ⟨1, _⟩ => show win0_20.index t (1 : Fin 3) * 1024 + 1 * (j 1).val = (j 1).val; omega
  | ⟨2, _⟩ => show win0_20.index t (2 : Fin 3) * 384 + 1 * (j 2).val = (j 2).val; omega

theorem left20 (t : Fin cfg0.N) : (dats m 0 c).after 20 t = k0_pay6 (k0_pay4 (m ((c : Thread nD τ).loc main_arg0)) (m ((c : Thread nD τ).loc main_arg8)) (m ((c : Thread nD τ).loc main_arg12))) (k0_pay5 (m ((c : Thread nD τ).loc main_arg4))) := by
  rw [after0_20]
  unfold out0_20
  rw [View.canon_unit_zero zero3, View.ld_unit_zero (S := S1x1024x384) zero3 _ (iblk m c 0 t), View.ld_unit_zero (S := S1x1024x384) zero3 _ (iblk m c 8 t), View.ld_unit_zero (S := S1x1024x384) zero3 _ (iblk m c 12 t), View.ld_unit_zero (S := S1x1024x384) zero3 _ (iblk m c 4 t), input0, input8, input12, input4]

theorem final20 : (dats m 0 c).arrAt 20 cfg0.N = k0_pay6 (k0_pay4 (m ((c : Thread nD τ).loc main_arg0)) (m ((c : Thread nD τ).loc main_arg8)) (m ((c : Thread nD τ).loc main_arg12))) (k0_pay5 (m ((c : Thread nD τ).loc main_arg4))) :=
  (dats m 0 c).arrAt_eq_of_cover 20 _ (fun t _ => by
      show (cfg0.win 20).cut (grid0.coords t) ((dats m 0 c).after 20 t) = _
      rw [left20]
      funext j
      exact (congrArg _ (place20 t j)).symm)
    fun i => ⟨⟨0, by decide⟩, flush0_20 _, by
      have h := ((cfg0.win 20).blk (⟨0, by decide⟩ : Fin cfg0.N)).view.emb_mem_set i; rwa [place20] at h⟩

theorem place21 (t : Fin cfg0.N) (j : S1x1024.Idx) : ((cfg0.win 21).blk t).view.emb j = j := by
  obtain ⟨e0, e1⟩ := (by decide +kernel : ∀ t : Fin grid0.N, win0_21.index t (0 : Fin 2) = 0 ∧ win0_21.index t (1 : Fin 2) = 0) t
  funext a; apply Fin.ext
  match a with
  | ⟨0, _⟩ => show win0_21.index t (0 : Fin 2) * 1 + 1 * (j 0).val = (j 0).val; omega
  | ⟨1, _⟩ => show win0_21.index t (1 : Fin 2) * 1024 + 1 * (j 1).val = (j 1).val; omega

theorem left21 (t : Fin cfg0.N) : (dats m 0 c).after 21 t = k0_pay10 (k0_pay9 (m ((c : Thread nD τ).loc main_arg1)) (m ((c : Thread nD τ).loc main_arg9)) (m ((c : Thread nD τ).loc main_arg13))) (m ((c : Thread nD τ).loc main_arg5)) (Scalar.ofBits .f32 0x3C23D70A#32) := by
  rw [after0_21]
  unfold out0_21
  rw [View.canon_unit_zero zero2, View.ld_unit_zero (S := S1x1024) zero2 _ (iblk m c 1 t), View.ld_unit_zero (S := S1x1024) zero2 _ (iblk m c 9 t), View.ld_unit_zero (S := S1x1024) zero2 _ (iblk m c 13 t), View.ld_unit_zero (S := S1x1024) zero2 _ (iblk m c 5 t), input1, input9, input13, input5]

theorem final21 : (dats m 0 c).arrAt 21 cfg0.N = k0_pay10 (k0_pay9 (m ((c : Thread nD τ).loc main_arg1)) (m ((c : Thread nD τ).loc main_arg9)) (m ((c : Thread nD τ).loc main_arg13))) (m ((c : Thread nD τ).loc main_arg5)) (Scalar.ofBits .f32 0x3C23D70A#32) :=
  (dats m 0 c).arrAt_eq_of_cover 21 _ (fun t _ => by
      show (cfg0.win 21).cut (grid0.coords t) ((dats m 0 c).after 21 t) = _
      rw [left21]
      funext j
      exact (congrArg _ (place21 t j)).symm)
    fun i => ⟨⟨0, by decide⟩, flush0_21 _, by
      have h := ((cfg0.win 21).blk (⟨0, by decide⟩ : Fin cfg0.N)).view.emb_mem_set i; rwa [place21] at h⟩

theorem place22 (t : Fin cfg0.N) (j : S1x3072.Idx) : ((cfg0.win 22).blk t).view.emb j = j := by
  obtain ⟨e0, e1⟩ := (by decide +kernel : ∀ t : Fin grid0.N, win0_22.index t (0 : Fin 2) = 0 ∧ win0_22.index t (1 : Fin 2) = 0) t
  funext a; apply Fin.ext
  match a with
  | ⟨0, _⟩ => show win0_22.index t (0 : Fin 2) * 1 + 1 * (j 0).val = (j 0).val; omega
  | ⟨1, _⟩ => show win0_22.index t (1 : Fin 2) * 3072 + 1 * (j 1).val = (j 1).val; omega

theorem left22 (t : Fin cfg0.N) : (dats m 0 c).after 22 t = k0_pay14 (k0_pay13 (m ((c : Thread nD τ).loc main_arg2)) (m ((c : Thread nD τ).loc main_arg10)) (m ((c : Thread nD τ).loc main_arg14))) (m ((c : Thread nD τ).loc main_arg6)) := by
  rw [after0_22]
  unfold out0_22
  rw [View.canon_unit_zero zero2, View.ld_unit_zero (S := S1x3072) zero2 _ (iblk m c 2 t), View.ld_unit_zero (S := S1x3072) zero2 _ (iblk m c 10 t), View.ld_unit_zero (S := S1x3072) zero2 _ (iblk m c 14 t), View.ld_unit_zero (S := S1x3072) zero2 _ (iblk m c 6 t), input2, input10, input14, input6]

theorem final22 : (dats m 0 c).arrAt 22 cfg0.N = k0_pay14 (k0_pay13 (m ((c : Thread nD τ).loc main_arg2)) (m ((c : Thread nD τ).loc main_arg10)) (m ((c : Thread nD τ).loc main_arg14))) (m ((c : Thread nD τ).loc main_arg6)) :=
  (dats m 0 c).arrAt_eq_of_cover 22 _ (fun t _ => by
      show (cfg0.win 22).cut (grid0.coords t) ((dats m 0 c).after 22 t) = _
      rw [left22]
      funext j
      exact (congrArg _ (place22 t j)).symm)
    fun i => ⟨⟨0, by decide⟩, flush0_22 _, by
      have h := ((cfg0.win 22).blk (⟨0, by decide⟩ : Fin cfg0.N)).view.emb_mem_set i; rwa [place22] at h⟩

theorem place23 (t : Fin cfg0.N) (j : S1x1024.Idx) : ((cfg0.win 23).blk t).view.emb j = j := by
  obtain ⟨e0, e1⟩ := (by decide +kernel : ∀ t : Fin grid0.N, win0_23.index t (0 : Fin 2) = 0 ∧ win0_23.index t (1 : Fin 2) = 0) t
  funext a; apply Fin.ext
  match a with
  | ⟨0, _⟩ => show win0_23.index t (0 : Fin 2) * 1 + 1 * (j 0).val = (j 0).val; omega
  | ⟨1, _⟩ => show win0_23.index t (1 : Fin 2) * 1024 + 1 * (j 1).val = (j 1).val; omega

theorem left23 (t : Fin cfg0.N) : (dats m 0 c).after 23 t = k0_pay1 (k0_pay17 (m ((c : Thread nD τ).loc main_arg3)) (m ((c : Thread nD τ).loc main_arg11)) (m ((c : Thread nD τ).loc main_arg15))) (m ((c : Thread nD τ).loc main_arg7)) := by
  rw [after0_23]
  unfold out0_23
  rw [View.canon_unit_zero zero2, View.ld_unit_zero (S := S1x1024) zero2 _ (iblk m c 3 t), View.ld_unit_zero (S := S1x1024) zero2 _ (iblk m c 11 t), View.ld_unit_zero (S := S1x1024) zero2 _ (iblk m c 15 t), View.ld_unit_zero (S := S1x1024) zero2 _ (iblk m c 7 t), input3, input11, input15, input7]

theorem final23 : (dats m 0 c).arrAt 23 cfg0.N = k0_pay1 (k0_pay17 (m ((c : Thread nD τ).loc main_arg3)) (m ((c : Thread nD τ).loc main_arg11)) (m ((c : Thread nD τ).loc main_arg15))) (m ((c : Thread nD τ).loc main_arg7)) :=
  (dats m 0 c).arrAt_eq_of_cover 23 _ (fun t _ => by
      show (cfg0.win 23).cut (grid0.coords t) ((dats m 0 c).after 23 t) = _
      rw [left23]
      funext j
      exact (congrArg _ (place23 t j)).symm)
    fun i => ⟨⟨0, by decide⟩, flush0_23 _, by
      have h := ((cfg0.win 23).blk (⟨0, by decide⟩ : Fin cfg0.N)).view.emb_mem_set i; rwa [place23] at h⟩

theorem place24 (t : Fin cfg0.N) (j : S1x1024x384.Idx) : ((cfg0.win 24).blk t).view.emb j = j := by
  obtain ⟨e0, e1, e2⟩ := (by decide +kernel : ∀ t : Fin grid0.N, win0_24.index t (0 : Fin 3) = 0 ∧ win0_24.index t (1 : Fin 3) = 0 ∧ win0_24.index t (2 : Fin 3) = 0) t
  funext a; apply Fin.ext
  match a with
  | ⟨0, _⟩ => show win0_24.index t (0 : Fin 3) * 1 + 1 * (j 0).val = (j 0).val; omega
  | ⟨1, _⟩ => show win0_24.index t (1 : Fin 3) * 1024 + 1 * (j 1).val = (j 1).val; omega
  | ⟨2, _⟩ => show win0_24.index t (2 : Fin 3) * 384 + 1 * (j 2).val = (j 2).val; omega

theorem left24 (t : Fin cfg0.N) : (dats m 0 c).after 24 t = k0_pay2 (m ((c : Thread nD τ).loc main_arg0)) (m ((c : Thread nD τ).loc main_arg8)) := by
  rw [after0_24]
  unfold out0_24
  rw [View.canon_unit_zero zero3, View.ld_unit_zero (S := S1x1024x384) zero3 _ (iblk m c 0 t), View.ld_unit_zero (S := S1x1024x384) zero3 _ (iblk m c 8 t), input0, input8]

theorem final24 : (dats m 0 c).arrAt 24 cfg0.N = k0_pay2 (m ((c : Thread nD τ).loc main_arg0)) (m ((c : Thread nD τ).loc main_arg8)) :=
  (dats m 0 c).arrAt_eq_of_cover 24 _ (fun t _ => by
      show (cfg0.win 24).cut (grid0.coords t) ((dats m 0 c).after 24 t) = _
      rw [left24]
      funext j
      exact (congrArg _ (place24 t j)).symm)
    fun i => ⟨⟨0, by decide⟩, flush0_24 _, by
      have h := ((cfg0.win 24).blk (⟨0, by decide⟩ : Fin cfg0.N)).view.emb_mem_set i; rwa [place24] at h⟩

theorem place25 (t : Fin cfg0.N) (j : S1x1024.Idx) : ((cfg0.win 25).blk t).view.emb j = j := by
  obtain ⟨e0, e1⟩ := (by decide +kernel : ∀ t : Fin grid0.N, win0_25.index t (0 : Fin 2) = 0 ∧ win0_25.index t (1 : Fin 2) = 0) t
  funext a; apply Fin.ext
  match a with
  | ⟨0, _⟩ => show win0_25.index t (0 : Fin 2) * 1 + 1 * (j 0).val = (j 0).val; omega
  | ⟨1, _⟩ => show win0_25.index t (1 : Fin 2) * 1024 + 1 * (j 1).val = (j 1).val; omega

theorem left25 (t : Fin cfg0.N) : (dats m 0 c).after 25 t = k0_pay7 (m ((c : Thread nD τ).loc main_arg1)) (m ((c : Thread nD τ).loc main_arg9)) := by
  rw [after0_25]
  unfold out0_25
  rw [View.canon_unit_zero zero2, View.ld_unit_zero (S := S1x1024) zero2 _ (iblk m c 1 t), View.ld_unit_zero (S := S1x1024) zero2 _ (iblk m c 9 t), input1, input9]

theorem final25 : (dats m 0 c).arrAt 25 cfg0.N = k0_pay7 (m ((c : Thread nD τ).loc main_arg1)) (m ((c : Thread nD τ).loc main_arg9)) :=
  (dats m 0 c).arrAt_eq_of_cover 25 _ (fun t _ => by
      show (cfg0.win 25).cut (grid0.coords t) ((dats m 0 c).after 25 t) = _
      rw [left25]
      funext j
      exact (congrArg _ (place25 t j)).symm)
    fun i => ⟨⟨0, by decide⟩, flush0_25 _, by
      have h := ((cfg0.win 25).blk (⟨0, by decide⟩ : Fin cfg0.N)).view.emb_mem_set i; rwa [place25] at h⟩

theorem place26 (t : Fin cfg0.N) (j : S1x3072.Idx) : ((cfg0.win 26).blk t).view.emb j = j := by
  obtain ⟨e0, e1⟩ := (by decide +kernel : ∀ t : Fin grid0.N, win0_26.index t (0 : Fin 2) = 0 ∧ win0_26.index t (1 : Fin 2) = 0) t
  funext a; apply Fin.ext
  match a with
  | ⟨0, _⟩ => show win0_26.index t (0 : Fin 2) * 1 + 1 * (j 0).val = (j 0).val; omega
  | ⟨1, _⟩ => show win0_26.index t (1 : Fin 2) * 3072 + 1 * (j 1).val = (j 1).val; omega

theorem left26 (t : Fin cfg0.N) : (dats m 0 c).after 26 t = k0_pay11 (m ((c : Thread nD τ).loc main_arg2)) (m ((c : Thread nD τ).loc main_arg10)) := by
  rw [after0_26]
  unfold out0_26
  rw [View.canon_unit_zero zero2, View.ld_unit_zero (S := S1x3072) zero2 _ (iblk m c 2 t), View.ld_unit_zero (S := S1x3072) zero2 _ (iblk m c 10 t), input2, input10]

theorem final26 : (dats m 0 c).arrAt 26 cfg0.N = k0_pay11 (m ((c : Thread nD τ).loc main_arg2)) (m ((c : Thread nD τ).loc main_arg10)) :=
  (dats m 0 c).arrAt_eq_of_cover 26 _ (fun t _ => by
      show (cfg0.win 26).cut (grid0.coords t) ((dats m 0 c).after 26 t) = _
      rw [left26]
      funext j
      exact (congrArg _ (place26 t j)).symm)
    fun i => ⟨⟨0, by decide⟩, flush0_26 _, by
      have h := ((cfg0.win 26).blk (⟨0, by decide⟩ : Fin cfg0.N)).view.emb_mem_set i; rwa [place26] at h⟩

theorem place27 (t : Fin cfg0.N) (j : S1x1024.Idx) : ((cfg0.win 27).blk t).view.emb j = j := by
  obtain ⟨e0, e1⟩ := (by decide +kernel : ∀ t : Fin grid0.N, win0_27.index t (0 : Fin 2) = 0 ∧ win0_27.index t (1 : Fin 2) = 0) t
  funext a; apply Fin.ext
  match a with
  | ⟨0, _⟩ => show win0_27.index t (0 : Fin 2) * 1 + 1 * (j 0).val = (j 0).val; omega
  | ⟨1, _⟩ => show win0_27.index t (1 : Fin 2) * 1024 + 1 * (j 1).val = (j 1).val; omega

theorem left27 (t : Fin cfg0.N) : (dats m 0 c).after 27 t = k0_pay15 (m ((c : Thread nD τ).loc main_arg3)) (m ((c : Thread nD τ).loc main_arg11)) := by
  rw [after0_27]
  unfold out0_27
  rw [View.canon_unit_zero zero2, View.ld_unit_zero (S := S1x1024) zero2 _ (iblk m c 3 t), View.ld_unit_zero (S := S1x1024) zero2 _ (iblk m c 11 t), input3, input11]

theorem final27 : (dats m 0 c).arrAt 27 cfg0.N = k0_pay15 (m ((c : Thread nD τ).loc main_arg3)) (m ((c : Thread nD τ).loc main_arg11)) :=
  (dats m 0 c).arrAt_eq_of_cover 27 _ (fun t _ => by
      show (cfg0.win 27).cut (grid0.coords t) ((dats m 0 c).after 27 t) = _
      rw [left27]
      funext j
      exact (congrArg _ (place27 t j)).symm)
    fun i => ⟨⟨0, by decide⟩, flush0_27 _, by
      have h := ((cfg0.win 27).blk (⟨0, by decide⟩ : Fin cfg0.N)).view.emb_mem_set i; rwa [place27] at h⟩

theorem place28 (t : Fin cfg0.N) (j : S1x1024x384.Idx) : ((cfg0.win 28).blk t).view.emb j = j := by
  obtain ⟨e0, e1, e2⟩ := (by decide +kernel : ∀ t : Fin grid0.N, win0_28.index t (0 : Fin 3) = 0 ∧ win0_28.index t (1 : Fin 3) = 0 ∧ win0_28.index t (2 : Fin 3) = 0) t
  funext a; apply Fin.ext
  match a with
  | ⟨0, _⟩ => show win0_28.index t (0 : Fin 3) * 1 + 1 * (j 0).val = (j 0).val; omega
  | ⟨1, _⟩ => show win0_28.index t (1 : Fin 3) * 1024 + 1 * (j 1).val = (j 1).val; omega
  | ⟨2, _⟩ => show win0_28.index t (2 : Fin 3) * 384 + 1 * (j 2).val = (j 2).val; omega

theorem left28 (t : Fin cfg0.N) : (dats m 0 c).after 28 t = k0_pay3 (m ((c : Thread nD τ).loc main_arg0)) (m ((c : Thread nD τ).loc main_arg12)) := by
  rw [after0_28]
  unfold out0_28
  rw [View.canon_unit_zero zero3, View.ld_unit_zero (S := S1x1024x384) zero3 _ (iblk m c 0 t), View.ld_unit_zero (S := S1x1024x384) zero3 _ (iblk m c 12 t), input0, input12]

theorem final28 : (dats m 0 c).arrAt 28 cfg0.N = k0_pay3 (m ((c : Thread nD τ).loc main_arg0)) (m ((c : Thread nD τ).loc main_arg12)) :=
  (dats m 0 c).arrAt_eq_of_cover 28 _ (fun t _ => by
      show (cfg0.win 28).cut (grid0.coords t) ((dats m 0 c).after 28 t) = _
      rw [left28]
      funext j
      exact (congrArg _ (place28 t j)).symm)
    fun i => ⟨⟨0, by decide⟩, flush0_28 _, by
      have h := ((cfg0.win 28).blk (⟨0, by decide⟩ : Fin cfg0.N)).view.emb_mem_set i; rwa [place28] at h⟩

theorem place29 (t : Fin cfg0.N) (j : S1x1024.Idx) : ((cfg0.win 29).blk t).view.emb j = j := by
  obtain ⟨e0, e1⟩ := (by decide +kernel : ∀ t : Fin grid0.N, win0_29.index t (0 : Fin 2) = 0 ∧ win0_29.index t (1 : Fin 2) = 0) t
  funext a; apply Fin.ext
  match a with
  | ⟨0, _⟩ => show win0_29.index t (0 : Fin 2) * 1 + 1 * (j 0).val = (j 0).val; omega
  | ⟨1, _⟩ => show win0_29.index t (1 : Fin 2) * 1024 + 1 * (j 1).val = (j 1).val; omega

theorem left29 (t : Fin cfg0.N) : (dats m 0 c).after 29 t = k0_pay8 (m ((c : Thread nD τ).loc main_arg1)) (m ((c : Thread nD τ).loc main_arg13)) := by
  rw [after0_29]
  unfold out0_29
  rw [View.canon_unit_zero zero2, View.ld_unit_zero (S := S1x1024) zero2 _ (iblk m c 1 t), View.ld_unit_zero (S := S1x1024) zero2 _ (iblk m c 13 t), input1, input13]

theorem final29 : (dats m 0 c).arrAt 29 cfg0.N = k0_pay8 (m ((c : Thread nD τ).loc main_arg1)) (m ((c : Thread nD τ).loc main_arg13)) :=
  (dats m 0 c).arrAt_eq_of_cover 29 _ (fun t _ => by
      show (cfg0.win 29).cut (grid0.coords t) ((dats m 0 c).after 29 t) = _
      rw [left29]
      funext j
      exact (congrArg _ (place29 t j)).symm)
    fun i => ⟨⟨0, by decide⟩, flush0_29 _, by
      have h := ((cfg0.win 29).blk (⟨0, by decide⟩ : Fin cfg0.N)).view.emb_mem_set i; rwa [place29] at h⟩

theorem place30 (t : Fin cfg0.N) (j : S1x3072.Idx) : ((cfg0.win 30).blk t).view.emb j = j := by
  obtain ⟨e0, e1⟩ := (by decide +kernel : ∀ t : Fin grid0.N, win0_30.index t (0 : Fin 2) = 0 ∧ win0_30.index t (1 : Fin 2) = 0) t
  funext a; apply Fin.ext
  match a with
  | ⟨0, _⟩ => show win0_30.index t (0 : Fin 2) * 1 + 1 * (j 0).val = (j 0).val; omega
  | ⟨1, _⟩ => show win0_30.index t (1 : Fin 2) * 3072 + 1 * (j 1).val = (j 1).val; omega

theorem left30 (t : Fin cfg0.N) : (dats m 0 c).after 30 t = k0_pay12 (m ((c : Thread nD τ).loc main_arg2)) (m ((c : Thread nD τ).loc main_arg14)) := by
  rw [after0_30]
  unfold out0_30
  rw [View.canon_unit_zero zero2, View.ld_unit_zero (S := S1x3072) zero2 _ (iblk m c 2 t), View.ld_unit_zero (S := S1x3072) zero2 _ (iblk m c 14 t), input2, input14]

theorem final30 : (dats m 0 c).arrAt 30 cfg0.N = k0_pay12 (m ((c : Thread nD τ).loc main_arg2)) (m ((c : Thread nD τ).loc main_arg14)) :=
  (dats m 0 c).arrAt_eq_of_cover 30 _ (fun t _ => by
      show (cfg0.win 30).cut (grid0.coords t) ((dats m 0 c).after 30 t) = _
      rw [left30]
      funext j
      exact (congrArg _ (place30 t j)).symm)
    fun i => ⟨⟨0, by decide⟩, flush0_30 _, by
      have h := ((cfg0.win 30).blk (⟨0, by decide⟩ : Fin cfg0.N)).view.emb_mem_set i; rwa [place30] at h⟩

theorem place31 (t : Fin cfg0.N) (j : S1x1024.Idx) : ((cfg0.win 31).blk t).view.emb j = j := by
  obtain ⟨e0, e1⟩ := (by decide +kernel : ∀ t : Fin grid0.N, win0_31.index t (0 : Fin 2) = 0 ∧ win0_31.index t (1 : Fin 2) = 0) t
  funext a; apply Fin.ext
  match a with
  | ⟨0, _⟩ => show win0_31.index t (0 : Fin 2) * 1 + 1 * (j 0).val = (j 0).val; omega
  | ⟨1, _⟩ => show win0_31.index t (1 : Fin 2) * 1024 + 1 * (j 1).val = (j 1).val; omega

theorem left31 (t : Fin cfg0.N) : (dats m 0 c).after 31 t = k0_pay16 (m ((c : Thread nD τ).loc main_arg3)) (m ((c : Thread nD τ).loc main_arg15)) := by
  rw [after0_31]
  unfold out0_31
  rw [View.canon_unit_zero zero2, View.ld_unit_zero (S := S1x1024) zero2 _ (iblk m c 3 t), View.ld_unit_zero (S := S1x1024) zero2 _ (iblk m c 15 t), input3, input15]

theorem final31 : (dats m 0 c).arrAt 31 cfg0.N = k0_pay16 (m ((c : Thread nD τ).loc main_arg3)) (m ((c : Thread nD τ).loc main_arg15)) :=
  (dats m 0 c).arrAt_eq_of_cover 31 _ (fun t _ => by
      show (cfg0.win 31).cut (grid0.coords t) ((dats m 0 c).after 31 t) = _
      rw [left31]
      funext j
      exact (congrArg _ (place31 t j)).symm)
    fun i => ⟨⟨0, by decide⟩, flush0_31 _, by
      have h := ((cfg0.win 31).blk (⟨0, by decide⟩ : Fin cfg0.N)).view.emb_mem_set i; rwa [place31] at h⟩

end Cert.ModValue

end
-- ==== Proof.ModClaim.lean ====
/-
  The claims of the optimiser call of the modulation's weight, bias and context vector and of the input norm's gain: the frames,
  the two named constants, and the value claim.
-/
module

public import proofs.«01_k».proof.Defs
public import proofs.«01_k».proof.Proof.PartMod
public import proofs.«01_k».proof.Proof.ModValue
public import proofs.«01_k».proof.Proof.Gen.Mod
public import proofs.«01_k».proof.Proof.Gen.ModIdeal
public import proofs.«01_k».proof.Proof.Gen.ModReferenceIdeal
public import proofs.«01_k».proof.Proof.Gen.ModReferenceIdeal.Run

@[expose] public section

noncomputable section

namespace Cert.ModClaim

open Idealize.ShloMosaic Idealize.SL.Sem Idealize.ShloMosaic.StableHlo

/-- At machine floats a named constant is read as its word. -/
@[reducible] def word : Named Bits := ⟨fun _ _ φ bits => Scalar.ofBits φ bits⟩

attribute [local instance] word

/-- At machine floats a named constant is the machine word, so that the two programs have one table of bodies. -/
theorem tables_eq : Cert.Mod.defs (F := Bits) = Cert.ModIdeal.defs (F := Bits) := by sl_kernel_rfl

set_option maxHeartbeats 8000000 in
/-- The call at machine floats: it ends with its arguments unchanged and its counters at zero. -/
theorem frame_kernel : Cert.quiescent_Mod := by
  intro m ρ _
  rw [tables_eq]
  exact Cert.ModIdeal.Gen.frame (F := Bits) m ρ

theorem frame_ideal : Cert.quiescent_ModIdeal := fun m ρ _ => Cert.ModIdeal.Gen.frame m ρ

theorem frame_reference : Cert.quiescent_ModReferenceIdeal := fun m ρ _ =>
  (θ_run Cert.ModReferenceIdeal.defs _ _).mono
    (fun r h => ⟨fun c => (h c).2.2.2.2.2.2.2.2.2.2.2.2, sem_eq_zero_of_no_sems (by decide) r.2⟩)
    (Cert.ModReferenceIdeal.Value.run (F := Ideal) m ρ)

/-- The two named reciprocals are the machine words' values up to rounding. -/
theorem preserves : Cert.preserves_Mod_ModIdeal :=
  ⟨IdealRules.named_const.statement Cert.ModIdeal.κ "c1" .f32 0x3FC48605#32 ((8388608 / 5463681 : ℝ) : EReal) rfl,
    IdealRules.named_const.statement Cert.ModIdeal.κ "c2" .f32 0x42C8E6D3#32 ((268435456 / 2672307 : ℝ) : EReal) rfl⟩

set_option maxHeartbeats 8000000 in
open Cert.ModReferenceIdeal.Read Cert.PartMod Cert.ModValue in
theorem algebraic : Cert.algebraic_ModIdeal_ModReferenceIdeal := by
  intro m g m' g' _ hag
  refine ⟨fun c => _, fun c => _, fun c => _, fun c => _, fun c => _, fun c => _, fun c => _, fun c => _, fun c => _, fun c => _, fun c => _, fun c => _,
    (θ_run _ _ _).mono (fun r h c => ⟨((h.1 c).1 20).trans ((final20 m c).trans (delta_wm _ _ _ _)),
        ((h.1 c).1 21).trans ((final21 m c).trans (delta_ng _ _ _ _)),
        ((h.1 c).1 22).trans ((final22 m c).trans (delta_bm _ _ _ _)),
        ((h.1 c).1 23).trans ((final23 m c).trans (delta_cc _ _ _ _)),
        ((h.1 c).1 24).trans ((final24 m c).trans (first_wm _ _)),
        ((h.1 c).1 25).trans ((final25 m c).trans (first_ng _ _)),
        ((h.1 c).1 26).trans ((final26 m c).trans (first_bm _ _)),
        ((h.1 c).1 27).trans ((final27 m c).trans (first_cc _ _)),
        ((h.1 c).1 28).trans ((final28 m c).trans (second_wm _ _)),
        ((h.1 c).1 29).trans ((final29 m c).trans (second_ng _ _)),
        ((h.1 c).1 30).trans ((final30 m c).trans (second_bm _ _)),
        ((h.1 c).1 31).trans ((final31 m c).trans (second_cc _ _)), h.2.1 c⟩)
      (θ_run_and (Cert.ModIdeal.Gen.run_main m g) (Cert.ModIdeal.Gen.frame m g)),
    (θ_run _ _ _).mono (fun r h c => ?_) (Cert.ModReferenceIdeal.Value.run (F := Ideal) m' g')⟩
  obtain ⟨e0, e1, e2, e3, e4, e5, e6, e7, e8, e9, e10, e11, e12, e13, e14, e15⟩ := hag c
  refine ⟨(h c).1.trans ((val_main_v23_eq _ _ _ _).trans ?_),
    (h c).2.1.trans ((val_main_v47_eq _ _ _ _).trans ?_),
    (h c).2.2.1.trans ((val_main_v71_eq _ _ _ _).trans ?_),
    (h c).2.2.2.1.trans ((val_main_v95_eq _ _ _ _).trans ?_),
    (h c).2.2.2.2.1.trans ((val_main_v4_eq _ _).trans ?_),
    (h c).2.2.2.2.2.1.trans ((val_main_v28_eq _ _).trans ?_),
    (h c).2.2.2.2.2.2.1.trans ((val_main_v52_eq _ _).trans ?_),
    (h c).2.2.2.2.2.2.2.1.trans ((val_main_v76_eq _ _).trans ?_),
    (h c).2.2.2.2.2.2.2.2.1.trans ((val_main_v10_eq _ _).trans ?_),
    (h c).2.2.2.2.2.2.2.2.2.1.trans ((val_main_v34_eq _ _).trans ?_),
    (h c).2.2.2.2.2.2.2.2.2.2.1.trans ((val_main_v58_eq _ _).trans ?_),
    (h c).2.2.2.2.2.2.2.2.2.2.2.1.trans ((val_main_v82_eq _ _).trans ?_), (h c).2.2.2.2.2.2.2.2.2.2.2.2⟩
  · rw [e0, e4, e8, e12]
  · rw [e1, e5, e9, e13]
  · rw [e2, e6, e10, e14]
  · rw [e3, e7, e11, e15]
  · rw [e0, e8]
  · rw [e1, e9]
  · rw [e2, e10]
  · rw [e3, e11]
  · rw [e0, e12]
  · rw [e1, e13]
  · rw [e2, e14]
  · rw [e3, e15]

end Cert.ModClaim

end
-- ==== Proof.lean ====
/-
  The certificate of the middle of the training step, of its two input projections and of two optimiser calls. Both frames of
  the middle come from one run of its pipeline (Proof/Run.lean); its value claim compares the twelve arrays that run leaves
  (Proof/Value.lean) with the twelve results of the reference (Proof/Ref.lean), both read as the same real functions of the
  arguments (Proof/Spec.lean). The claims of the other four calls are in PartIn.lean, PartBack.lean,
  ProjClaim.lean and ModClaim.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.In.Frame
public import proofs.«01_k».proof.Proof.Gen.InIdeal.Frame
public import proofs.«01_k».proof.Proof.Gen.InIdeal.Value
public import proofs.«01_k».proof.Proof.Gen.InReferenceIdeal.Run
public import proofs.«01_k».proof.Proof.Gen.InReferenceIdeal.Read
public import proofs.«01_k».proof.Proof.Gen.In
public import proofs.«01_k».proof.Proof.Gen.InIdeal
public import proofs.«01_k».proof.Proof.Gen.InReferenceIdeal
public import proofs.«01_k».proof.Proof.Gen.Back.Frame
public import proofs.«01_k».proof.Proof.Gen.BackIdeal.Frame
public import proofs.«01_k».proof.Proof.Gen.BackIdeal.Value
public import proofs.«01_k».proof.Proof.Gen.BackReferenceIdeal.Run
public import proofs.«01_k».proof.Proof.Gen.BackReferenceIdeal.Read
public import proofs.«01_k».proof.Proof.Gen.Back
public import proofs.«01_k».proof.Proof.Gen.BackIdeal
public import proofs.«01_k».proof.Proof.Gen.BackReferenceIdeal
public import proofs.«01_k».proof.Proof.Gen.Proj.Frame
public import proofs.«01_k».proof.Proof.Gen.ProjIdeal.Frame
public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.Gen.Proj
public import proofs.«01_k».proof.Proof.Gen.ProjIdeal
public import proofs.«01_k».proof.Proof.Gen.ProjReferenceIdeal
public import proofs.«01_k».proof.Proof.Gen.ModReferenceIdeal.Run
public import proofs.«01_k».proof.Proof.Gen.ModReferenceIdeal.Read
public import proofs.«01_k».proof.Proof.Gen.Mod
public import proofs.«01_k».proof.Proof.Gen.ModIdeal
public import proofs.«01_k».proof.Proof.Gen.ModReferenceIdeal
public import proofs.«01_k».proof.Proof.Gen.Pre_finite_back
public import proofs.«01_k».proof.Proof.Pre
public import proofs.«01_k».proof.Proof.Run
public import proofs.«01_k».proof.Proof.Value
public import Idealize.ShloMosaic.Lib.Ring
public import Idealize.ShloMosaic.Adequacy
public import Idealize.ShloMosaic.Init
public import proofs.«01_k».proof.Proof.PartIn
public import proofs.«01_k».proof.Proof.PartBack
public import proofs.«01_k».proof.Proof.ProjClaim
public import proofs.«01_k».proof.Proof.ModClaim

@[expose] public section

noncomputable section

namespace Cert.Proof

open Idealize.ShloMosaic Idealize.SL.Sem Idealize.ShloMosaic.StableHlo

/-- The kernel printed for machine floats and the one printed for real numbers have the same text. -/
theorem tables_eq : Cert.Kernel.defs (F := Bits) = Cert.KernelIdeal.defs (F := Bits) := by sl_kernel_rfl

set_option maxHeartbeats 8000000 in
/-- The kernel at machine floats: it ends with its arguments unchanged and its counters at zero. -/
theorem frame_kernel : Cert.quiescent_Kernel := by
  intro m ρ _
  rw [tables_eq]
  exact Run.frame (F := Bits) m ρ

/-- The same at real numbers. -/
theorem frame_ideal : Cert.quiescent_KernelIdeal := fun m ρ _ => Run.frame (F := Ideal) m ρ

/-- The reference ends with its arguments unchanged; it has no counters. -/
theorem frame_reference : Cert.quiescent_ReferenceIdeal := fun m ρ _ =>
  (θ_run Cert.ReferenceIdeal.defs _ _).mono
    (fun r h => ⟨fun c => (h c).2.2.2.2.2.2.2.2.2.2.2.2, sem_eq_zero_of_no_sems (by decide) r.2⟩)
    (Cert.ReferenceIdeal.Value.run (F := Ideal) m ρ)

section Value

open Cert.ReferenceIdeal Cert.ReferenceIdeal.Read

/-- A function of the kernel's twelve arguments on one device. -/
abbrev arg (m : (ℓ : Loc Cert.KernelIdeal.nD Cert.KernelIdeal.τ Cert.KernelIdeal.sig) → Buf (Elt Ideal) ℓ)
    (c : Dev Cert.KernelIdeal.nD) {β : Type} (f : FVec Ideal S8192x1024 .f32 → FVec Ideal S8192x1024 .f32 → FVec Ideal S8192x5248 .bf16 → FVec Ideal S8192x512 .bf16 → FVec Ideal S8192x512 .bf16 → FVec Ideal S8192x512 .bf16 → FVec Ideal S1x1024 .f32 → FVec Ideal S1x1024 .f32 → FVec Ideal S1x512 .f32 → FVec Ideal S512x1024 .bf16 → FVec Ideal S512x1024 .bf16 → FVec Ideal S1024x1024 .bf16 → β) : β :=
  f (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))

/-- Where the two programs hold the same arguments, a function of the arguments has one value. -/
theorem same {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
      m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
      m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
      m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
      m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
      m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
      m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
      m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
      m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
      m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
      m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧
      m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) {β : Type}
    (f : FVec Ideal S8192x1024 .f32 → FVec Ideal S8192x1024 .f32 → FVec Ideal S8192x5248 .bf16 → FVec Ideal S8192x512 .bf16 → FVec Ideal S8192x512 .bf16 → FVec Ideal S8192x512 .bf16 → FVec Ideal S1x1024 .f32 → FVec Ideal S1x1024 .f32 → FVec Ideal S1x512 .f32 → FVec Ideal S512x1024 .bf16 → FVec Ideal S512x1024 .bf16 → FVec Ideal S1024x1024 .bf16 → β) :
    f (launchContents m' c (Proc.devRef .tc Cert.ReferenceIdeal.main_arg0))
      (launchContents m' c (Proc.devRef .tc Cert.ReferenceIdeal.main_arg1))
      (launchContents m' c (Proc.devRef .tc Cert.ReferenceIdeal.main_arg2))
      (launchContents m' c (Proc.devRef .tc Cert.ReferenceIdeal.main_arg3))
      (launchContents m' c (Proc.devRef .tc Cert.ReferenceIdeal.main_arg4))
      (launchContents m' c (Proc.devRef .tc Cert.ReferenceIdeal.main_arg5))
      (launchContents m' c (Proc.devRef .tc Cert.ReferenceIdeal.main_arg6))
      (launchContents m' c (Proc.devRef .tc Cert.ReferenceIdeal.main_arg7))
      (launchContents m' c (Proc.devRef .tc Cert.ReferenceIdeal.main_arg8))
      (launchContents m' c (Proc.devRef .tc Cert.ReferenceIdeal.main_arg9))
      (launchContents m' c (Proc.devRef .tc Cert.ReferenceIdeal.main_arg10))
      (launchContents m' c (Proc.devRef .tc Cert.ReferenceIdeal.main_arg11)) =
    arg m c f := by
  unfold arg
  obtain ⟨e0, e1, e2, e3, e4, e5, e6, e7, e8, e9, e10, e11⟩ := h
  change f (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) = _
  rw [e0, e1, e2, e3, e4, e5, e6, e7, e8, e9, e10, e11]

set_option maxHeartbeats 8000000 in
/-- At finite arguments the kernel and the reference leave the same twelve results. -/
theorem algebraic : Cert.algebraic_KernelIdeal_ReferenceIdeal_pre_finite := by
  intro m g m' g' hpre hag
  have H (c : Dev Cert.KernelIdeal.nD) : Blocks.Args m c (arg m c fun _ _ _ _ _ _ x6 x7 x8 x9 x10 x11 => Pre.par x6 x7 x8 x9 x10 x11)
      (arg m c fun x0 x1 x2 x3 x4 x5 _ _ _ _ _ _ => Pre.row x0 x1 x2 x3 x4 x5) := by
    obtain ⟨p0, p1, p2, p3, p4, p5, p6, p7, p8, p9, p10, p11, p12⟩ := hpre c
    exact Pre.ins ⟨p0, p1, p2, p3, p4, p5, p6, p7, p8, p9, p10, p11, p12⟩
  refine ⟨fun c => arg m c (val_main_v112 (F := Ideal)),
    fun c => arg m c (val_main_v165 (F := Ideal)),
    fun c => arg m c (val_main_v167 (F := Ideal)),
    fun c => arg m c (val_main_v168 (F := Ideal)),
    fun c => arg m c (val_main_v169 (F := Ideal)),
    fun c => arg m c (val_main_v170 (F := Ideal)),
    fun c => arg m c (val_main_v171 (F := Ideal)),
    fun c => arg m c (val_main_v172 (F := Ideal)),
    fun c => arg m c (val_main_v96 (F := Ideal)),
    fun c => arg m c (val_main_v117 (F := Ideal)),
    fun c => arg m c (val_main_v148 (F := Ideal)),
    fun c => arg m c (val_main_v173 (F := Ideal)), ?_, ?_⟩
  · refine (θ_run _ _ _).mono (fun r h => ?_) (θ_run_and (Run.run_main m g) (Run.frame m g))
    exact fun c => ⟨((h.1 c).1 16).trans (Value.final16 m c (H c) (Ref.r112 (H c))),
      ((h.1 c).1 17).trans (Value.final17 m c (H c) (Ref.r165 (H c))),
      ((h.1 c).1 18).trans (Value.final18 m c (H c) (Ref.r167 (H c))),
      ((h.1 c).1 19).trans (Value.final19 m c (H c) (Ref.r168 (H c))),
      ((h.1 c).1 20).trans (Value.final20 m c (H c) (Ref.r169 (H c))),
      ((h.1 c).1 21).trans (Value.final21 m c (H c) (Ref.r170 (H c))),
      ((h.1 c).1 22).trans (Value.final22 m c (H c) (Ref.r171 (H c))),
      ((h.1 c).1 23).trans (Value.final23 m c (H c) (Ref.r172 (H c))),
      ((h.1 c).1 24).trans (Value.final24 m c (H c) (Ref.r96 (H c))),
      ((h.1 c).1 25).trans (Value.final25 m c (H c) (Ref.r117 (H c))),
      ((h.1 c).1 26).trans (Value.final26 m c (H c) (Ref.r148 (H c))),
      ((h.1 c).1 27).trans (Value.final27 m c (H c) (Ref.r173 (H c))),
      h.2.1 c⟩
  · refine (θ_run _ _ _).mono (fun r h => ?_) (Cert.ReferenceIdeal.Value.run (F := Ideal) m' g')
    exact fun c => ⟨(h c).1.trans ((val_main_v112_eq _).trans (same (hag c) (val_main_v112 (F := Ideal)))),
      (h c).2.1.trans ((val_main_v165_eq _).trans (same (hag c) (val_main_v165 (F := Ideal)))),
      (h c).2.2.1.trans ((val_main_v167_eq _).trans (same (hag c) (val_main_v167 (F := Ideal)))),
      (h c).2.2.2.1.trans ((val_main_v168_eq _).trans (same (hag c) (val_main_v168 (F := Ideal)))),
      (h c).2.2.2.2.1.trans ((val_main_v169_eq _).trans (same (hag c) (val_main_v169 (F := Ideal)))),
      (h c).2.2.2.2.2.1.trans ((val_main_v170_eq _).trans (same (hag c) (val_main_v170 (F := Ideal)))),
      (h c).2.2.2.2.2.2.1.trans ((val_main_v171_eq _).trans (same (hag c) (val_main_v171 (F := Ideal)))),
      (h c).2.2.2.2.2.2.2.1.trans ((val_main_v172_eq _).trans (same (hag c) (val_main_v172 (F := Ideal)))),
      (h c).2.2.2.2.2.2.2.2.1.trans ((val_main_v96_eq _).trans (same (hag c) (val_main_v96 (F := Ideal)))),
      (h c).2.2.2.2.2.2.2.2.2.1.trans ((val_main_v117_eq _).trans (same (hag c) (val_main_v117 (F := Ideal)))),
      (h c).2.2.2.2.2.2.2.2.2.2.1.trans ((val_main_v148_eq _).trans (same (hag c) (val_main_v148 (F := Ideal)))),
      (h c).2.2.2.2.2.2.2.2.2.2.2.1.trans ((val_main_v173_eq _).trans (same (hag c) (val_main_v173 (F := Ideal)))),
      (h c).2.2.2.2.2.2.2.2.2.2.2.2⟩

end Value

theorem claim : Cert.Claim :=
  ⟨Cert.Kernel.Gen.facts, Cert.KernelIdeal.Gen.facts, Cert.ReferenceIdeal.Gen.facts,
    Cert.In.Gen.facts, Cert.InIdeal.Gen.facts, Cert.InReferenceIdeal.Gen.facts,
    Cert.Back.Gen.facts, Cert.BackIdeal.Gen.facts, Cert.BackReferenceIdeal.Gen.facts,
    Cert.Proj.Gen.facts, Cert.ProjIdeal.Gen.facts, Cert.ProjReferenceIdeal.Gen.facts,
    Cert.Mod.Gen.facts, Cert.ModIdeal.Gen.facts, Cert.ModReferenceIdeal.Gen.facts,
    Cert.Pre_finite.Gen.facts, Cert.Pre_finite_back.Gen.facts,
    frame_kernel, frame_ideal, fun m ρ _ => frame_ideal m ρ trivial, frame_reference, fun m ρ _ => frame_reference m ρ trivial,
    PartIn.frame_kernel, PartIn.frame_ideal, PartIn.frame_reference,
    PartBack.frame_kernel, PartBack.frame_ideal, fun m ρ _ => PartBack.frame_ideal m ρ trivial,
    PartBack.frame_reference, fun m ρ _ => PartBack.frame_reference m ρ trivial,
    ProjClaim.frame_kernel, ProjClaim.frame_ideal, ProjClaim.frame_reference,
    ModClaim.frame_kernel, ModClaim.frame_ideal, ModClaim.frame_reference,
    trivial, algebraic, trivial, PartIn.algebraic, trivial, PartBack.algebraic, ProjClaim.preserves, ProjClaim.algebraic,
    ModClaim.preserves, ModClaim.algebraic⟩

end Cert.Proof

end
